-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![8192, 768]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x768 : Shape := ⟨2, ![512, 768]⟩
abbrev S768x512 : Shape := ⟨2, ![768, 512]⟩
abbrev S768x16x128 : Shape := ⟨3, ![768, 16, 128]⟩
abbrev S512x512 : Shape := ⟨2, ![512, 512]⟩
abbrev S16 : Shape := ⟨1, ![16]⟩
abbrev S768x1x128 : Shape := ⟨3, ![768, 1, 128]⟩
abbrev S768x128 : Shape := ⟨2, ![768, 128]⟩
abbrev S256x768 : Shape := ⟨2, ![256, 768]⟩
abbrev S256x512 : Shape := ⟨2, ![256, 512]⟩
abbrev S256x128 : Shape := ⟨2, ![256, 128]⟩
abbrev S256x64 : Shape := ⟨2, ![256, 64]⟩
abbrev S1024x64 : Shape := ⟨2, ![1024, 64]⟩
abbrev S1024x256 : Shape := ⟨2, ![1024, 256]⟩
abbrev S1024 : Shape := ⟨1, ![1024]⟩
abbrev S1024x1 : Shape := ⟨2, ![1024, 1]⟩
abbrev S_ : Shape := ⟨0, ![]⟩
abbrev S1 : Shape := ⟨1, ![1]⟩
abbrev S32x768 : Shape := ⟨2, ![32, 768]⟩

abbrev nBuf : Space → Nat
  | .hbm => 6
  | .vmem => 11
  | .smem => 0
  | _ => 0

abbrev bufTy : (tb : Table) → Fin (tcTables nBuf tb) → BufTy
  | .hbm, ⟨0, _⟩ => ⟨S512x768, .f32⟩
  | .hbm, ⟨1, _⟩ => ⟨S768x512, .f32⟩
  | .hbm, ⟨2, _⟩ => ⟨S768x16x128, .f32⟩
  | .hbm, ⟨3, _⟩ => ⟨S768x16x128, .f32⟩
  | .hbm, ⟨4, _⟩ => ⟨S512x768, .f32⟩
  | .hbm, ⟨5, _⟩ => ⟨S512x768, .f32⟩
  | .local _ .vmem, ⟨0, _⟩ => ⟨S512x768, .f32⟩
  | .local _ .vmem, ⟨1, _⟩ => ⟨S768x512, .f32⟩
  | .local _ .vmem, ⟨2, _⟩ => ⟨S512x768, .f32⟩
  | .local _ .vmem, ⟨3, _⟩ => ⟨S768x16x128, .f32⟩
  | .local _ .vmem, ⟨4, _⟩ => ⟨S768x16x128, .f32⟩
  | .local _ .vmem, ⟨5, _⟩ => ⟨S512x768, .f32⟩
  | .local _ .vmem, ⟨6, _⟩ => ⟨S512x512, .f32⟩
  | .local _ .vmem, ⟨7, _⟩ => ⟨S512x768, .f32⟩
  | .local _ .vmem, ⟨8, _⟩ => ⟨S512x768, .bf16⟩
  | .local _ .vmem, ⟨9, _⟩ => ⟨S512x768, .bf16⟩
  | .local _ .vmem, ⟨10, _⟩ => ⟨S512x768, .bf16⟩
  | _, _ => ⟨S512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_off1 (d0 : Dev nD) : Fin 3 → Nat :=
  let c0_3 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v9 : Index := Scalar.indexCast v2
  let c0_4 : Index := 0#32
  ![0, v9.toNat, 0]
def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_10 : BitVec 32 := 1#32
  let v25 : BitVec 32 := Scalar.addi v2 c1_i32_10
  let c16_i32_11 : BitVec 32 := 16#32
  let c0_i32_12 : BitVec 32 := 0#32
  let v26 : BitVec 1 := Scalar.cmpi .eq c16_i32_11 c0_i32_12
  let c1_i32_13 : BitVec 32 := 1#32
  let v27 : BitVec 32 := Scalar.select v26 c1_i32_13 c16_i32_11
  let v28 : BitVec 32 := Scalar.remsi v25 v27
  let c0_i32_15 : BitVec 32 := 0#32
  let v30 : BitVec 1 := Scalar.cmpi .slt v28 c0_i32_15
  let c0_i32_16 : BitVec 32 := 0#32
  let v31 : BitVec 1 := Scalar.cmpi .slt v27 c0_i32_16
  let v32 : BitVec 1 := Scalar.xori v30 v31
  let c0_i32_14 : BitVec 32 := 0#32
  let v29 : BitVec 1 := Scalar.cmpi .ne v28 c0_i32_14
  let v33 : BitVec 1 := Scalar.andi v32 v29
  let v34 : BitVec 32 := Scalar.addi v28 v27
  let v35 : BitVec 32 := Scalar.select v33 v34 v28
  let c1_i32_18 : BitVec 32 := 1#32
  let v36 : BitVec 32 := Scalar.muli v35 c1_i32_18
  let v37 : BitVec 32 := Scalar.addi c0_i32_19 v36
  v37.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v38 : BitVec 32 := Scalar.addi v2 c2_i32
  let c16_i32_20 : BitVec 32 := 16#32
  let c0_i32_21 : BitVec 32 := 0#32
  let v39 : BitVec 1 := Scalar.cmpi .eq c16_i32_20 c0_i32_21
  let c1_i32_22 : BitVec 32 := 1#32
  let v40 : BitVec 32 := Scalar.select v39 c1_i32_22 c16_i32_20
  let v41 : BitVec 32 := Scalar.remsi v38 v40
  let c0_i32_24 : BitVec 32 := 0#32
  let v43 : BitVec 1 := Scalar.cmpi .slt v41 c0_i32_24
  let c0_i32_25 : BitVec 32 := 0#32
  let v44 : BitVec 1 := Scalar.cmpi .slt v40 c0_i32_25
  let v45 : BitVec 1 := Scalar.xori v43 v44
  let c0_i32_23 : BitVec 32 := 0#32
  let v42 : BitVec 1 := Scalar.cmpi .ne v41 c0_i32_23
  let v46 : BitVec 1 := Scalar.andi v45 v42
  let v47 : BitVec 32 := Scalar.addi v41 v40
  let v48 : BitVec 32 := Scalar.select v46 v47 v41
  let c1_i32_27 : BitVec 32 := 1#32
  let v49 : BitVec 32 := Scalar.muli v48 c1_i32_27
  let v50 : BitVec 32 := Scalar.addi c0_i32_28 v49
  v50.toNat
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v51 : BitVec 32 := Scalar.addi v2 c3_i32
  let c16_i32_29 : BitVec 32 := 16#32
  let c0_i32_30 : BitVec 32 := 0#32
  let v52 : BitVec 1 := Scalar.cmpi .eq c16_i32_29 c0_i32_30
  let c1_i32_31 : BitVec 32 := 1#32
  let v53 : BitVec 32 := Scalar.select v52 c1_i32_31 c16_i32_29
  let v54 : BitVec 32 := Scalar.remsi v51 v53
  let c0_i32_33 : BitVec 32 := 0#32
  let v56 : BitVec 1 := Scalar.cmpi .slt v54 c0_i32_33
  let c0_i32_34 : BitVec 32 := 0#32
  let v57 : BitVec 1 := Scalar.cmpi .slt v53 c0_i32_34
  let v58 : BitVec 1 := Scalar.xori v56 v57
  let c0_i32_32 : BitVec 32 := 0#32
  let v55 : BitVec 1 := Scalar.cmpi .ne v54 c0_i32_32
  let v59 : BitVec 1 := Scalar.andi v58 v55
  let v60 : BitVec 32 := Scalar.addi v54 v53
  let v61 : BitVec 32 := Scalar.select v59 v60 v54
  let c1_i32_36 : BitVec 32 := 1#32
  let v62 : BitVec 32 := Scalar.muli v61 c1_i32_36
  let v63 : BitVec 32 := Scalar.addi c0_i32_37 v62
  v63.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v64 : BitVec 32 := Scalar.addi v2 c4_i32
  let c16_i32_38 : BitVec 32 := 16#32
  let c0_i32_39 : BitVec 32 := 0#32
  let v65 : BitVec 1 := Scalar.cmpi .eq c16_i32_38 c0_i32_39
  let c1_i32_40 : BitVec 32 := 1#32
  let v66 : BitVec 32 := Scalar.select v65 c1_i32_40 c16_i32_38
  let v67 : BitVec 32 := Scalar.remsi v64 v66
  let c0_i32_42 : BitVec 32 := 0#32
  let v69 : BitVec 1 := Scalar.cmpi .slt v67 c0_i32_42
  let c0_i32_43 : BitVec 32 := 0#32
  let v70 : BitVec 1 := Scalar.cmpi .slt v66 c0_i32_43
  let v71 : BitVec 1 := Scalar.xori v69 v70
  let c0_i32_41 : BitVec 32 := 0#32
  let v68 : BitVec 1 := Scalar.cmpi .ne v67 c0_i32_41
  let v72 : BitVec 1 := Scalar.andi v71 v68
  let v73 : BitVec 32 := Scalar.addi v67 v66
  let v74 : BitVec 32 := Scalar.select v72 v73 v67
  let c1_i32_45 : BitVec 32 := 1#32
  let v75 : BitVec 32 := Scalar.muli v74 c1_i32_45
  let v76 : BitVec 32 := Scalar.addi c0_i32_46 v75
  v76.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v77 : BitVec 32 := Scalar.addi v2 c5_i32
  let c16_i32_47 : BitVec 32 := 16#32
  let c0_i32_48 : BitVec 32 := 0#32
  let v78 : BitVec 1 := Scalar.cmpi .eq c16_i32_47 c0_i32_48
  let c1_i32_49 : BitVec 32 := 1#32
  let v79 : BitVec 32 := Scalar.select v78 c1_i32_49 c16_i32_47
  let v80 : BitVec 32 := Scalar.remsi v77 v79
  let c0_i32_51 : BitVec 32 := 0#32
  let v82 : BitVec 1 := Scalar.cmpi .slt v80 c0_i32_51
  let c0_i32_52 : BitVec 32 := 0#32
  let v83 : BitVec 1 := Scalar.cmpi .slt v79 c0_i32_52
  let v84 : BitVec 1 := Scalar.xori v82 v83
  let c0_i32_50 : BitVec 32 := 0#32
  let v81 : BitVec 1 := Scalar.cmpi .ne v80 c0_i32_50
  let v85 : BitVec 1 := Scalar.andi v84 v81
  let v86 : BitVec 32 := Scalar.addi v80 v79
  let v87 : BitVec 32 := Scalar.select v85 v86 v80
  let c1_i32_54 : BitVec 32 := 1#32
  let v88 : BitVec 32 := Scalar.muli v87 c1_i32_54
  let v89 : BitVec 32 := Scalar.addi c0_i32_55 v88
  v89.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v90 : BitVec 32 := Scalar.addi v2 c6_i32
  let c16_i32_56 : BitVec 32 := 16#32
  let c0_i32_57 : BitVec 32 := 0#32
  let v91 : BitVec 1 := Scalar.cmpi .eq c16_i32_56 c0_i32_57
  let c1_i32_58 : BitVec 32 := 1#32
  let v92 : BitVec 32 := Scalar.select v91 c1_i32_58 c16_i32_56
  let v93 : BitVec 32 := Scalar.remsi v90 v92
  let c0_i32_60 : BitVec 32 := 0#32
  let v95 : BitVec 1 := Scalar.cmpi .slt v93 c0_i32_60
  let c0_i32_61 : BitVec 32 := 0#32
  let v96 : BitVec 1 := Scalar.cmpi .slt v92 c0_i32_61
  let v97 : BitVec 1 := Scalar.xori v95 v96
  let c0_i32_59 : BitVec 32 := 0#32
  let v94 : BitVec 1 := Scalar.cmpi .ne v93 c0_i32_59
  let v98 : BitVec 1 := Scalar.andi v97 v94
  let v99 : BitVec 32 := Scalar.addi v93 v92
  let v100 : BitVec 32 := Scalar.select v98 v99 v93
  let c1_i32_63 : BitVec 32 := 1#32
  let v101 : BitVec 32 := Scalar.muli v100 c1_i32_63
  let v102 : BitVec 32 := Scalar.addi c0_i32_64 v101
  v102.toNat
def k0_dev7 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v103 : BitVec 32 := Scalar.addi v2 c7_i32
  let c16_i32_65 : BitVec 32 := 16#32
  let c0_i32_66 : BitVec 32 := 0#32
  let v104 : BitVec 1 := Scalar.cmpi .eq c16_i32_65 c0_i32_66
  let c1_i32_67 : BitVec 32 := 1#32
  let v105 : BitVec 32 := Scalar.select v104 c1_i32_67 c16_i32_65
  let v106 : BitVec 32 := Scalar.remsi v103 v105
  let c0_i32_69 : BitVec 32 := 0#32
  let v108 : BitVec 1 := Scalar.cmpi .slt v106 c0_i32_69
  let c0_i32_70 : BitVec 32 := 0#32
  let v109 : BitVec 1 := Scalar.cmpi .slt v105 c0_i32_70
  let v110 : BitVec 1 := Scalar.xori v108 v109
  let c0_i32_68 : BitVec 32 := 0#32
  let v107 : BitVec 1 := Scalar.cmpi .ne v106 c0_i32_68
  let v111 : BitVec 1 := Scalar.andi v110 v107
  let v112 : BitVec 32 := Scalar.addi v106 v105
  let v113 : BitVec 32 := Scalar.select v111 v112 v106
  let c1_i32_72 : BitVec 32 := 1#32
  let v114 : BitVec 32 := Scalar.muli v113 c1_i32_72
  let v115 : BitVec 32 := Scalar.addi c0_i32_73 v114
  v115.toNat
def k0_dev8 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v116 : BitVec 32 := Scalar.addi v2 c8_i32
  let c16_i32_74 : BitVec 32 := 16#32
  let c0_i32_75 : BitVec 32 := 0#32
  let v117 : BitVec 1 := Scalar.cmpi .eq c16_i32_74 c0_i32_75
  let c1_i32_76 : BitVec 32 := 1#32
  let v118 : BitVec 32 := Scalar.select v117 c1_i32_76 c16_i32_74
  let v119 : BitVec 32 := Scalar.remsi v116 v118
  let c0_i32_78 : BitVec 32 := 0#32
  let v121 : BitVec 1 := Scalar.cmpi .slt v119 c0_i32_78
  let c0_i32_79 : BitVec 32 := 0#32
  let v122 : BitVec 1 := Scalar.cmpi .slt v118 c0_i32_79
  let v123 : BitVec 1 := Scalar.xori v121 v122
  let c0_i32_77 : BitVec 32 := 0#32
  let v120 : BitVec 1 := Scalar.cmpi .ne v119 c0_i32_77
  let v124 : BitVec 1 := Scalar.andi v123 v120
  let v125 : BitVec 32 := Scalar.addi v119 v118
  let v126 : BitVec 32 := Scalar.select v124 v125 v119
  let c1_i32_81 : BitVec 32 := 1#32
  let v127 : BitVec 32 := Scalar.muli v126 c1_i32_81
  let v128 : BitVec 32 := Scalar.addi c0_i32_82 v127
  v128.toNat
def k0_dev9 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v129 : BitVec 32 := Scalar.addi v2 c9_i32
  let c16_i32_83 : BitVec 32 := 16#32
  let c0_i32_84 : BitVec 32 := 0#32
  let v130 : BitVec 1 := Scalar.cmpi .eq c16_i32_83 c0_i32_84
  let c1_i32_85 : BitVec 32 := 1#32
  let v131 : BitVec 32 := Scalar.select v130 c1_i32_85 c16_i32_83
  let v132 : BitVec 32 := Scalar.remsi v129 v131
  let c0_i32_87 : BitVec 32 := 0#32
  let v134 : BitVec 1 := Scalar.cmpi .slt v132 c0_i32_87
  let c0_i32_88 : BitVec 32 := 0#32
  let v135 : BitVec 1 := Scalar.cmpi .slt v131 c0_i32_88
  let v136 : BitVec 1 := Scalar.xori v134 v135
  let c0_i32_86 : BitVec 32 := 0#32
  let v133 : BitVec 1 := Scalar.cmpi .ne v132 c0_i32_86
  let v137 : BitVec 1 := Scalar.andi v136 v133
  let v138 : BitVec 32 := Scalar.addi v132 v131
  let v139 : BitVec 32 := Scalar.select v137 v138 v132
  let c1_i32_90 : BitVec 32 := 1#32
  let v140 : BitVec 32 := Scalar.muli v139 c1_i32_90
  let v141 : BitVec 32 := Scalar.addi c0_i32_91 v140
  v141.toNat
def k0_dev10 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v142 : BitVec 32 := Scalar.addi v2 c10_i32
  let c16_i32_92 : BitVec 32 := 16#32
  let c0_i32_93 : BitVec 32 := 0#32
  let v143 : BitVec 1 := Scalar.cmpi .eq c16_i32_92 c0_i32_93
  let c1_i32_94 : BitVec 32 := 1#32
  let v144 : BitVec 32 := Scalar.select v143 c1_i32_94 c16_i32_92
  let v145 : BitVec 32 := Scalar.remsi v142 v144
  let c0_i32_96 : BitVec 32 := 0#32
  let v147 : BitVec 1 := Scalar.cmpi .slt v145 c0_i32_96
  let c0_i32_97 : BitVec 32 := 0#32
  let v148 : BitVec 1 := Scalar.cmpi .slt v144 c0_i32_97
  let v149 : BitVec 1 := Scalar.xori v147 v148
  let c0_i32_95 : BitVec 32 := 0#32
  let v146 : BitVec 1 := Scalar.cmpi .ne v145 c0_i32_95
  let v150 : BitVec 1 := Scalar.andi v149 v146
  let v151 : BitVec 32 := Scalar.addi v145 v144
  let v152 : BitVec 32 := Scalar.select v150 v151 v145
  let c1_i32_99 : BitVec 32 := 1#32
  let v153 : BitVec 32 := Scalar.muli v152 c1_i32_99
  let v154 : BitVec 32 := Scalar.addi c0_i32_100 v153
  v154.toNat
def k0_dev11 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v155 : BitVec 32 := Scalar.addi v2 c11_i32
  let c16_i32_101 : BitVec 32 := 16#32
  let c0_i32_102 : BitVec 32 := 0#32
  let v156 : BitVec 1 := Scalar.cmpi .eq c16_i32_101 c0_i32_102
  let c1_i32_103 : BitVec 32 := 1#32
  let v157 : BitVec 32 := Scalar.select v156 c1_i32_103 c16_i32_101
  let v158 : BitVec 32 := Scalar.remsi v155 v157
  let c0_i32_105 : BitVec 32 := 0#32
  let v160 : BitVec 1 := Scalar.cmpi .slt v158 c0_i32_105
  let c0_i32_106 : BitVec 32 := 0#32
  let v161 : BitVec 1 := Scalar.cmpi .slt v157 c0_i32_106
  let v162 : BitVec 1 := Scalar.xori v160 v161
  let c0_i32_104 : BitVec 32 := 0#32
  let v159 : BitVec 1 := Scalar.cmpi .ne v158 c0_i32_104
  let v163 : BitVec 1 := Scalar.andi v162 v159
  let v164 : BitVec 32 := Scalar.addi v158 v157
  let v165 : BitVec 32 := Scalar.select v163 v164 v158
  let c1_i32_108 : BitVec 32 := 1#32
  let v166 : BitVec 32 := Scalar.muli v165 c1_i32_108
  let v167 : BitVec 32 := Scalar.addi c0_i32_109 v166
  v167.toNat
def k0_dev12 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v168 : BitVec 32 := Scalar.addi v2 c12_i32
  let c16_i32_110 : BitVec 32 := 16#32
  let c0_i32_111 : BitVec 32 := 0#32
  let v169 : BitVec 1 := Scalar.cmpi .eq c16_i32_110 c0_i32_111
  let c1_i32_112 : BitVec 32 := 1#32
  let v170 : BitVec 32 := Scalar.select v169 c1_i32_112 c16_i32_110
  let v171 : BitVec 32 := Scalar.remsi v168 v170
  let c0_i32_114 : BitVec 32 := 0#32
  let v173 : BitVec 1 := Scalar.cmpi .slt v171 c0_i32_114
  let c0_i32_115 : BitVec 32 := 0#32
  let v174 : BitVec 1 := Scalar.cmpi .slt v170 c0_i32_115
  let v175 : BitVec 1 := Scalar.xori v173 v174
  let c0_i32_113 : BitVec 32 := 0#32
  let v172 : BitVec 1 := Scalar.cmpi .ne v171 c0_i32_113
  let v176 : BitVec 1 := Scalar.andi v175 v172
  let v177 : BitVec 32 := Scalar.addi v171 v170
  let v178 : BitVec 32 := Scalar.select v176 v177 v171
  let c1_i32_117 : BitVec 32 := 1#32
  let v179 : BitVec 32 := Scalar.muli v178 c1_i32_117
  let v180 : BitVec 32 := Scalar.addi c0_i32_118 v179
  v180.toNat
def k0_dev13 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v181 : BitVec 32 := Scalar.addi v2 c13_i32
  let c16_i32_119 : BitVec 32 := 16#32
  let c0_i32_120 : BitVec 32 := 0#32
  let v182 : BitVec 1 := Scalar.cmpi .eq c16_i32_119 c0_i32_120
  let c1_i32_121 : BitVec 32 := 1#32
  let v183 : BitVec 32 := Scalar.select v182 c1_i32_121 c16_i32_119
  let v184 : BitVec 32 := Scalar.remsi v181 v183
  let c0_i32_123 : BitVec 32 := 0#32
  let v186 : BitVec 1 := Scalar.cmpi .slt v184 c0_i32_123
  let c0_i32_124 : BitVec 32 := 0#32
  let v187 : BitVec 1 := Scalar.cmpi .slt v183 c0_i32_124
  let v188 : BitVec 1 := Scalar.xori v186 v187
  let c0_i32_122 : BitVec 32 := 0#32
  let v185 : BitVec 1 := Scalar.cmpi .ne v184 c0_i32_122
  let v189 : BitVec 1 := Scalar.andi v188 v185
  let v190 : BitVec 32 := Scalar.addi v184 v183
  let v191 : BitVec 32 := Scalar.select v189 v190 v184
  let c1_i32_126 : BitVec 32 := 1#32
  let v192 : BitVec 32 := Scalar.muli v191 c1_i32_126
  let v193 : BitVec 32 := Scalar.addi c0_i32_127 v192
  v193.toNat
def k0_dev14 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v194 : BitVec 32 := Scalar.addi v2 c14_i32
  let c16_i32_128 : BitVec 32 := 16#32
  let c0_i32_129 : BitVec 32 := 0#32
  let v195 : BitVec 1 := Scalar.cmpi .eq c16_i32_128 c0_i32_129
  let c1_i32_130 : BitVec 32 := 1#32
  let v196 : BitVec 32 := Scalar.select v195 c1_i32_130 c16_i32_128
  let v197 : BitVec 32 := Scalar.remsi v194 v196
  let c0_i32_132 : BitVec 32 := 0#32
  let v199 : BitVec 1 := Scalar.cmpi .slt v197 c0_i32_132
  let c0_i32_133 : BitVec 32 := 0#32
  let v200 : BitVec 1 := Scalar.cmpi .slt v196 c0_i32_133
  let v201 : BitVec 1 := Scalar.xori v199 v200
  let c0_i32_131 : BitVec 32 := 0#32
  let v198 : BitVec 1 := Scalar.cmpi .ne v197 c0_i32_131
  let v202 : BitVec 1 := Scalar.andi v201 v198
  let v203 : BitVec 32 := Scalar.addi v197 v196
  let v204 : BitVec 32 := Scalar.select v202 v203 v197
  let c1_i32_135 : BitVec 32 := 1#32
  let v205 : BitVec 32 := Scalar.muli v204 c1_i32_135
  let v206 : BitVec 32 := Scalar.addi c0_i32_136 v205
  v206.toNat
def k0_dev15 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v207 : BitVec 32 := Scalar.addi v2 c15_i32
  let c16_i32_137 : BitVec 32 := 16#32
  let c0_i32_138 : BitVec 32 := 0#32
  let v208 : BitVec 1 := Scalar.cmpi .eq c16_i32_137 c0_i32_138
  let c1_i32_139 : BitVec 32 := 1#32
  let v209 : BitVec 32 := Scalar.select v208 c1_i32_139 c16_i32_137
  let v210 : BitVec 32 := Scalar.remsi v207 v209
  let c0_i32_141 : BitVec 32 := 0#32
  let v212 : BitVec 1 := Scalar.cmpi .slt v210 c0_i32_141
  let c0_i32_142 : BitVec 32 := 0#32
  let v213 : BitVec 1 := Scalar.cmpi .slt v209 c0_i32_142
  let v214 : BitVec 1 := Scalar.xori v212 v213
  let c0_i32_140 : BitVec 32 := 0#32
  let v211 : BitVec 1 := Scalar.cmpi .ne v210 c0_i32_140
  let v215 : BitVec 1 := Scalar.andi v214 v211
  let v216 : BitVec 32 := Scalar.addi v210 v209
  let v217 : BitVec 32 := Scalar.select v215 v216 v210
  let c1_i32_144 : BitVec 32 := 1#32
  let v218 : BitVec 32 := Scalar.muli v217 c1_i32_144
  let v219 : BitVec 32 := Scalar.addi c0_i32_145 v218
  v219.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_148 : BitVec 32 := 1#32
  let v220 : BitVec 32 := Scalar.addi v2 c1_i32_148
  let c16_i32_149 : BitVec 32 := 16#32
  let c0_i32_150 : BitVec 32 := 0#32
  let v221 : BitVec 1 := Scalar.cmpi .eq c16_i32_149 c0_i32_150
  let c1_i32_151 : BitVec 32 := 1#32
  let v222 : BitVec 32 := Scalar.select v221 c1_i32_151 c16_i32_149
  let v223 : BitVec 32 := Scalar.remsi v220 v222
  let c0_i32_153 : BitVec 32 := 0#32
  let v225 : BitVec 1 := Scalar.cmpi .slt v223 c0_i32_153
  let c0_i32_154 : BitVec 32 := 0#32
  let v226 : BitVec 1 := Scalar.cmpi .slt v222 c0_i32_154
  let v227 : BitVec 1 := Scalar.xori v225 v226
  let c0_i32_152 : BitVec 32 := 0#32
  let v224 : BitVec 1 := Scalar.cmpi .ne v223 c0_i32_152
  let v228 : BitVec 1 := Scalar.andi v227 v224
  let v229 : BitVec 32 := Scalar.addi v223 v222
  let v230 : BitVec 32 := Scalar.select v228 v229 v223
  let c8_i32_155 : BitVec 32 := 8#32
  let v231 : BitVec 1 := Scalar.cmpi .sge v230 c8_i32_155
  let c1_i32_7 : BitVec 32 := 1#32
  let v17 : BitVec 32 := Scalar.andi v2 c1_i32_7
  let c0_i32 : BitVec 32 := 0#32
  let v18 : BitVec 1 := Scalar.cmpi .eq v17 c0_i32
  let v232 : BitVec 1 := Scalar.xori v231 v18
  let true_156 : BitVec 1 := 1#1
  let v233 : BitVec 1 := Scalar.xori v232 true_156
  let v234 : BitVec 32 := Scalar.extui v233
  let c0_i32_157 : BitVec 32 := 0#32
  let v235 : BitVec 1 := Scalar.cmpi .ne v234 c0_i32_157
  v235

def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1703 : BitVec 32 := 1#32
  let v2367 : BitVec 32 := Scalar.addi v2 c1_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev16 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1703 : BitVec 32 := 1#32
  let v2367 : BitVec 32 := Scalar.addi v2 c1_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_158 : BitVec 32 := 2#32
  let v236 : BitVec 32 := Scalar.addi v2 c2_i32_158
  let c16_i32_159 : BitVec 32 := 16#32
  let c0_i32_160 : BitVec 32 := 0#32
  let v237 : BitVec 1 := Scalar.cmpi .eq c16_i32_159 c0_i32_160
  let c1_i32_161 : BitVec 32 := 1#32
  let v238 : BitVec 32 := Scalar.select v237 c1_i32_161 c16_i32_159
  let v239 : BitVec 32 := Scalar.remsi v236 v238
  let c0_i32_163 : BitVec 32 := 0#32
  let v241 : BitVec 1 := Scalar.cmpi .slt v239 c0_i32_163
  let c0_i32_164 : BitVec 32 := 0#32
  let v242 : BitVec 1 := Scalar.cmpi .slt v238 c0_i32_164
  let v243 : BitVec 1 := Scalar.xori v241 v242
  let c0_i32_162 : BitVec 32 := 0#32
  let v240 : BitVec 1 := Scalar.cmpi .ne v239 c0_i32_162
  let v244 : BitVec 1 := Scalar.andi v243 v240
  let v245 : BitVec 32 := Scalar.addi v239 v238
  let v246 : BitVec 32 := Scalar.select v244 v245 v239
  let c8_i32_165 : BitVec 32 := 8#32
  let v247 : BitVec 1 := Scalar.cmpi .sge v246 c8_i32_165
  let c1_i32_7 : BitVec 32 := 1#32
  let v17 : BitVec 32 := Scalar.andi v2 c1_i32_7
  let c0_i32 : BitVec 32 := 0#32
  let v18 : BitVec 1 := Scalar.cmpi .eq v17 c0_i32
  let v248 : BitVec 1 := Scalar.xori v247 v18
  let true_166 : BitVec 1 := 1#1
  let v249 : BitVec 1 := Scalar.xori v248 true_166
  let v250 : BitVec 32 := Scalar.extui v249
  let c0_i32_167 : BitVec 32 := 0#32
  let v251 : BitVec 1 := Scalar.cmpi .ne v250 c0_i32_167
  v251

def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1703 : BitVec 32 := 2#32
  let v2367 : BitVec 32 := Scalar.addi v2 c2_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev17 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1703 : BitVec 32 := 2#32
  let v2367 : BitVec 32 := Scalar.addi v2 c2_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_168 : BitVec 32 := 3#32
  let v252 : BitVec 32 := Scalar.addi v2 c3_i32_168
  let c16_i32_169 : BitVec 32 := 16#32
  let c0_i32_170 : BitVec 32 := 0#32
  let v253 : BitVec 1 := Scalar.cmpi .eq c16_i32_169 c0_i32_170
  let c1_i32_171 : BitVec 32 := 1#32
  let v254 : BitVec 32 := Scalar.select v253 c1_i32_171 c16_i32_169
  let v255 : BitVec 32 := Scalar.remsi v252 v254
  let c0_i32_173 : BitVec 32 := 0#32
  let v257 : BitVec 1 := Scalar.cmpi .slt v255 c0_i32_173
  let c0_i32_174 : BitVec 32 := 0#32
  let v258 : BitVec 1 := Scalar.cmpi .slt v254 c0_i32_174
  let v259 : BitVec 1 := Scalar.xori v257 v258
  let c0_i32_172 : BitVec 32 := 0#32
  let v256 : BitVec 1 := Scalar.cmpi .ne v255 c0_i32_172
  let v260 : BitVec 1 := Scalar.andi v259 v256
  let v261 : BitVec 32 := Scalar.addi v255 v254
  let v262 : BitVec 32 := Scalar.select v260 v261 v255
  let c8_i32_175 : BitVec 32 := 8#32
  let v263 : BitVec 1 := Scalar.cmpi .sge v262 c8_i32_175
  let c1_i32_7 : BitVec 32 := 1#32
  let v17 : BitVec 32 := Scalar.andi v2 c1_i32_7
  let c0_i32 : BitVec 32 := 0#32
  let v18 : BitVec 1 := Scalar.cmpi .eq v17 c0_i32
  let v264 : BitVec 1 := Scalar.xori v263 v18
  let true_176 : BitVec 1 := 1#1
  let v265 : BitVec 1 := Scalar.xori v264 true_176
  let v266 : BitVec 32 := Scalar.extui v265
  let c0_i32_177 : BitVec 32 := 0#32
  let v267 : BitVec 1 := Scalar.cmpi .ne v266 c0_i32_177
  v267

def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1703 : BitVec 32 := 3#32
  let v2367 : BitVec 32 := Scalar.addi v2 c3_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev18 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1703 : BitVec 32 := 3#32
  let v2367 : BitVec 32 := Scalar.addi v2 c3_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_178 : BitVec 32 := 4#32
  let v268 : BitVec 32 := Scalar.addi v2 c4_i32_178
  let c16_i32_179 : BitVec 32 := 16#32
  let c0_i32_180 : BitVec 32 := 0#32
  let v269 : BitVec 1 := Scalar.cmpi .eq c16_i32_179 c0_i32_180
  let c1_i32_181 : BitVec 32 := 1#32
  let v270 : BitVec 32 := Scalar.select v269 c1_i32_181 c16_i32_179
  let v271 : BitVec 32 := Scalar.remsi v268 v270
  let c0_i32_183 : BitVec 32 := 0#32
  let v273 : BitVec 1 := Scalar.cmpi .slt v271 c0_i32_183
  let c0_i32_184 : BitVec 32 := 0#32
  let v274 : BitVec 1 := Scalar.cmpi .slt v270 c0_i32_184
  let v275 : BitVec 1 := Scalar.xori v273 v274
  let c0_i32_182 : BitVec 32 := 0#32
  let v272 : BitVec 1 := Scalar.cmpi .ne v271 c0_i32_182
  let v276 : BitVec 1 := Scalar.andi v275 v272
  let v277 : BitVec 32 := Scalar.addi v271 v270
  let v278 : BitVec 32 := Scalar.select v276 v277 v271
  let c8_i32_185 : BitVec 32 := 8#32
  let v279 : BitVec 1 := Scalar.cmpi .sge v278 c8_i32_185
  let c1_i32_7 : BitVec 32 := 1#32
  let v17 : BitVec 32 := Scalar.andi v2 c1_i32_7
  let c0_i32 : BitVec 32 := 0#32
  let v18 : BitVec 1 := Scalar.cmpi .eq v17 c0_i32
  let v280 : BitVec 1 := Scalar.xori v279 v18
  let true_186 : BitVec 1 := 1#1
  let v281 : BitVec 1 := Scalar.xori v280 true_186
  let v282 : BitVec 32 := Scalar.extui v281
  let c0_i32_187 : BitVec 32 := 0#32
  let v283 : BitVec 1 := Scalar.cmpi .ne v282 c0_i32_187
  v283

def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1703 : BitVec 32 := 4#32
  let v2367 : BitVec 32 := Scalar.addi v2 c4_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev19 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1703 : BitVec 32 := 4#32
  let v2367 : BitVec 32 := Scalar.addi v2 c4_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_188 : BitVec 32 := 5#32
  let v284 : BitVec 32 := Scalar.addi v2 c5_i32_188
  let c16_i32_189 : BitVec 32 := 16#32
  let c0_i32_190 : BitVec 32 := 0#32
  let v285 : BitVec 1 := Scalar.cmpi .eq c16_i32_189 c0_i32_190
  let c1_i32_191 : BitVec 32 := 1#32
  let v286 : BitVec 32 := Scalar.select v285 c1_i32_191 c16_i32_189
  let v287 : BitVec 32 := Scalar.remsi v284 v286
  let c0_i32_193 : BitVec 32 := 0#32
  let v289 : BitVec 1 := Scalar.cmpi .slt v287 c0_i32_193
  let c0_i32_194 : BitVec 32 := 0#32
  let v290 : BitVec 1 := Scalar.cmpi .slt v286 c0_i32_194
  let v291 : BitVec 1 := Scalar.xori v289 v290
  let c0_i32_192 : BitVec 32 := 0#32
  let v288 : BitVec 1 := Scalar.cmpi .ne v287 c0_i32_192
  let v292 : BitVec 1 := Scalar.andi v291 v288
  let v293 : BitVec 32 := Scalar.addi v287 v286
  let v294 : BitVec 32 := Scalar.select v292 v293 v287
  let c8_i32_195 : BitVec 32 := 8#32
  let v295 : BitVec 1 := Scalar.cmpi .sge v294 c8_i32_195
  let c1_i32_7 : BitVec 32 := 1#32
  let v17 : BitVec 32 := Scalar.andi v2 c1_i32_7
  let c0_i32 : BitVec 32 := 0#32
  let v18 : BitVec 1 := Scalar.cmpi .eq v17 c0_i32
  let v296 : BitVec 1 := Scalar.xori v295 v18
  let true_196 : BitVec 1 := 1#1
  let v297 : BitVec 1 := Scalar.xori v296 true_196
  let v298 : BitVec 32 := Scalar.extui v297
  let c0_i32_197 : BitVec 32 := 0#32
  let v299 : BitVec 1 := Scalar.cmpi .ne v298 c0_i32_197
  v299

def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1703 : BitVec 32 := 5#32
  let v2367 : BitVec 32 := Scalar.addi v2 c5_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev20 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1703 : BitVec 32 := 5#32
  let v2367 : BitVec 32 := Scalar.addi v2 c5_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_198 : BitVec 32 := 6#32
  let v300 : BitVec 32 := Scalar.addi v2 c6_i32_198
  let c16_i32_199 : BitVec 32 := 16#32
  let c0_i32_200 : BitVec 32 := 0#32
  let v301 : BitVec 1 := Scalar.cmpi .eq c16_i32_199 c0_i32_200
  let c1_i32_201 : BitVec 32 := 1#32
  let v302 : BitVec 32 := Scalar.select v301 c1_i32_201 c16_i32_199
  let v303 : BitVec 32 := Scalar.remsi v300 v302
  let c0_i32_203 : BitVec 32 := 0#32
  let v305 : BitVec 1 := Scalar.cmpi .slt v303 c0_i32_203
  let c0_i32_204 : BitVec 32 := 0#32
  let v306 : BitVec 1 := Scalar.cmpi .slt v302 c0_i32_204
  let v307 : BitVec 1 := Scalar.xori v305 v306
  let c0_i32_202 : BitVec 32 := 0#32
  let v304 : BitVec 1 := Scalar.cmpi .ne v303 c0_i32_202
  let v308 : BitVec 1 := Scalar.andi v307 v304
  let v309 : BitVec 32 := Scalar.addi v303 v302
  let v310 : BitVec 32 := Scalar.select v308 v309 v303
  let c8_i32_205 : BitVec 32 := 8#32
  let v311 : BitVec 1 := Scalar.cmpi .sge v310 c8_i32_205
  let c1_i32_7 : BitVec 32 := 1#32
  let v17 : BitVec 32 := Scalar.andi v2 c1_i32_7
  let c0_i32 : BitVec 32 := 0#32
  let v18 : BitVec 1 := Scalar.cmpi .eq v17 c0_i32
  let v312 : BitVec 1 := Scalar.xori v311 v18
  let true_206 : BitVec 1 := 1#1
  let v313 : BitVec 1 := Scalar.xori v312 true_206
  let v314 : BitVec 32 := Scalar.extui v313
  let c0_i32_207 : BitVec 32 := 0#32
  let v315 : BitVec 1 := Scalar.cmpi .ne v314 c0_i32_207
  v315

def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1703 : BitVec 32 := 6#32
  let v2367 : BitVec 32 := Scalar.addi v2 c6_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev21 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1703 : BitVec 32 := 6#32
  let v2367 : BitVec 32 := Scalar.addi v2 c6_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_208 : BitVec 32 := 7#32
  let v316 : BitVec 32 := Scalar.addi v2 c7_i32_208
  let c16_i32_209 : BitVec 32 := 16#32
  let c0_i32_210 : BitVec 32 := 0#32
  let v317 : BitVec 1 := Scalar.cmpi .eq c16_i32_209 c0_i32_210
  let c1_i32_211 : BitVec 32 := 1#32
  let v318 : BitVec 32 := Scalar.select v317 c1_i32_211 c16_i32_209
  let v319 : BitVec 32 := Scalar.remsi v316 v318
  let c0_i32_213 : BitVec 32 := 0#32
  let v321 : BitVec 1 := Scalar.cmpi .slt v319 c0_i32_213
  let c0_i32_214 : BitVec 32 := 0#32
  let v322 : BitVec 1 := Scalar.cmpi .slt v318 c0_i32_214
  let v323 : BitVec 1 := Scalar.xori v321 v322
  let c0_i32_212 : BitVec 32 := 0#32
  let v320 : BitVec 1 := Scalar.cmpi .ne v319 c0_i32_212
  let v324 : BitVec 1 := Scalar.andi v323 v320
  let v325 : BitVec 32 := Scalar.addi v319 v318
  let v326 : BitVec 32 := Scalar.select v324 v325 v319
  let c8_i32_215 : BitVec 32 := 8#32
  let v327 : BitVec 1 := Scalar.cmpi .sge v326 c8_i32_215
  let c1_i32_7 : BitVec 32 := 1#32
  let v17 : BitVec 32 := Scalar.andi v2 c1_i32_7
  let c0_i32 : BitVec 32 := 0#32
  let v18 : BitVec 1 := Scalar.cmpi .eq v17 c0_i32
  let v328 : BitVec 1 := Scalar.xori v327 v18
  let true_216 : BitVec 1 := 1#1
  let v329 : BitVec 1 := Scalar.xori v328 true_216
  let v330 : BitVec 32 := Scalar.extui v329
  let c0_i32_217 : BitVec 32 := 0#32
  let v331 : BitVec 1 := Scalar.cmpi .ne v330 c0_i32_217
  v331

def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1703 : BitVec 32 := 7#32
  let v2367 : BitVec 32 := Scalar.addi v2 c7_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev22 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1703 : BitVec 32 := 7#32
  let v2367 : BitVec 32 := Scalar.addi v2 c7_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_218 : BitVec 32 := 8#32
  let v332 : BitVec 32 := Scalar.addi v2 c8_i32_218
  let c16_i32_219 : BitVec 32 := 16#32
  let c0_i32_220 : BitVec 32 := 0#32
  let v333 : BitVec 1 := Scalar.cmpi .eq c16_i32_219 c0_i32_220
  let c1_i32_221 : BitVec 32 := 1#32
  let v334 : BitVec 32 := Scalar.select v333 c1_i32_221 c16_i32_219
  let v335 : BitVec 32 := Scalar.remsi v332 v334
  let c0_i32_223 : BitVec 32 := 0#32
  let v337 : BitVec 1 := Scalar.cmpi .slt v335 c0_i32_223
  let c0_i32_224 : BitVec 32 := 0#32
  let v338 : BitVec 1 := Scalar.cmpi .slt v334 c0_i32_224
  let v339 : BitVec 1 := Scalar.xori v337 v338
  let c0_i32_222 : BitVec 32 := 0#32
  let v336 : BitVec 1 := Scalar.cmpi .ne v335 c0_i32_222
  let v340 : BitVec 1 := Scalar.andi v339 v336
  let v341 : BitVec 32 := Scalar.addi v335 v334
  let v342 : BitVec 32 := Scalar.select v340 v341 v335
  let c8_i32_225 : BitVec 32 := 8#32
  let v343 : BitVec 1 := Scalar.cmpi .sge v342 c8_i32_225
  let c1_i32_7 : BitVec 32 := 1#32
  let v17 : BitVec 32 := Scalar.andi v2 c1_i32_7
  let c0_i32 : BitVec 32 := 0#32
  let v18 : BitVec 1 := Scalar.cmpi .eq v17 c0_i32
  let v344 : BitVec 1 := Scalar.xori v343 v18
  let true_226 : BitVec 1 := 1#1
  let v345 : BitVec 1 := Scalar.xori v344 true_226
  let v346 : BitVec 32 := Scalar.extui v345
  let c0_i32_227 : BitVec 32 := 0#32
  let v347 : BitVec 1 := Scalar.cmpi .ne v346 c0_i32_227
  v347

def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1703 : BitVec 32 := 8#32
  let v2367 : BitVec 32 := Scalar.addi v2 c8_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev23 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1703 : BitVec 32 := 8#32
  let v2367 : BitVec 32 := Scalar.addi v2 c8_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_228 : BitVec 32 := 9#32
  let v348 : BitVec 32 := Scalar.addi v2 c9_i32_228
  let c16_i32_229 : BitVec 32 := 16#32
  let c0_i32_230 : BitVec 32 := 0#32
  let v349 : BitVec 1 := Scalar.cmpi .eq c16_i32_229 c0_i32_230
  let c1_i32_231 : BitVec 32 := 1#32
  let v350 : BitVec 32 := Scalar.select v349 c1_i32_231 c16_i32_229
  let v351 : BitVec 32 := Scalar.remsi v348 v350
  let c0_i32_233 : BitVec 32 := 0#32
  let v353 : BitVec 1 := Scalar.cmpi .slt v351 c0_i32_233
  let c0_i32_234 : BitVec 32 := 0#32
  let v354 : BitVec 1 := Scalar.cmpi .slt v350 c0_i32_234
  let v355 : BitVec 1 := Scalar.xori v353 v354
  let c0_i32_232 : BitVec 32 := 0#32
  let v352 : BitVec 1 := Scalar.cmpi .ne v351 c0_i32_232
  let v356 : BitVec 1 := Scalar.andi v355 v352
  let v357 : BitVec 32 := Scalar.addi v351 v350
  let v358 : BitVec 32 := Scalar.select v356 v357 v351
  let c8_i32_235 : BitVec 32 := 8#32
  let v359 : BitVec 1 := Scalar.cmpi .sge v358 c8_i32_235
  let c1_i32_7 : BitVec 32 := 1#32
  let v17 : BitVec 32 := Scalar.andi v2 c1_i32_7
  let c0_i32 : BitVec 32 := 0#32
  let v18 : BitVec 1 := Scalar.cmpi .eq v17 c0_i32
  let v360 : BitVec 1 := Scalar.xori v359 v18
  let true_236 : BitVec 1 := 1#1
  let v361 : BitVec 1 := Scalar.xori v360 true_236
  let v362 : BitVec 32 := Scalar.extui v361
  let c0_i32_237 : BitVec 32 := 0#32
  let v363 : BitVec 1 := Scalar.cmpi .ne v362 c0_i32_237
  v363

def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1703 : BitVec 32 := 9#32
  let v2367 : BitVec 32 := Scalar.addi v2 c9_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev24 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1703 : BitVec 32 := 9#32
  let v2367 : BitVec 32 := Scalar.addi v2 c9_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_238 : BitVec 32 := 10#32
  let v364 : BitVec 32 := Scalar.addi v2 c10_i32_238
  let c16_i32_239 : BitVec 32 := 16#32
  let c0_i32_240 : BitVec 32 := 0#32
  let v365 : BitVec 1 := Scalar.cmpi .eq c16_i32_239 c0_i32_240
  let c1_i32_241 : BitVec 32 := 1#32
  let v366 : BitVec 32 := Scalar.select v365 c1_i32_241 c16_i32_239
  let v367 : BitVec 32 := Scalar.remsi v364 v366
  let c0_i32_243 : BitVec 32 := 0#32
  let v369 : BitVec 1 := Scalar.cmpi .slt v367 c0_i32_243
  let c0_i32_244 : BitVec 32 := 0#32
  let v370 : BitVec 1 := Scalar.cmpi .slt v366 c0_i32_244
  let v371 : BitVec 1 := Scalar.xori v369 v370
  let c0_i32_242 : BitVec 32 := 0#32
  let v368 : BitVec 1 := Scalar.cmpi .ne v367 c0_i32_242
  let v372 : BitVec 1 := Scalar.andi v371 v368
  let v373 : BitVec 32 := Scalar.addi v367 v366
  let v374 : BitVec 32 := Scalar.select v372 v373 v367
  let c8_i32_245 : BitVec 32 := 8#32
  let v375 : BitVec 1 := Scalar.cmpi .sge v374 c8_i32_245
  let c1_i32_7 : BitVec 32 := 1#32
  let v17 : BitVec 32 := Scalar.andi v2 c1_i32_7
  let c0_i32 : BitVec 32 := 0#32
  let v18 : BitVec 1 := Scalar.cmpi .eq v17 c0_i32
  let v376 : BitVec 1 := Scalar.xori v375 v18
  let true_246 : BitVec 1 := 1#1
  let v377 : BitVec 1 := Scalar.xori v376 true_246
  let v378 : BitVec 32 := Scalar.extui v377
  let c0_i32_247 : BitVec 32 := 0#32
  let v379 : BitVec 1 := Scalar.cmpi .ne v378 c0_i32_247
  v379

def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1703 : BitVec 32 := 10#32
  let v2367 : BitVec 32 := Scalar.addi v2 c10_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev25 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1703 : BitVec 32 := 10#32
  let v2367 : BitVec 32 := Scalar.addi v2 c10_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_248 : BitVec 32 := 11#32
  let v380 : BitVec 32 := Scalar.addi v2 c11_i32_248
  let c16_i32_249 : BitVec 32 := 16#32
  let c0_i32_250 : BitVec 32 := 0#32
  let v381 : BitVec 1 := Scalar.cmpi .eq c16_i32_249 c0_i32_250
  let c1_i32_251 : BitVec 32 := 1#32
  let v382 : BitVec 32 := Scalar.select v381 c1_i32_251 c16_i32_249
  let v383 : BitVec 32 := Scalar.remsi v380 v382
  let c0_i32_253 : BitVec 32 := 0#32
  let v385 : BitVec 1 := Scalar.cmpi .slt v383 c0_i32_253
  let c0_i32_254 : BitVec 32 := 0#32
  let v386 : BitVec 1 := Scalar.cmpi .slt v382 c0_i32_254
  let v387 : BitVec 1 := Scalar.xori v385 v386
  let c0_i32_252 : BitVec 32 := 0#32
  let v384 : BitVec 1 := Scalar.cmpi .ne v383 c0_i32_252
  let v388 : BitVec 1 := Scalar.andi v387 v384
  let v389 : BitVec 32 := Scalar.addi v383 v382
  let v390 : BitVec 32 := Scalar.select v388 v389 v383
  let c8_i32_255 : BitVec 32 := 8#32
  let v391 : BitVec 1 := Scalar.cmpi .sge v390 c8_i32_255
  let c1_i32_7 : BitVec 32 := 1#32
  let v17 : BitVec 32 := Scalar.andi v2 c1_i32_7
  let c0_i32 : BitVec 32 := 0#32
  let v18 : BitVec 1 := Scalar.cmpi .eq v17 c0_i32
  let v392 : BitVec 1 := Scalar.xori v391 v18
  let true_256 : BitVec 1 := 1#1
  let v393 : BitVec 1 := Scalar.xori v392 true_256
  let v394 : BitVec 32 := Scalar.extui v393
  let c0_i32_257 : BitVec 32 := 0#32
  let v395 : BitVec 1 := Scalar.cmpi .ne v394 c0_i32_257
  v395

def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1703 : BitVec 32 := 11#32
  let v2367 : BitVec 32 := Scalar.addi v2 c11_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev26 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1703 : BitVec 32 := 11#32
  let v2367 : BitVec 32 := Scalar.addi v2 c11_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_258 : BitVec 32 := 12#32
  let v396 : BitVec 32 := Scalar.addi v2 c12_i32_258
  let c16_i32_259 : BitVec 32 := 16#32
  let c0_i32_260 : BitVec 32 := 0#32
  let v397 : BitVec 1 := Scalar.cmpi .eq c16_i32_259 c0_i32_260
  let c1_i32_261 : BitVec 32 := 1#32
  let v398 : BitVec 32 := Scalar.select v397 c1_i32_261 c16_i32_259
  let v399 : BitVec 32 := Scalar.remsi v396 v398
  let c0_i32_263 : BitVec 32 := 0#32
  let v401 : BitVec 1 := Scalar.cmpi .slt v399 c0_i32_263
  let c0_i32_264 : BitVec 32 := 0#32
  let v402 : BitVec 1 := Scalar.cmpi .slt v398 c0_i32_264
  let v403 : BitVec 1 := Scalar.xori v401 v402
  let c0_i32_262 : BitVec 32 := 0#32
  let v400 : BitVec 1 := Scalar.cmpi .ne v399 c0_i32_262
  let v404 : BitVec 1 := Scalar.andi v403 v400
  let v405 : BitVec 32 := Scalar.addi v399 v398
  let v406 : BitVec 32 := Scalar.select v404 v405 v399
  let c8_i32_265 : BitVec 32 := 8#32
  let v407 : BitVec 1 := Scalar.cmpi .sge v406 c8_i32_265
  let c1_i32_7 : BitVec 32 := 1#32
  let v17 : BitVec 32 := Scalar.andi v2 c1_i32_7
  let c0_i32 : BitVec 32 := 0#32
  let v18 : BitVec 1 := Scalar.cmpi .eq v17 c0_i32
  let v408 : BitVec 1 := Scalar.xori v407 v18
  let true_266 : BitVec 1 := 1#1
  let v409 : BitVec 1 := Scalar.xori v408 true_266
  let v410 : BitVec 32 := Scalar.extui v409
  let c0_i32_267 : BitVec 32 := 0#32
  let v411 : BitVec 1 := Scalar.cmpi .ne v410 c0_i32_267
  v411

def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1703 : BitVec 32 := 12#32
  let v2367 : BitVec 32 := Scalar.addi v2 c12_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev27 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1703 : BitVec 32 := 12#32
  let v2367 : BitVec 32 := Scalar.addi v2 c12_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_268 : BitVec 32 := 13#32
  let v412 : BitVec 32 := Scalar.addi v2 c13_i32_268
  let c16_i32_269 : BitVec 32 := 16#32
  let c0_i32_270 : BitVec 32 := 0#32
  let v413 : BitVec 1 := Scalar.cmpi .eq c16_i32_269 c0_i32_270
  let c1_i32_271 : BitVec 32 := 1#32
  let v414 : BitVec 32 := Scalar.select v413 c1_i32_271 c16_i32_269
  let v415 : BitVec 32 := Scalar.remsi v412 v414
  let c0_i32_273 : BitVec 32 := 0#32
  let v417 : BitVec 1 := Scalar.cmpi .slt v415 c0_i32_273
  let c0_i32_274 : BitVec 32 := 0#32
  let v418 : BitVec 1 := Scalar.cmpi .slt v414 c0_i32_274
  let v419 : BitVec 1 := Scalar.xori v417 v418
  let c0_i32_272 : BitVec 32 := 0#32
  let v416 : BitVec 1 := Scalar.cmpi .ne v415 c0_i32_272
  let v420 : BitVec 1 := Scalar.andi v419 v416
  let v421 : BitVec 32 := Scalar.addi v415 v414
  let v422 : BitVec 32 := Scalar.select v420 v421 v415
  let c8_i32_275 : BitVec 32 := 8#32
  let v423 : BitVec 1 := Scalar.cmpi .sge v422 c8_i32_275
  let c1_i32_7 : BitVec 32 := 1#32
  let v17 : BitVec 32 := Scalar.andi v2 c1_i32_7
  let c0_i32 : BitVec 32 := 0#32
  let v18 : BitVec 1 := Scalar.cmpi .eq v17 c0_i32
  let v424 : BitVec 1 := Scalar.xori v423 v18
  let true_276 : BitVec 1 := 1#1
  let v425 : BitVec 1 := Scalar.xori v424 true_276
  let v426 : BitVec 32 := Scalar.extui v425
  let c0_i32_277 : BitVec 32 := 0#32
  let v427 : BitVec 1 := Scalar.cmpi .ne v426 c0_i32_277
  v427

def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1703 : BitVec 32 := 13#32
  let v2367 : BitVec 32 := Scalar.addi v2 c13_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev28 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1703 : BitVec 32 := 13#32
  let v2367 : BitVec 32 := Scalar.addi v2 c13_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_278 : BitVec 32 := 14#32
  let v428 : BitVec 32 := Scalar.addi v2 c14_i32_278
  let c16_i32_279 : BitVec 32 := 16#32
  let c0_i32_280 : BitVec 32 := 0#32
  let v429 : BitVec 1 := Scalar.cmpi .eq c16_i32_279 c0_i32_280
  let c1_i32_281 : BitVec 32 := 1#32
  let v430 : BitVec 32 := Scalar.select v429 c1_i32_281 c16_i32_279
  let v431 : BitVec 32 := Scalar.remsi v428 v430
  let c0_i32_283 : BitVec 32 := 0#32
  let v433 : BitVec 1 := Scalar.cmpi .slt v431 c0_i32_283
  let c0_i32_284 : BitVec 32 := 0#32
  let v434 : BitVec 1 := Scalar.cmpi .slt v430 c0_i32_284
  let v435 : BitVec 1 := Scalar.xori v433 v434
  let c0_i32_282 : BitVec 32 := 0#32
  let v432 : BitVec 1 := Scalar.cmpi .ne v431 c0_i32_282
  let v436 : BitVec 1 := Scalar.andi v435 v432
  let v437 : BitVec 32 := Scalar.addi v431 v430
  let v438 : BitVec 32 := Scalar.select v436 v437 v431
  let c8_i32_285 : BitVec 32 := 8#32
  let v439 : BitVec 1 := Scalar.cmpi .sge v438 c8_i32_285
  let c1_i32_7 : BitVec 32 := 1#32
  let v17 : BitVec 32 := Scalar.andi v2 c1_i32_7
  let c0_i32 : BitVec 32 := 0#32
  let v18 : BitVec 1 := Scalar.cmpi .eq v17 c0_i32
  let v440 : BitVec 1 := Scalar.xori v439 v18
  let true_286 : BitVec 1 := 1#1
  let v441 : BitVec 1 := Scalar.xori v440 true_286
  let v442 : BitVec 32 := Scalar.extui v441
  let c0_i32_287 : BitVec 32 := 0#32
  let v443 : BitVec 1 := Scalar.cmpi .ne v442 c0_i32_287
  v443

def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1703 : BitVec 32 := 14#32
  let v2367 : BitVec 32 := Scalar.addi v2 c14_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev29 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1703 : BitVec 32 := 14#32
  let v2367 : BitVec 32 := Scalar.addi v2 c14_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_288 : BitVec 32 := 15#32
  let v444 : BitVec 32 := Scalar.addi v2 c15_i32_288
  let c16_i32_289 : BitVec 32 := 16#32
  let c0_i32_290 : BitVec 32 := 0#32
  let v445 : BitVec 1 := Scalar.cmpi .eq c16_i32_289 c0_i32_290
  let c1_i32_291 : BitVec 32 := 1#32
  let v446 : BitVec 32 := Scalar.select v445 c1_i32_291 c16_i32_289
  let v447 : BitVec 32 := Scalar.remsi v444 v446
  let c0_i32_293 : BitVec 32 := 0#32
  let v449 : BitVec 1 := Scalar.cmpi .slt v447 c0_i32_293
  let c0_i32_294 : BitVec 32 := 0#32
  let v450 : BitVec 1 := Scalar.cmpi .slt v446 c0_i32_294
  let v451 : BitVec 1 := Scalar.xori v449 v450
  let c0_i32_292 : BitVec 32 := 0#32
  let v448 : BitVec 1 := Scalar.cmpi .ne v447 c0_i32_292
  let v452 : BitVec 1 := Scalar.andi v451 v448
  let v453 : BitVec 32 := Scalar.addi v447 v446
  let v454 : BitVec 32 := Scalar.select v452 v453 v447
  let c8_i32_295 : BitVec 32 := 8#32
  let v455 : BitVec 1 := Scalar.cmpi .sge v454 c8_i32_295
  let c1_i32_7 : BitVec 32 := 1#32
  let v17 : BitVec 32 := Scalar.andi v2 c1_i32_7
  let c0_i32 : BitVec 32 := 0#32
  let v18 : BitVec 1 := Scalar.cmpi .eq v17 c0_i32
  let v456 : BitVec 1 := Scalar.xori v455 v18
  let true_296 : BitVec 1 := 1#1
  let v457 : BitVec 1 := Scalar.xori v456 true_296
  let v458 : BitVec 32 := Scalar.extui v457
  let c0_i32_297 : BitVec 32 := 0#32
  let v459 : BitVec 1 := Scalar.cmpi .ne v458 c0_i32_297
  v459

def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1703 : BitVec 32 := 15#32
  let v2367 : BitVec 32 := Scalar.addi v2 c15_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev30 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1703 : BitVec 32 := 15#32
  let v2367 : BitVec 32 := Scalar.addi v2 c15_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_301 : BitVec 32 := 1#32
  let v465 : BitVec 32 := Scalar.addi v2 c1_i32_301
  let c16_i32_302 : BitVec 32 := 16#32
  let c0_i32_303 : BitVec 32 := 0#32
  let v466 : BitVec 1 := Scalar.cmpi .eq c16_i32_302 c0_i32_303
  let c1_i32_304 : BitVec 32 := 1#32
  let v467 : BitVec 32 := Scalar.select v466 c1_i32_304 c16_i32_302
  let v468 : BitVec 32 := Scalar.remsi v465 v467
  let c0_i32_306 : BitVec 32 := 0#32
  let v470 : BitVec 1 := Scalar.cmpi .slt v468 c0_i32_306
  let c0_i32_307 : BitVec 32 := 0#32
  let v471 : BitVec 1 := Scalar.cmpi .slt v467 c0_i32_307
  let v472 : BitVec 1 := Scalar.xori v470 v471
  let c0_i32_305 : BitVec 32 := 0#32
  let v469 : BitVec 1 := Scalar.cmpi .ne v468 c0_i32_305
  let v473 : BitVec 1 := Scalar.andi v472 v469
  let v474 : BitVec 32 := Scalar.addi v468 v467
  let v475 : BitVec 32 := Scalar.select v473 v474 v468
  let c8_i32_308 : BitVec 32 := 8#32
  let v476 : BitVec 1 := Scalar.cmpi .slt v475 c8_i32_308
  let c1_i32_7 : BitVec 32 := 1#32
  let v17 : BitVec 32 := Scalar.andi v2 c1_i32_7
  let c0_i32 : BitVec 32 := 0#32
  let v18 : BitVec 1 := Scalar.cmpi .eq v17 c0_i32
  let v477 : BitVec 1 := Scalar.xori v476 v18
  let true_309 : BitVec 1 := 1#1
  let v478 : BitVec 1 := Scalar.xori v477 true_309
  let v479 : BitVec 32 := Scalar.extui v478
  let c0_i32_310 : BitVec 32 := 0#32
  let v480 : BitVec 1 := Scalar.cmpi .ne v479 c0_i32_310
  v480

def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1703 : BitVec 32 := 1#32
  let v2367 : BitVec 32 := Scalar.addi v2 c1_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev31 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1703 : BitVec 32 := 1#32
  let v2367 : BitVec 32 := Scalar.addi v2 c1_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_311 : BitVec 32 := 2#32
  let v481 : BitVec 32 := Scalar.addi v2 c2_i32_311
  let c16_i32_312 : BitVec 32 := 16#32
  let c0_i32_313 : BitVec 32 := 0#32
  let v482 : BitVec 1 := Scalar.cmpi .eq c16_i32_312 c0_i32_313
  let c1_i32_314 : BitVec 32 := 1#32
  let v483 : BitVec 32 := Scalar.select v482 c1_i32_314 c16_i32_312
  let v484 : BitVec 32 := Scalar.remsi v481 v483
  let c0_i32_316 : BitVec 32 := 0#32
  let v486 : BitVec 1 := Scalar.cmpi .slt v484 c0_i32_316
  let c0_i32_317 : BitVec 32 := 0#32
  let v487 : BitVec 1 := Scalar.cmpi .slt v483 c0_i32_317
  let v488 : BitVec 1 := Scalar.xori v486 v487
  let c0_i32_315 : BitVec 32 := 0#32
  let v485 : BitVec 1 := Scalar.cmpi .ne v484 c0_i32_315
  let v489 : BitVec 1 := Scalar.andi v488 v485
  let v490 : BitVec 32 := Scalar.addi v484 v483
  let v491 : BitVec 32 := Scalar.select v489 v490 v484
  let c8_i32_318 : BitVec 32 := 8#32
  let v492 : BitVec 1 := Scalar.cmpi .slt v491 c8_i32_318
  let c1_i32_7 : BitVec 32 := 1#32
  let v17 : BitVec 32 := Scalar.andi v2 c1_i32_7
  let c0_i32 : BitVec 32 := 0#32
  let v18 : BitVec 1 := Scalar.cmpi .eq v17 c0_i32
  let v493 : BitVec 1 := Scalar.xori v492 v18
  let true_319 : BitVec 1 := 1#1
  let v494 : BitVec 1 := Scalar.xori v493 true_319
  let v495 : BitVec 32 := Scalar.extui v494
  let c0_i32_320 : BitVec 32 := 0#32
  let v496 : BitVec 1 := Scalar.cmpi .ne v495 c0_i32_320
  v496

def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1703 : BitVec 32 := 2#32
  let v2367 : BitVec 32 := Scalar.addi v2 c2_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev32 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1703 : BitVec 32 := 2#32
  let v2367 : BitVec 32 := Scalar.addi v2 c2_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_321 : BitVec 32 := 3#32
  let v497 : BitVec 32 := Scalar.addi v2 c3_i32_321
  let c16_i32_322 : BitVec 32 := 16#32
  let c0_i32_323 : BitVec 32 := 0#32
  let v498 : BitVec 1 := Scalar.cmpi .eq c16_i32_322 c0_i32_323
  let c1_i32_324 : BitVec 32 := 1#32
  let v499 : BitVec 32 := Scalar.select v498 c1_i32_324 c16_i32_322
  let v500 : BitVec 32 := Scalar.remsi v497 v499
  let c0_i32_326 : BitVec 32 := 0#32
  let v502 : BitVec 1 := Scalar.cmpi .slt v500 c0_i32_326
  let c0_i32_327 : BitVec 32 := 0#32
  let v503 : BitVec 1 := Scalar.cmpi .slt v499 c0_i32_327
  let v504 : BitVec 1 := Scalar.xori v502 v503
  let c0_i32_325 : BitVec 32 := 0#32
  let v501 : BitVec 1 := Scalar.cmpi .ne v500 c0_i32_325
  let v505 : BitVec 1 := Scalar.andi v504 v501
  let v506 : BitVec 32 := Scalar.addi v500 v499
  let v507 : BitVec 32 := Scalar.select v505 v506 v500
  let c8_i32_328 : BitVec 32 := 8#32
  let v508 : BitVec 1 := Scalar.cmpi .slt v507 c8_i32_328
  let c1_i32_7 : BitVec 32 := 1#32
  let v17 : BitVec 32 := Scalar.andi v2 c1_i32_7
  let c0_i32 : BitVec 32 := 0#32
  let v18 : BitVec 1 := Scalar.cmpi .eq v17 c0_i32
  let v509 : BitVec 1 := Scalar.xori v508 v18
  let true_329 : BitVec 1 := 1#1
  let v510 : BitVec 1 := Scalar.xori v509 true_329
  let v511 : BitVec 32 := Scalar.extui v510
  let c0_i32_330 : BitVec 32 := 0#32
  let v512 : BitVec 1 := Scalar.cmpi .ne v511 c0_i32_330
  v512

def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1703 : BitVec 32 := 3#32
  let v2367 : BitVec 32 := Scalar.addi v2 c3_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev33 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1703 : BitVec 32 := 3#32
  let v2367 : BitVec 32 := Scalar.addi v2 c3_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_331 : BitVec 32 := 4#32
  let v513 : BitVec 32 := Scalar.addi v2 c4_i32_331
  let c16_i32_332 : BitVec 32 := 16#32
  let c0_i32_333 : BitVec 32 := 0#32
  let v514 : BitVec 1 := Scalar.cmpi .eq c16_i32_332 c0_i32_333
  let c1_i32_334 : BitVec 32 := 1#32
  let v515 : BitVec 32 := Scalar.select v514 c1_i32_334 c16_i32_332
  let v516 : BitVec 32 := Scalar.remsi v513 v515
  let c0_i32_336 : BitVec 32 := 0#32
  let v518 : BitVec 1 := Scalar.cmpi .slt v516 c0_i32_336
  let c0_i32_337 : BitVec 32 := 0#32
  let v519 : BitVec 1 := Scalar.cmpi .slt v515 c0_i32_337
  let v520 : BitVec 1 := Scalar.xori v518 v519
  let c0_i32_335 : BitVec 32 := 0#32
  let v517 : BitVec 1 := Scalar.cmpi .ne v516 c0_i32_335
  let v521 : BitVec 1 := Scalar.andi v520 v517
  let v522 : BitVec 32 := Scalar.addi v516 v515
  let v523 : BitVec 32 := Scalar.select v521 v522 v516
  let c8_i32_338 : BitVec 32 := 8#32
  let v524 : BitVec 1 := Scalar.cmpi .slt v523 c8_i32_338
  let c1_i32_7 : BitVec 32 := 1#32
  let v17 : BitVec 32 := Scalar.andi v2 c1_i32_7
  let c0_i32 : BitVec 32 := 0#32
  let v18 : BitVec 1 := Scalar.cmpi .eq v17 c0_i32
  let v525 : BitVec 1 := Scalar.xori v524 v18
  let true_339 : BitVec 1 := 1#1
  let v526 : BitVec 1 := Scalar.xori v525 true_339
  let v527 : BitVec 32 := Scalar.extui v526
  let c0_i32_340 : BitVec 32 := 0#32
  let v528 : BitVec 1 := Scalar.cmpi .ne v527 c0_i32_340
  v528

def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1703 : BitVec 32 := 4#32
  let v2367 : BitVec 32 := Scalar.addi v2 c4_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev34 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1703 : BitVec 32 := 4#32
  let v2367 : BitVec 32 := Scalar.addi v2 c4_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_341 : BitVec 32 := 5#32
  let v529 : BitVec 32 := Scalar.addi v2 c5_i32_341
  let c16_i32_342 : BitVec 32 := 16#32
  let c0_i32_343 : BitVec 32 := 0#32
  let v530 : BitVec 1 := Scalar.cmpi .eq c16_i32_342 c0_i32_343
  let c1_i32_344 : BitVec 32 := 1#32
  let v531 : BitVec 32 := Scalar.select v530 c1_i32_344 c16_i32_342
  let v532 : BitVec 32 := Scalar.remsi v529 v531
  let c0_i32_346 : BitVec 32 := 0#32
  let v534 : BitVec 1 := Scalar.cmpi .slt v532 c0_i32_346
  let c0_i32_347 : BitVec 32 := 0#32
  let v535 : BitVec 1 := Scalar.cmpi .slt v531 c0_i32_347
  let v536 : BitVec 1 := Scalar.xori v534 v535
  let c0_i32_345 : BitVec 32 := 0#32
  let v533 : BitVec 1 := Scalar.cmpi .ne v532 c0_i32_345
  let v537 : BitVec 1 := Scalar.andi v536 v533
  let v538 : BitVec 32 := Scalar.addi v532 v531
  let v539 : BitVec 32 := Scalar.select v537 v538 v532
  let c8_i32_348 : BitVec 32 := 8#32
  let v540 : BitVec 1 := Scalar.cmpi .slt v539 c8_i32_348
  let c1_i32_7 : BitVec 32 := 1#32
  let v17 : BitVec 32 := Scalar.andi v2 c1_i32_7
  let c0_i32 : BitVec 32 := 0#32
  let v18 : BitVec 1 := Scalar.cmpi .eq v17 c0_i32
  let v541 : BitVec 1 := Scalar.xori v540 v18
  let true_349 : BitVec 1 := 1#1
  let v542 : BitVec 1 := Scalar.xori v541 true_349
  let v543 : BitVec 32 := Scalar.extui v542
  let c0_i32_350 : BitVec 32 := 0#32
  let v544 : BitVec 1 := Scalar.cmpi .ne v543 c0_i32_350
  v544

def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1703 : BitVec 32 := 5#32
  let v2367 : BitVec 32 := Scalar.addi v2 c5_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev35 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1703 : BitVec 32 := 5#32
  let v2367 : BitVec 32 := Scalar.addi v2 c5_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_351 : BitVec 32 := 6#32
  let v545 : BitVec 32 := Scalar.addi v2 c6_i32_351
  let c16_i32_352 : BitVec 32 := 16#32
  let c0_i32_353 : BitVec 32 := 0#32
  let v546 : BitVec 1 := Scalar.cmpi .eq c16_i32_352 c0_i32_353
  let c1_i32_354 : BitVec 32 := 1#32
  let v547 : BitVec 32 := Scalar.select v546 c1_i32_354 c16_i32_352
  let v548 : BitVec 32 := Scalar.remsi v545 v547
  let c0_i32_356 : BitVec 32 := 0#32
  let v550 : BitVec 1 := Scalar.cmpi .slt v548 c0_i32_356
  let c0_i32_357 : BitVec 32 := 0#32
  let v551 : BitVec 1 := Scalar.cmpi .slt v547 c0_i32_357
  let v552 : BitVec 1 := Scalar.xori v550 v551
  let c0_i32_355 : BitVec 32 := 0#32
  let v549 : BitVec 1 := Scalar.cmpi .ne v548 c0_i32_355
  let v553 : BitVec 1 := Scalar.andi v552 v549
  let v554 : BitVec 32 := Scalar.addi v548 v547
  let v555 : BitVec 32 := Scalar.select v553 v554 v548
  let c8_i32_358 : BitVec 32 := 8#32
  let v556 : BitVec 1 := Scalar.cmpi .slt v555 c8_i32_358
  let c1_i32_7 : BitVec 32 := 1#32
  let v17 : BitVec 32 := Scalar.andi v2 c1_i32_7
  let c0_i32 : BitVec 32 := 0#32
  let v18 : BitVec 1 := Scalar.cmpi .eq v17 c0_i32
  let v557 : BitVec 1 := Scalar.xori v556 v18
  let true_359 : BitVec 1 := 1#1
  let v558 : BitVec 1 := Scalar.xori v557 true_359
  let v559 : BitVec 32 := Scalar.extui v558
  let c0_i32_360 : BitVec 32 := 0#32
  let v560 : BitVec 1 := Scalar.cmpi .ne v559 c0_i32_360
  v560

def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1703 : BitVec 32 := 6#32
  let v2367 : BitVec 32 := Scalar.addi v2 c6_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev36 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1703 : BitVec 32 := 6#32
  let v2367 : BitVec 32 := Scalar.addi v2 c6_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_361 : BitVec 32 := 7#32
  let v561 : BitVec 32 := Scalar.addi v2 c7_i32_361
  let c16_i32_362 : BitVec 32 := 16#32
  let c0_i32_363 : BitVec 32 := 0#32
  let v562 : BitVec 1 := Scalar.cmpi .eq c16_i32_362 c0_i32_363
  let c1_i32_364 : BitVec 32 := 1#32
  let v563 : BitVec 32 := Scalar.select v562 c1_i32_364 c16_i32_362
  let v564 : BitVec 32 := Scalar.remsi v561 v563
  let c0_i32_366 : BitVec 32 := 0#32
  let v566 : BitVec 1 := Scalar.cmpi .slt v564 c0_i32_366
  let c0_i32_367 : BitVec 32 := 0#32
  let v567 : BitVec 1 := Scalar.cmpi .slt v563 c0_i32_367
  let v568 : BitVec 1 := Scalar.xori v566 v567
  let c0_i32_365 : BitVec 32 := 0#32
  let v565 : BitVec 1 := Scalar.cmpi .ne v564 c0_i32_365
  let v569 : BitVec 1 := Scalar.andi v568 v565
  let v570 : BitVec 32 := Scalar.addi v564 v563
  let v571 : BitVec 32 := Scalar.select v569 v570 v564
  let c8_i32_368 : BitVec 32 := 8#32
  let v572 : BitVec 1 := Scalar.cmpi .slt v571 c8_i32_368
  let c1_i32_7 : BitVec 32 := 1#32
  let v17 : BitVec 32 := Scalar.andi v2 c1_i32_7
  let c0_i32 : BitVec 32 := 0#32
  let v18 : BitVec 1 := Scalar.cmpi .eq v17 c0_i32
  let v573 : BitVec 1 := Scalar.xori v572 v18
  let true_369 : BitVec 1 := 1#1
  let v574 : BitVec 1 := Scalar.xori v573 true_369
  let v575 : BitVec 32 := Scalar.extui v574
  let c0_i32_370 : BitVec 32 := 0#32
  let v576 : BitVec 1 := Scalar.cmpi .ne v575 c0_i32_370
  v576

def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1703 : BitVec 32 := 7#32
  let v2367 : BitVec 32 := Scalar.addi v2 c7_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev37 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1703 : BitVec 32 := 7#32
  let v2367 : BitVec 32 := Scalar.addi v2 c7_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_371 : BitVec 32 := 8#32
  let v577 : BitVec 32 := Scalar.addi v2 c8_i32_371
  let c16_i32_372 : BitVec 32 := 16#32
  let c0_i32_373 : BitVec 32 := 0#32
  let v578 : BitVec 1 := Scalar.cmpi .eq c16_i32_372 c0_i32_373
  let c1_i32_374 : BitVec 32 := 1#32
  let v579 : BitVec 32 := Scalar.select v578 c1_i32_374 c16_i32_372
  let v580 : BitVec 32 := Scalar.remsi v577 v579
  let c0_i32_376 : BitVec 32 := 0#32
  let v582 : BitVec 1 := Scalar.cmpi .slt v580 c0_i32_376
  let c0_i32_377 : BitVec 32 := 0#32
  let v583 : BitVec 1 := Scalar.cmpi .slt v579 c0_i32_377
  let v584 : BitVec 1 := Scalar.xori v582 v583
  let c0_i32_375 : BitVec 32 := 0#32
  let v581 : BitVec 1 := Scalar.cmpi .ne v580 c0_i32_375
  let v585 : BitVec 1 := Scalar.andi v584 v581
  let v586 : BitVec 32 := Scalar.addi v580 v579
  let v587 : BitVec 32 := Scalar.select v585 v586 v580
  let c8_i32_378 : BitVec 32 := 8#32
  let v588 : BitVec 1 := Scalar.cmpi .slt v587 c8_i32_378
  let c1_i32_7 : BitVec 32 := 1#32
  let v17 : BitVec 32 := Scalar.andi v2 c1_i32_7
  let c0_i32 : BitVec 32 := 0#32
  let v18 : BitVec 1 := Scalar.cmpi .eq v17 c0_i32
  let v589 : BitVec 1 := Scalar.xori v588 v18
  let true_379 : BitVec 1 := 1#1
  let v590 : BitVec 1 := Scalar.xori v589 true_379
  let v591 : BitVec 32 := Scalar.extui v590
  let c0_i32_380 : BitVec 32 := 0#32
  let v592 : BitVec 1 := Scalar.cmpi .ne v591 c0_i32_380
  v592

def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1703 : BitVec 32 := 8#32
  let v2367 : BitVec 32 := Scalar.addi v2 c8_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev38 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1703 : BitVec 32 := 8#32
  let v2367 : BitVec 32 := Scalar.addi v2 c8_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_381 : BitVec 32 := 9#32
  let v593 : BitVec 32 := Scalar.addi v2 c9_i32_381
  let c16_i32_382 : BitVec 32 := 16#32
  let c0_i32_383 : BitVec 32 := 0#32
  let v594 : BitVec 1 := Scalar.cmpi .eq c16_i32_382 c0_i32_383
  let c1_i32_384 : BitVec 32 := 1#32
  let v595 : BitVec 32 := Scalar.select v594 c1_i32_384 c16_i32_382
  let v596 : BitVec 32 := Scalar.remsi v593 v595
  let c0_i32_386 : BitVec 32 := 0#32
  let v598 : BitVec 1 := Scalar.cmpi .slt v596 c0_i32_386
  let c0_i32_387 : BitVec 32 := 0#32
  let v599 : BitVec 1 := Scalar.cmpi .slt v595 c0_i32_387
  let v600 : BitVec 1 := Scalar.xori v598 v599
  let c0_i32_385 : BitVec 32 := 0#32
  let v597 : BitVec 1 := Scalar.cmpi .ne v596 c0_i32_385
  let v601 : BitVec 1 := Scalar.andi v600 v597
  let v602 : BitVec 32 := Scalar.addi v596 v595
  let v603 : BitVec 32 := Scalar.select v601 v602 v596
  let c8_i32_388 : BitVec 32 := 8#32
  let v604 : BitVec 1 := Scalar.cmpi .slt v603 c8_i32_388
  let c1_i32_7 : BitVec 32 := 1#32
  let v17 : BitVec 32 := Scalar.andi v2 c1_i32_7
  let c0_i32 : BitVec 32 := 0#32
  let v18 : BitVec 1 := Scalar.cmpi .eq v17 c0_i32
  let v605 : BitVec 1 := Scalar.xori v604 v18
  let true_389 : BitVec 1 := 1#1
  let v606 : BitVec 1 := Scalar.xori v605 true_389
  let v607 : BitVec 32 := Scalar.extui v606
  let c0_i32_390 : BitVec 32 := 0#32
  let v608 : BitVec 1 := Scalar.cmpi .ne v607 c0_i32_390
  v608

def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1703 : BitVec 32 := 9#32
  let v2367 : BitVec 32 := Scalar.addi v2 c9_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev39 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1703 : BitVec 32 := 9#32
  let v2367 : BitVec 32 := Scalar.addi v2 c9_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_391 : BitVec 32 := 10#32
  let v609 : BitVec 32 := Scalar.addi v2 c10_i32_391
  let c16_i32_392 : BitVec 32 := 16#32
  let c0_i32_393 : BitVec 32 := 0#32
  let v610 : BitVec 1 := Scalar.cmpi .eq c16_i32_392 c0_i32_393
  let c1_i32_394 : BitVec 32 := 1#32
  let v611 : BitVec 32 := Scalar.select v610 c1_i32_394 c16_i32_392
  let v612 : BitVec 32 := Scalar.remsi v609 v611
  let c0_i32_396 : BitVec 32 := 0#32
  let v614 : BitVec 1 := Scalar.cmpi .slt v612 c0_i32_396
  let c0_i32_397 : BitVec 32 := 0#32
  let v615 : BitVec 1 := Scalar.cmpi .slt v611 c0_i32_397
  let v616 : BitVec 1 := Scalar.xori v614 v615
  let c0_i32_395 : BitVec 32 := 0#32
  let v613 : BitVec 1 := Scalar.cmpi .ne v612 c0_i32_395
  let v617 : BitVec 1 := Scalar.andi v616 v613
  let v618 : BitVec 32 := Scalar.addi v612 v611
  let v619 : BitVec 32 := Scalar.select v617 v618 v612
  let c8_i32_398 : BitVec 32 := 8#32
  let v620 : BitVec 1 := Scalar.cmpi .slt v619 c8_i32_398
  let c1_i32_7 : BitVec 32 := 1#32
  let v17 : BitVec 32 := Scalar.andi v2 c1_i32_7
  let c0_i32 : BitVec 32 := 0#32
  let v18 : BitVec 1 := Scalar.cmpi .eq v17 c0_i32
  let v621 : BitVec 1 := Scalar.xori v620 v18
  let true_399 : BitVec 1 := 1#1
  let v622 : BitVec 1 := Scalar.xori v621 true_399
  let v623 : BitVec 32 := Scalar.extui v622
  let c0_i32_400 : BitVec 32 := 0#32
  let v624 : BitVec 1 := Scalar.cmpi .ne v623 c0_i32_400
  v624

def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1703 : BitVec 32 := 10#32
  let v2367 : BitVec 32 := Scalar.addi v2 c10_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev40 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1703 : BitVec 32 := 10#32
  let v2367 : BitVec 32 := Scalar.addi v2 c10_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_401 : BitVec 32 := 11#32
  let v625 : BitVec 32 := Scalar.addi v2 c11_i32_401
  let c16_i32_402 : BitVec 32 := 16#32
  let c0_i32_403 : BitVec 32 := 0#32
  let v626 : BitVec 1 := Scalar.cmpi .eq c16_i32_402 c0_i32_403
  let c1_i32_404 : BitVec 32 := 1#32
  let v627 : BitVec 32 := Scalar.select v626 c1_i32_404 c16_i32_402
  let v628 : BitVec 32 := Scalar.remsi v625 v627
  let c0_i32_406 : BitVec 32 := 0#32
  let v630 : BitVec 1 := Scalar.cmpi .slt v628 c0_i32_406
  let c0_i32_407 : BitVec 32 := 0#32
  let v631 : BitVec 1 := Scalar.cmpi .slt v627 c0_i32_407
  let v632 : BitVec 1 := Scalar.xori v630 v631
  let c0_i32_405 : BitVec 32 := 0#32
  let v629 : BitVec 1 := Scalar.cmpi .ne v628 c0_i32_405
  let v633 : BitVec 1 := Scalar.andi v632 v629
  let v634 : BitVec 32 := Scalar.addi v628 v627
  let v635 : BitVec 32 := Scalar.select v633 v634 v628
  let c8_i32_408 : BitVec 32 := 8#32
  let v636 : BitVec 1 := Scalar.cmpi .slt v635 c8_i32_408
  let c1_i32_7 : BitVec 32 := 1#32
  let v17 : BitVec 32 := Scalar.andi v2 c1_i32_7
  let c0_i32 : BitVec 32 := 0#32
  let v18 : BitVec 1 := Scalar.cmpi .eq v17 c0_i32
  let v637 : BitVec 1 := Scalar.xori v636 v18
  let true_409 : BitVec 1 := 1#1
  let v638 : BitVec 1 := Scalar.xori v637 true_409
  let v639 : BitVec 32 := Scalar.extui v638
  let c0_i32_410 : BitVec 32 := 0#32
  let v640 : BitVec 1 := Scalar.cmpi .ne v639 c0_i32_410
  v640

def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1703 : BitVec 32 := 11#32
  let v2367 : BitVec 32 := Scalar.addi v2 c11_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev41 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1703 : BitVec 32 := 11#32
  let v2367 : BitVec 32 := Scalar.addi v2 c11_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_411 : BitVec 32 := 12#32
  let v641 : BitVec 32 := Scalar.addi v2 c12_i32_411
  let c16_i32_412 : BitVec 32 := 16#32
  let c0_i32_413 : BitVec 32 := 0#32
  let v642 : BitVec 1 := Scalar.cmpi .eq c16_i32_412 c0_i32_413
  let c1_i32_414 : BitVec 32 := 1#32
  let v643 : BitVec 32 := Scalar.select v642 c1_i32_414 c16_i32_412
  let v644 : BitVec 32 := Scalar.remsi v641 v643
  let c0_i32_416 : BitVec 32 := 0#32
  let v646 : BitVec 1 := Scalar.cmpi .slt v644 c0_i32_416
  let c0_i32_417 : BitVec 32 := 0#32
  let v647 : BitVec 1 := Scalar.cmpi .slt v643 c0_i32_417
  let v648 : BitVec 1 := Scalar.xori v646 v647
  let c0_i32_415 : BitVec 32 := 0#32
  let v645 : BitVec 1 := Scalar.cmpi .ne v644 c0_i32_415
  let v649 : BitVec 1 := Scalar.andi v648 v645
  let v650 : BitVec 32 := Scalar.addi v644 v643
  let v651 : BitVec 32 := Scalar.select v649 v650 v644
  let c8_i32_418 : BitVec 32 := 8#32
  let v652 : BitVec 1 := Scalar.cmpi .slt v651 c8_i32_418
  let c1_i32_7 : BitVec 32 := 1#32
  let v17 : BitVec 32 := Scalar.andi v2 c1_i32_7
  let c0_i32 : BitVec 32 := 0#32
  let v18 : BitVec 1 := Scalar.cmpi .eq v17 c0_i32
  let v653 : BitVec 1 := Scalar.xori v652 v18
  let true_419 : BitVec 1 := 1#1
  let v654 : BitVec 1 := Scalar.xori v653 true_419
  let v655 : BitVec 32 := Scalar.extui v654
  let c0_i32_420 : BitVec 32 := 0#32
  let v656 : BitVec 1 := Scalar.cmpi .ne v655 c0_i32_420
  v656

def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1703 : BitVec 32 := 12#32
  let v2367 : BitVec 32 := Scalar.addi v2 c12_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev42 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1703 : BitVec 32 := 12#32
  let v2367 : BitVec 32 := Scalar.addi v2 c12_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_421 : BitVec 32 := 13#32
  let v657 : BitVec 32 := Scalar.addi v2 c13_i32_421
  let c16_i32_422 : BitVec 32 := 16#32
  let c0_i32_423 : BitVec 32 := 0#32
  let v658 : BitVec 1 := Scalar.cmpi .eq c16_i32_422 c0_i32_423
  let c1_i32_424 : BitVec 32 := 1#32
  let v659 : BitVec 32 := Scalar.select v658 c1_i32_424 c16_i32_422
  let v660 : BitVec 32 := Scalar.remsi v657 v659
  let c0_i32_426 : BitVec 32 := 0#32
  let v662 : BitVec 1 := Scalar.cmpi .slt v660 c0_i32_426
  let c0_i32_427 : BitVec 32 := 0#32
  let v663 : BitVec 1 := Scalar.cmpi .slt v659 c0_i32_427
  let v664 : BitVec 1 := Scalar.xori v662 v663
  let c0_i32_425 : BitVec 32 := 0#32
  let v661 : BitVec 1 := Scalar.cmpi .ne v660 c0_i32_425
  let v665 : BitVec 1 := Scalar.andi v664 v661
  let v666 : BitVec 32 := Scalar.addi v660 v659
  let v667 : BitVec 32 := Scalar.select v665 v666 v660
  let c8_i32_428 : BitVec 32 := 8#32
  let v668 : BitVec 1 := Scalar.cmpi .slt v667 c8_i32_428
  let c1_i32_7 : BitVec 32 := 1#32
  let v17 : BitVec 32 := Scalar.andi v2 c1_i32_7
  let c0_i32 : BitVec 32 := 0#32
  let v18 : BitVec 1 := Scalar.cmpi .eq v17 c0_i32
  let v669 : BitVec 1 := Scalar.xori v668 v18
  let true_429 : BitVec 1 := 1#1
  let v670 : BitVec 1 := Scalar.xori v669 true_429
  let v671 : BitVec 32 := Scalar.extui v670
  let c0_i32_430 : BitVec 32 := 0#32
  let v672 : BitVec 1 := Scalar.cmpi .ne v671 c0_i32_430
  v672

def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1703 : BitVec 32 := 13#32
  let v2367 : BitVec 32 := Scalar.addi v2 c13_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev43 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1703 : BitVec 32 := 13#32
  let v2367 : BitVec 32 := Scalar.addi v2 c13_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_431 : BitVec 32 := 14#32
  let v673 : BitVec 32 := Scalar.addi v2 c14_i32_431
  let c16_i32_432 : BitVec 32 := 16#32
  let c0_i32_433 : BitVec 32 := 0#32
  let v674 : BitVec 1 := Scalar.cmpi .eq c16_i32_432 c0_i32_433
  let c1_i32_434 : BitVec 32 := 1#32
  let v675 : BitVec 32 := Scalar.select v674 c1_i32_434 c16_i32_432
  let v676 : BitVec 32 := Scalar.remsi v673 v675
  let c0_i32_436 : BitVec 32 := 0#32
  let v678 : BitVec 1 := Scalar.cmpi .slt v676 c0_i32_436
  let c0_i32_437 : BitVec 32 := 0#32
  let v679 : BitVec 1 := Scalar.cmpi .slt v675 c0_i32_437
  let v680 : BitVec 1 := Scalar.xori v678 v679
  let c0_i32_435 : BitVec 32 := 0#32
  let v677 : BitVec 1 := Scalar.cmpi .ne v676 c0_i32_435
  let v681 : BitVec 1 := Scalar.andi v680 v677
  let v682 : BitVec 32 := Scalar.addi v676 v675
  let v683 : BitVec 32 := Scalar.select v681 v682 v676
  let c8_i32_438 : BitVec 32 := 8#32
  let v684 : BitVec 1 := Scalar.cmpi .slt v683 c8_i32_438
  let c1_i32_7 : BitVec 32 := 1#32
  let v17 : BitVec 32 := Scalar.andi v2 c1_i32_7
  let c0_i32 : BitVec 32 := 0#32
  let v18 : BitVec 1 := Scalar.cmpi .eq v17 c0_i32
  let v685 : BitVec 1 := Scalar.xori v684 v18
  let true_439 : BitVec 1 := 1#1
  let v686 : BitVec 1 := Scalar.xori v685 true_439
  let v687 : BitVec 32 := Scalar.extui v686
  let c0_i32_440 : BitVec 32 := 0#32
  let v688 : BitVec 1 := Scalar.cmpi .ne v687 c0_i32_440
  v688

def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1703 : BitVec 32 := 14#32
  let v2367 : BitVec 32 := Scalar.addi v2 c14_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev44 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1703 : BitVec 32 := 14#32
  let v2367 : BitVec 32 := Scalar.addi v2 c14_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_441 : BitVec 32 := 15#32
  let v689 : BitVec 32 := Scalar.addi v2 c15_i32_441
  let c16_i32_442 : BitVec 32 := 16#32
  let c0_i32_443 : BitVec 32 := 0#32
  let v690 : BitVec 1 := Scalar.cmpi .eq c16_i32_442 c0_i32_443
  let c1_i32_444 : BitVec 32 := 1#32
  let v691 : BitVec 32 := Scalar.select v690 c1_i32_444 c16_i32_442
  let v692 : BitVec 32 := Scalar.remsi v689 v691
  let c0_i32_446 : BitVec 32 := 0#32
  let v694 : BitVec 1 := Scalar.cmpi .slt v692 c0_i32_446
  let c0_i32_447 : BitVec 32 := 0#32
  let v695 : BitVec 1 := Scalar.cmpi .slt v691 c0_i32_447
  let v696 : BitVec 1 := Scalar.xori v694 v695
  let c0_i32_445 : BitVec 32 := 0#32
  let v693 : BitVec 1 := Scalar.cmpi .ne v692 c0_i32_445
  let v697 : BitVec 1 := Scalar.andi v696 v693
  let v698 : BitVec 32 := Scalar.addi v692 v691
  let v699 : BitVec 32 := Scalar.select v697 v698 v692
  let c8_i32_448 : BitVec 32 := 8#32
  let v700 : BitVec 1 := Scalar.cmpi .slt v699 c8_i32_448
  let c1_i32_7 : BitVec 32 := 1#32
  let v17 : BitVec 32 := Scalar.andi v2 c1_i32_7
  let c0_i32 : BitVec 32 := 0#32
  let v18 : BitVec 1 := Scalar.cmpi .eq v17 c0_i32
  let v701 : BitVec 1 := Scalar.xori v700 v18
  let true_449 : BitVec 1 := 1#1
  let v702 : BitVec 1 := Scalar.xori v701 true_449
  let v703 : BitVec 32 := Scalar.extui v702
  let c0_i32_450 : BitVec 32 := 0#32
  let v704 : BitVec 1 := Scalar.cmpi .ne v703 c0_i32_450
  v704

def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1711 : BitVec 32 := 32#32
  let v2379 : BitVec 32 := Scalar.muli v2 c32_i32_1711
  let c0_i32_1716 : BitVec 32 := 0#32
  ![v2379.toNat, 0]
def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1703 : BitVec 32 := 15#32
  let v2367 : BitVec 32 := Scalar.addi v2 c15_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c32_i32_1710 : BitVec 32 := 32#32
  let v2378 : BitVec 32 := Scalar.muli v2377 c32_i32_1710
  let c0_i32_1717 : BitVec 32 := 0#32
  ![v2378.toNat, 0]
def k0_dev45 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1703 : BitVec 32 := 15#32
  let v2367 : BitVec 32 := Scalar.addi v2 c15_i32_1703
  let c16_i32_1704 : BitVec 32 := 16#32
  let c0_i32_1705 : BitVec 32 := 0#32
  let v2368 : BitVec 1 := Scalar.cmpi .eq c16_i32_1704 c0_i32_1705
  let c1_i32_1706 : BitVec 32 := 1#32
  let v2369 : BitVec 32 := Scalar.select v2368 c1_i32_1706 c16_i32_1704
  let v2370 : BitVec 32 := Scalar.remsi v2367 v2369
  let c0_i32_1708 : BitVec 32 := 0#32
  let v2372 : BitVec 1 := Scalar.cmpi .slt v2370 c0_i32_1708
  let c0_i32_1709 : BitVec 32 := 0#32
  let v2373 : BitVec 1 := Scalar.cmpi .slt v2369 c0_i32_1709
  let v2374 : BitVec 1 := Scalar.xori v2372 v2373
  let c0_i32_1707 : BitVec 32 := 0#32
  let v2371 : BitVec 1 := Scalar.cmpi .ne v2370 c0_i32_1707
  let v2375 : BitVec 1 := Scalar.andi v2374 v2371
  let v2376 : BitVec 32 := Scalar.addi v2370 v2369
  let v2377 : BitVec 32 := Scalar.select v2375 v2376 v2370
  let c1_i32_1714 : BitVec 32 := 1#32
  let v2380 : BitVec 32 := Scalar.muli v2377 c1_i32_1714
  let v2381 : BitVec 32 := Scalar.addi c0_i32_1715 v2380
  v2381.toNat
def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v705 : BitVec 32 := Scalar.muli v2 c32_i32
  let v706 : Index := Scalar.indexCast v705
  let c0_451 : Index := 0#32
  ![v706.toNat, 0]
def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_460 : BitVec 32 := 32#32
  let v720 : BitVec 32 := Scalar.muli v2 c32_i32_460
  let c0_i32_465 : BitVec 32 := 0#32
  ![v720.toNat, 0]
def k0_off64 (d0 : Dev nD) (c1_i32_452 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v708 : BitVec 32 := Scalar.addi v2 c1_i32_452
  let c16_i32_453 : BitVec 32 := 16#32
  let c0_i32_454 : BitVec 32 := 0#32
  let v709 : BitVec 1 := Scalar.cmpi .eq c16_i32_453 c0_i32_454
  let c1_i32_455 : BitVec 32 := 1#32
  let v710 : BitVec 32 := Scalar.select v709 c1_i32_455 c16_i32_453
  let v711 : BitVec 32 := Scalar.remsi v708 v710
  let c0_i32_457 : BitVec 32 := 0#32
  let v713 : BitVec 1 := Scalar.cmpi .slt v711 c0_i32_457
  let c0_i32_458 : BitVec 32 := 0#32
  let v714 : BitVec 1 := Scalar.cmpi .slt v710 c0_i32_458
  let v715 : BitVec 1 := Scalar.xori v713 v714
  let c0_i32_456 : BitVec 32 := 0#32
  let v712 : BitVec 1 := Scalar.cmpi .ne v711 c0_i32_456
  let v716 : BitVec 1 := Scalar.andi v715 v712
  let v717 : BitVec 32 := Scalar.addi v711 v710
  let v718 : BitVec 32 := Scalar.select v716 v717 v711
  let c32_i32_459 : BitVec 32 := 32#32
  let v719 : BitVec 32 := Scalar.muli v718 c32_i32_459
  let c0_i32_466 : BitVec 32 := 0#32
  ![v719.toNat, 0]
def k0_off65 (d0 : Dev nD) (c1_i32_468 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_467 : BitVec 32 := 16#32
  let v727 : BitVec 32 := Scalar.addi v2 c16_i32_467
  let v728 : BitVec 32 := Scalar.subi v727 c1_i32_468
  let c16_i32_469 : BitVec 32 := 16#32
  let c0_i32_470 : BitVec 32 := 0#32
  let v729 : BitVec 1 := Scalar.cmpi .eq c16_i32_469 c0_i32_470
  let c1_i32_471 : BitVec 32 := 1#32
  let v730 : BitVec 32 := Scalar.select v729 c1_i32_471 c16_i32_469
  let v731 : BitVec 32 := Scalar.remsi v728 v730
  let c0_i32_473 : BitVec 32 := 0#32
  let v733 : BitVec 1 := Scalar.cmpi .slt v731 c0_i32_473
  let c0_i32_474 : BitVec 32 := 0#32
  let v734 : BitVec 1 := Scalar.cmpi .slt v730 c0_i32_474
  let v735 : BitVec 1 := Scalar.xori v733 v734
  let c0_i32_472 : BitVec 32 := 0#32
  let v732 : BitVec 1 := Scalar.cmpi .ne v731 c0_i32_472
  let v736 : BitVec 1 := Scalar.andi v735 v732
  let v737 : BitVec 32 := Scalar.addi v731 v730
  let v738 : BitVec 32 := Scalar.select v736 v737 v731
  let c32_i32_475 : BitVec 32 := 32#32
  let v739 : BitVec 32 := Scalar.muli v738 c32_i32_475
  let v740 : Index := Scalar.indexCast v739
  let c0_476 : Index := 0#32
  ![v740.toNat, 0]
def k0_dev46 (d0 : Dev nD) : Nat :=
  let c0_i32_841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_831 : BitVec 32 := 1#32
  let v1256 : BitVec 32 := Scalar.addi v2 c1_i32_831
  let c16_i32_832 : BitVec 32 := 16#32
  let c0_i32_833 : BitVec 32 := 0#32
  let v1257 : BitVec 1 := Scalar.cmpi .eq c16_i32_832 c0_i32_833
  let c1_i32_834 : BitVec 32 := 1#32
  let v1258 : BitVec 32 := Scalar.select v1257 c1_i32_834 c16_i32_832
  let v1259 : BitVec 32 := Scalar.remsi v1256 v1258
  let c0_i32_836 : BitVec 32 := 0#32
  let v1261 : BitVec 1 := Scalar.cmpi .slt v1259 c0_i32_836
  let c0_i32_837 : BitVec 32 := 0#32
  let v1262 : BitVec 1 := Scalar.cmpi .slt v1258 c0_i32_837
  let v1263 : BitVec 1 := Scalar.xori v1261 v1262
  let c0_i32_835 : BitVec 32 := 0#32
  let v1260 : BitVec 1 := Scalar.cmpi .ne v1259 c0_i32_835
  let v1264 : BitVec 1 := Scalar.andi v1263 v1260
  let v1265 : BitVec 32 := Scalar.addi v1259 v1258
  let v1266 : BitVec 32 := Scalar.select v1264 v1265 v1259
  let c1_i32_840 : BitVec 32 := 1#32
  let v1267 : BitVec 32 := Scalar.muli v1266 c1_i32_840
  let v1268 : BitVec 32 := Scalar.addi c0_i32_841 v1267
  v1268.toNat
def k0_dev47 (d0 : Dev nD) : Nat :=
  let c0_i32_856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_846 : BitVec 32 := 2#32
  let v1277 : BitVec 32 := Scalar.addi v2 c2_i32_846
  let c16_i32_847 : BitVec 32 := 16#32
  let c0_i32_848 : BitVec 32 := 0#32
  let v1278 : BitVec 1 := Scalar.cmpi .eq c16_i32_847 c0_i32_848
  let c1_i32_849 : BitVec 32 := 1#32
  let v1279 : BitVec 32 := Scalar.select v1278 c1_i32_849 c16_i32_847
  let v1280 : BitVec 32 := Scalar.remsi v1277 v1279
  let c0_i32_851 : BitVec 32 := 0#32
  let v1282 : BitVec 1 := Scalar.cmpi .slt v1280 c0_i32_851
  let c0_i32_852 : BitVec 32 := 0#32
  let v1283 : BitVec 1 := Scalar.cmpi .slt v1279 c0_i32_852
  let v1284 : BitVec 1 := Scalar.xori v1282 v1283
  let c0_i32_850 : BitVec 32 := 0#32
  let v1281 : BitVec 1 := Scalar.cmpi .ne v1280 c0_i32_850
  let v1285 : BitVec 1 := Scalar.andi v1284 v1281
  let v1286 : BitVec 32 := Scalar.addi v1280 v1279
  let v1287 : BitVec 32 := Scalar.select v1285 v1286 v1280
  let c1_i32_855 : BitVec 32 := 1#32
  let v1288 : BitVec 32 := Scalar.muli v1287 c1_i32_855
  let v1289 : BitVec 32 := Scalar.addi c0_i32_856 v1288
  v1289.toNat
def k0_dev48 (d0 : Dev nD) : Nat :=
  let c0_i32_871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_861 : BitVec 32 := 3#32
  let v1298 : BitVec 32 := Scalar.addi v2 c3_i32_861
  let c16_i32_862 : BitVec 32 := 16#32
  let c0_i32_863 : BitVec 32 := 0#32
  let v1299 : BitVec 1 := Scalar.cmpi .eq c16_i32_862 c0_i32_863
  let c1_i32_864 : BitVec 32 := 1#32
  let v1300 : BitVec 32 := Scalar.select v1299 c1_i32_864 c16_i32_862
  let v1301 : BitVec 32 := Scalar.remsi v1298 v1300
  let c0_i32_866 : BitVec 32 := 0#32
  let v1303 : BitVec 1 := Scalar.cmpi .slt v1301 c0_i32_866
  let c0_i32_867 : BitVec 32 := 0#32
  let v1304 : BitVec 1 := Scalar.cmpi .slt v1300 c0_i32_867
  let v1305 : BitVec 1 := Scalar.xori v1303 v1304
  let c0_i32_865 : BitVec 32 := 0#32
  let v1302 : BitVec 1 := Scalar.cmpi .ne v1301 c0_i32_865
  let v1306 : BitVec 1 := Scalar.andi v1305 v1302
  let v1307 : BitVec 32 := Scalar.addi v1301 v1300
  let v1308 : BitVec 32 := Scalar.select v1306 v1307 v1301
  let c1_i32_870 : BitVec 32 := 1#32
  let v1309 : BitVec 32 := Scalar.muli v1308 c1_i32_870
  let v1310 : BitVec 32 := Scalar.addi c0_i32_871 v1309
  v1310.toNat
def k0_dev49 (d0 : Dev nD) : Nat :=
  let c0_i32_886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_876 : BitVec 32 := 4#32
  let v1319 : BitVec 32 := Scalar.addi v2 c4_i32_876
  let c16_i32_877 : BitVec 32 := 16#32
  let c0_i32_878 : BitVec 32 := 0#32
  let v1320 : BitVec 1 := Scalar.cmpi .eq c16_i32_877 c0_i32_878
  let c1_i32_879 : BitVec 32 := 1#32
  let v1321 : BitVec 32 := Scalar.select v1320 c1_i32_879 c16_i32_877
  let v1322 : BitVec 32 := Scalar.remsi v1319 v1321
  let c0_i32_881 : BitVec 32 := 0#32
  let v1324 : BitVec 1 := Scalar.cmpi .slt v1322 c0_i32_881
  let c0_i32_882 : BitVec 32 := 0#32
  let v1325 : BitVec 1 := Scalar.cmpi .slt v1321 c0_i32_882
  let v1326 : BitVec 1 := Scalar.xori v1324 v1325
  let c0_i32_880 : BitVec 32 := 0#32
  let v1323 : BitVec 1 := Scalar.cmpi .ne v1322 c0_i32_880
  let v1327 : BitVec 1 := Scalar.andi v1326 v1323
  let v1328 : BitVec 32 := Scalar.addi v1322 v1321
  let v1329 : BitVec 32 := Scalar.select v1327 v1328 v1322
  let c1_i32_885 : BitVec 32 := 1#32
  let v1330 : BitVec 32 := Scalar.muli v1329 c1_i32_885
  let v1331 : BitVec 32 := Scalar.addi c0_i32_886 v1330
  v1331.toNat
def k0_dev50 (d0 : Dev nD) : Nat :=
  let c0_i32_901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_891 : BitVec 32 := 5#32
  let v1340 : BitVec 32 := Scalar.addi v2 c5_i32_891
  let c16_i32_892 : BitVec 32 := 16#32
  let c0_i32_893 : BitVec 32 := 0#32
  let v1341 : BitVec 1 := Scalar.cmpi .eq c16_i32_892 c0_i32_893
  let c1_i32_894 : BitVec 32 := 1#32
  let v1342 : BitVec 32 := Scalar.select v1341 c1_i32_894 c16_i32_892
  let v1343 : BitVec 32 := Scalar.remsi v1340 v1342
  let c0_i32_896 : BitVec 32 := 0#32
  let v1345 : BitVec 1 := Scalar.cmpi .slt v1343 c0_i32_896
  let c0_i32_897 : BitVec 32 := 0#32
  let v1346 : BitVec 1 := Scalar.cmpi .slt v1342 c0_i32_897
  let v1347 : BitVec 1 := Scalar.xori v1345 v1346
  let c0_i32_895 : BitVec 32 := 0#32
  let v1344 : BitVec 1 := Scalar.cmpi .ne v1343 c0_i32_895
  let v1348 : BitVec 1 := Scalar.andi v1347 v1344
  let v1349 : BitVec 32 := Scalar.addi v1343 v1342
  let v1350 : BitVec 32 := Scalar.select v1348 v1349 v1343
  let c1_i32_900 : BitVec 32 := 1#32
  let v1351 : BitVec 32 := Scalar.muli v1350 c1_i32_900
  let v1352 : BitVec 32 := Scalar.addi c0_i32_901 v1351
  v1352.toNat
def k0_dev51 (d0 : Dev nD) : Nat :=
  let c0_i32_916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_906 : BitVec 32 := 6#32
  let v1361 : BitVec 32 := Scalar.addi v2 c6_i32_906
  let c16_i32_907 : BitVec 32 := 16#32
  let c0_i32_908 : BitVec 32 := 0#32
  let v1362 : BitVec 1 := Scalar.cmpi .eq c16_i32_907 c0_i32_908
  let c1_i32_909 : BitVec 32 := 1#32
  let v1363 : BitVec 32 := Scalar.select v1362 c1_i32_909 c16_i32_907
  let v1364 : BitVec 32 := Scalar.remsi v1361 v1363
  let c0_i32_911 : BitVec 32 := 0#32
  let v1366 : BitVec 1 := Scalar.cmpi .slt v1364 c0_i32_911
  let c0_i32_912 : BitVec 32 := 0#32
  let v1367 : BitVec 1 := Scalar.cmpi .slt v1363 c0_i32_912
  let v1368 : BitVec 1 := Scalar.xori v1366 v1367
  let c0_i32_910 : BitVec 32 := 0#32
  let v1365 : BitVec 1 := Scalar.cmpi .ne v1364 c0_i32_910
  let v1369 : BitVec 1 := Scalar.andi v1368 v1365
  let v1370 : BitVec 32 := Scalar.addi v1364 v1363
  let v1371 : BitVec 32 := Scalar.select v1369 v1370 v1364
  let c1_i32_915 : BitVec 32 := 1#32
  let v1372 : BitVec 32 := Scalar.muli v1371 c1_i32_915
  let v1373 : BitVec 32 := Scalar.addi c0_i32_916 v1372
  v1373.toNat
def k0_dev52 (d0 : Dev nD) : Nat :=
  let c0_i32_931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_921 : BitVec 32 := 7#32
  let v1382 : BitVec 32 := Scalar.addi v2 c7_i32_921
  let c16_i32_922 : BitVec 32 := 16#32
  let c0_i32_923 : BitVec 32 := 0#32
  let v1383 : BitVec 1 := Scalar.cmpi .eq c16_i32_922 c0_i32_923
  let c1_i32_924 : BitVec 32 := 1#32
  let v1384 : BitVec 32 := Scalar.select v1383 c1_i32_924 c16_i32_922
  let v1385 : BitVec 32 := Scalar.remsi v1382 v1384
  let c0_i32_926 : BitVec 32 := 0#32
  let v1387 : BitVec 1 := Scalar.cmpi .slt v1385 c0_i32_926
  let c0_i32_927 : BitVec 32 := 0#32
  let v1388 : BitVec 1 := Scalar.cmpi .slt v1384 c0_i32_927
  let v1389 : BitVec 1 := Scalar.xori v1387 v1388
  let c0_i32_925 : BitVec 32 := 0#32
  let v1386 : BitVec 1 := Scalar.cmpi .ne v1385 c0_i32_925
  let v1390 : BitVec 1 := Scalar.andi v1389 v1386
  let v1391 : BitVec 32 := Scalar.addi v1385 v1384
  let v1392 : BitVec 32 := Scalar.select v1390 v1391 v1385
  let c1_i32_930 : BitVec 32 := 1#32
  let v1393 : BitVec 32 := Scalar.muli v1392 c1_i32_930
  let v1394 : BitVec 32 := Scalar.addi c0_i32_931 v1393
  v1394.toNat
def k0_dev53 (d0 : Dev nD) : Nat :=
  let c0_i32_946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_936 : BitVec 32 := 8#32
  let v1403 : BitVec 32 := Scalar.addi v2 c8_i32_936
  let c16_i32_937 : BitVec 32 := 16#32
  let c0_i32_938 : BitVec 32 := 0#32
  let v1404 : BitVec 1 := Scalar.cmpi .eq c16_i32_937 c0_i32_938
  let c1_i32_939 : BitVec 32 := 1#32
  let v1405 : BitVec 32 := Scalar.select v1404 c1_i32_939 c16_i32_937
  let v1406 : BitVec 32 := Scalar.remsi v1403 v1405
  let c0_i32_941 : BitVec 32 := 0#32
  let v1408 : BitVec 1 := Scalar.cmpi .slt v1406 c0_i32_941
  let c0_i32_942 : BitVec 32 := 0#32
  let v1409 : BitVec 1 := Scalar.cmpi .slt v1405 c0_i32_942
  let v1410 : BitVec 1 := Scalar.xori v1408 v1409
  let c0_i32_940 : BitVec 32 := 0#32
  let v1407 : BitVec 1 := Scalar.cmpi .ne v1406 c0_i32_940
  let v1411 : BitVec 1 := Scalar.andi v1410 v1407
  let v1412 : BitVec 32 := Scalar.addi v1406 v1405
  let v1413 : BitVec 32 := Scalar.select v1411 v1412 v1406
  let c1_i32_945 : BitVec 32 := 1#32
  let v1414 : BitVec 32 := Scalar.muli v1413 c1_i32_945
  let v1415 : BitVec 32 := Scalar.addi c0_i32_946 v1414
  v1415.toNat
def k0_dev54 (d0 : Dev nD) : Nat :=
  let c0_i32_961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_951 : BitVec 32 := 9#32
  let v1424 : BitVec 32 := Scalar.addi v2 c9_i32_951
  let c16_i32_952 : BitVec 32 := 16#32
  let c0_i32_953 : BitVec 32 := 0#32
  let v1425 : BitVec 1 := Scalar.cmpi .eq c16_i32_952 c0_i32_953
  let c1_i32_954 : BitVec 32 := 1#32
  let v1426 : BitVec 32 := Scalar.select v1425 c1_i32_954 c16_i32_952
  let v1427 : BitVec 32 := Scalar.remsi v1424 v1426
  let c0_i32_956 : BitVec 32 := 0#32
  let v1429 : BitVec 1 := Scalar.cmpi .slt v1427 c0_i32_956
  let c0_i32_957 : BitVec 32 := 0#32
  let v1430 : BitVec 1 := Scalar.cmpi .slt v1426 c0_i32_957
  let v1431 : BitVec 1 := Scalar.xori v1429 v1430
  let c0_i32_955 : BitVec 32 := 0#32
  let v1428 : BitVec 1 := Scalar.cmpi .ne v1427 c0_i32_955
  let v1432 : BitVec 1 := Scalar.andi v1431 v1428
  let v1433 : BitVec 32 := Scalar.addi v1427 v1426
  let v1434 : BitVec 32 := Scalar.select v1432 v1433 v1427
  let c1_i32_960 : BitVec 32 := 1#32
  let v1435 : BitVec 32 := Scalar.muli v1434 c1_i32_960
  let v1436 : BitVec 32 := Scalar.addi c0_i32_961 v1435
  v1436.toNat
def k0_dev55 (d0 : Dev nD) : Nat :=
  let c0_i32_976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_966 : BitVec 32 := 10#32
  let v1445 : BitVec 32 := Scalar.addi v2 c10_i32_966
  let c16_i32_967 : BitVec 32 := 16#32
  let c0_i32_968 : BitVec 32 := 0#32
  let v1446 : BitVec 1 := Scalar.cmpi .eq c16_i32_967 c0_i32_968
  let c1_i32_969 : BitVec 32 := 1#32
  let v1447 : BitVec 32 := Scalar.select v1446 c1_i32_969 c16_i32_967
  let v1448 : BitVec 32 := Scalar.remsi v1445 v1447
  let c0_i32_971 : BitVec 32 := 0#32
  let v1450 : BitVec 1 := Scalar.cmpi .slt v1448 c0_i32_971
  let c0_i32_972 : BitVec 32 := 0#32
  let v1451 : BitVec 1 := Scalar.cmpi .slt v1447 c0_i32_972
  let v1452 : BitVec 1 := Scalar.xori v1450 v1451
  let c0_i32_970 : BitVec 32 := 0#32
  let v1449 : BitVec 1 := Scalar.cmpi .ne v1448 c0_i32_970
  let v1453 : BitVec 1 := Scalar.andi v1452 v1449
  let v1454 : BitVec 32 := Scalar.addi v1448 v1447
  let v1455 : BitVec 32 := Scalar.select v1453 v1454 v1448
  let c1_i32_975 : BitVec 32 := 1#32
  let v1456 : BitVec 32 := Scalar.muli v1455 c1_i32_975
  let v1457 : BitVec 32 := Scalar.addi c0_i32_976 v1456
  v1457.toNat
def k0_dev56 (d0 : Dev nD) : Nat :=
  let c0_i32_991 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_981 : BitVec 32 := 11#32
  let v1466 : BitVec 32 := Scalar.addi v2 c11_i32_981
  let c16_i32_982 : BitVec 32 := 16#32
  let c0_i32_983 : BitVec 32 := 0#32
  let v1467 : BitVec 1 := Scalar.cmpi .eq c16_i32_982 c0_i32_983
  let c1_i32_984 : BitVec 32 := 1#32
  let v1468 : BitVec 32 := Scalar.select v1467 c1_i32_984 c16_i32_982
  let v1469 : BitVec 32 := Scalar.remsi v1466 v1468
  let c0_i32_986 : BitVec 32 := 0#32
  let v1471 : BitVec 1 := Scalar.cmpi .slt v1469 c0_i32_986
  let c0_i32_987 : BitVec 32 := 0#32
  let v1472 : BitVec 1 := Scalar.cmpi .slt v1468 c0_i32_987
  let v1473 : BitVec 1 := Scalar.xori v1471 v1472
  let c0_i32_985 : BitVec 32 := 0#32
  let v1470 : BitVec 1 := Scalar.cmpi .ne v1469 c0_i32_985
  let v1474 : BitVec 1 := Scalar.andi v1473 v1470
  let v1475 : BitVec 32 := Scalar.addi v1469 v1468
  let v1476 : BitVec 32 := Scalar.select v1474 v1475 v1469
  let c1_i32_990 : BitVec 32 := 1#32
  let v1477 : BitVec 32 := Scalar.muli v1476 c1_i32_990
  let v1478 : BitVec 32 := Scalar.addi c0_i32_991 v1477
  v1478.toNat
def k0_dev57 (d0 : Dev nD) : Nat :=
  let c0_i32_1006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_996 : BitVec 32 := 12#32
  let v1487 : BitVec 32 := Scalar.addi v2 c12_i32_996
  let c16_i32_997 : BitVec 32 := 16#32
  let c0_i32_998 : BitVec 32 := 0#32
  let v1488 : BitVec 1 := Scalar.cmpi .eq c16_i32_997 c0_i32_998
  let c1_i32_999 : BitVec 32 := 1#32
  let v1489 : BitVec 32 := Scalar.select v1488 c1_i32_999 c16_i32_997
  let v1490 : BitVec 32 := Scalar.remsi v1487 v1489
  let c0_i32_1001 : BitVec 32 := 0#32
  let v1492 : BitVec 1 := Scalar.cmpi .slt v1490 c0_i32_1001
  let c0_i32_1002 : BitVec 32 := 0#32
  let v1493 : BitVec 1 := Scalar.cmpi .slt v1489 c0_i32_1002
  let v1494 : BitVec 1 := Scalar.xori v1492 v1493
  let c0_i32_1000 : BitVec 32 := 0#32
  let v1491 : BitVec 1 := Scalar.cmpi .ne v1490 c0_i32_1000
  let v1495 : BitVec 1 := Scalar.andi v1494 v1491
  let v1496 : BitVec 32 := Scalar.addi v1490 v1489
  let v1497 : BitVec 32 := Scalar.select v1495 v1496 v1490
  let c1_i32_1005 : BitVec 32 := 1#32
  let v1498 : BitVec 32 := Scalar.muli v1497 c1_i32_1005
  let v1499 : BitVec 32 := Scalar.addi c0_i32_1006 v1498
  v1499.toNat
def k0_dev58 (d0 : Dev nD) : Nat :=
  let c0_i32_1021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1011 : BitVec 32 := 13#32
  let v1508 : BitVec 32 := Scalar.addi v2 c13_i32_1011
  let c16_i32_1012 : BitVec 32 := 16#32
  let c0_i32_1013 : BitVec 32 := 0#32
  let v1509 : BitVec 1 := Scalar.cmpi .eq c16_i32_1012 c0_i32_1013
  let c1_i32_1014 : BitVec 32 := 1#32
  let v1510 : BitVec 32 := Scalar.select v1509 c1_i32_1014 c16_i32_1012
  let v1511 : BitVec 32 := Scalar.remsi v1508 v1510
  let c0_i32_1016 : BitVec 32 := 0#32
  let v1513 : BitVec 1 := Scalar.cmpi .slt v1511 c0_i32_1016
  let c0_i32_1017 : BitVec 32 := 0#32
  let v1514 : BitVec 1 := Scalar.cmpi .slt v1510 c0_i32_1017
  let v1515 : BitVec 1 := Scalar.xori v1513 v1514
  let c0_i32_1015 : BitVec 32 := 0#32
  let v1512 : BitVec 1 := Scalar.cmpi .ne v1511 c0_i32_1015
  let v1516 : BitVec 1 := Scalar.andi v1515 v1512
  let v1517 : BitVec 32 := Scalar.addi v1511 v1510
  let v1518 : BitVec 32 := Scalar.select v1516 v1517 v1511
  let c1_i32_1020 : BitVec 32 := 1#32
  let v1519 : BitVec 32 := Scalar.muli v1518 c1_i32_1020
  let v1520 : BitVec 32 := Scalar.addi c0_i32_1021 v1519
  v1520.toNat
def k0_dev59 (d0 : Dev nD) : Nat :=
  let c0_i32_1036 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1026 : BitVec 32 := 14#32
  let v1529 : BitVec 32 := Scalar.addi v2 c14_i32_1026
  let c16_i32_1027 : BitVec 32 := 16#32
  let c0_i32_1028 : BitVec 32 := 0#32
  let v1530 : BitVec 1 := Scalar.cmpi .eq c16_i32_1027 c0_i32_1028
  let c1_i32_1029 : BitVec 32 := 1#32
  let v1531 : BitVec 32 := Scalar.select v1530 c1_i32_1029 c16_i32_1027
  let v1532 : BitVec 32 := Scalar.remsi v1529 v1531
  let c0_i32_1031 : BitVec 32 := 0#32
  let v1534 : BitVec 1 := Scalar.cmpi .slt v1532 c0_i32_1031
  let c0_i32_1032 : BitVec 32 := 0#32
  let v1535 : BitVec 1 := Scalar.cmpi .slt v1531 c0_i32_1032
  let v1536 : BitVec 1 := Scalar.xori v1534 v1535
  let c0_i32_1030 : BitVec 32 := 0#32
  let v1533 : BitVec 1 := Scalar.cmpi .ne v1532 c0_i32_1030
  let v1537 : BitVec 1 := Scalar.andi v1536 v1533
  let v1538 : BitVec 32 := Scalar.addi v1532 v1531
  let v1539 : BitVec 32 := Scalar.select v1537 v1538 v1532
  let c1_i32_1035 : BitVec 32 := 1#32
  let v1540 : BitVec 32 := Scalar.muli v1539 c1_i32_1035
  let v1541 : BitVec 32 := Scalar.addi c0_i32_1036 v1540
  v1541.toNat
def k0_dev60 (d0 : Dev nD) : Nat :=
  let c0_i32_1051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1041 : BitVec 32 := 15#32
  let v1550 : BitVec 32 := Scalar.addi v2 c15_i32_1041
  let c16_i32_1042 : BitVec 32 := 16#32
  let c0_i32_1043 : BitVec 32 := 0#32
  let v1551 : BitVec 1 := Scalar.cmpi .eq c16_i32_1042 c0_i32_1043
  let c1_i32_1044 : BitVec 32 := 1#32
  let v1552 : BitVec 32 := Scalar.select v1551 c1_i32_1044 c16_i32_1042
  let v1553 : BitVec 32 := Scalar.remsi v1550 v1552
  let c0_i32_1046 : BitVec 32 := 0#32
  let v1555 : BitVec 1 := Scalar.cmpi .slt v1553 c0_i32_1046
  let c0_i32_1047 : BitVec 32 := 0#32
  let v1556 : BitVec 1 := Scalar.cmpi .slt v1552 c0_i32_1047
  let v1557 : BitVec 1 := Scalar.xori v1555 v1556
  let c0_i32_1045 : BitVec 32 := 0#32
  let v1554 : BitVec 1 := Scalar.cmpi .ne v1553 c0_i32_1045
  let v1558 : BitVec 1 := Scalar.andi v1557 v1554
  let v1559 : BitVec 32 := Scalar.addi v1553 v1552
  let v1560 : BitVec 32 := Scalar.select v1558 v1559 v1553
  let c1_i32_1050 : BitVec 32 := 1#32
  let v1561 : BitVec 32 := Scalar.muli v1560 c1_i32_1050
  let v1562 : BitVec 32 := Scalar.addi c0_i32_1051 v1561
  v1562.toNat
abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x768 : Shape := ⟨2, ![512, 768]⟩
abbrev S768x8192 : Shape := ⟨2, ![768, 8192]⟩
abbrev S768x16x128 : Shape := ⟨3, ![768, 16, 128]⟩
abbrev S8192x768 : Shape := ⟨2, ![8192, 768]⟩
abbrev S2x256x768 : Shape := ⟨3, ![2, 256, 768]⟩
abbrev S768x2048 : Shape := ⟨2, ![768, 2048]⟩
abbrev S2x256x8192 : Shape := ⟨3, ![2, 256, 8192]⟩
abbrev S2x256x128x64 : Shape := ⟨4, ![2, 256, 128, 64]⟩
abbrev S2x256x2048 : Shape := ⟨3, ![2, 256, 2048]⟩
abbrev S2x256x32x64 : Shape := ⟨4, ![2, 256, 32, 64]⟩
abbrev S2x256x32x4x64 : Shape := ⟨5, ![2, 256, 32, 4, 64]⟩
abbrev S_ : Shape := ⟨0, ![]⟩
abbrev S2x128x256x1 : Shape := ⟨4, ![2, 128, 256, 1]⟩
abbrev S2x128x256x256 : Shape := ⟨4, ![2, 128, 256, 256]⟩
abbrev S2x128x256 : Shape := ⟨3, ![2, 128, 256]⟩
abbrev S2x256x128x1 : Shape := ⟨4, ![2, 256, 128, 1]⟩
abbrev S2x128x64x256 : Shape := ⟨4, ![2, 128, 64, 256]⟩

abbrev nBuf : Space → Nat
  | .hbm => 54
  | .vmem => 0
  | .smem => 0
  | _ => 0

abbrev bufTy : (tb : Table) → Fin (tcTables nBuf tb) → BufTy
  | .hbm, ⟨0, _⟩ => ⟨S512x768, .f32⟩
  | .hbm, ⟨1, _⟩ => ⟨S768x8192, .f32⟩
  | .hbm, ⟨2, _⟩ => ⟨S768x16x128, .f32⟩
  | .hbm, ⟨3, _⟩ => ⟨S768x16x128, .f32⟩
  | .hbm, ⟨4, _⟩ => ⟨S8192x768, .f32⟩
  | .hbm, ⟨5, _⟩ => ⟨S2x256x768, .f32⟩
  | .hbm, ⟨6, _⟩ => ⟨S768x2048, .f32⟩
  | .hbm, ⟨7, _⟩ => ⟨S768x2048, .f32⟩
  | .hbm, ⟨8, _⟩ => ⟨S2x256x8192, .f32⟩
  | .hbm, ⟨9, _⟩ => ⟨S2x256x128x64, .f32⟩
  | .hbm, ⟨10, _⟩ => ⟨S2x256x2048, .f32⟩
  | .hbm, ⟨11, _⟩ => ⟨S2x256x32x64, .f32⟩
  | .hbm, ⟨12, _⟩ => ⟨S2x256x2048, .f32⟩
  | .hbm, ⟨13, _⟩ => ⟨S2x256x32x64, .f32⟩
  | .hbm, ⟨14, _⟩ => ⟨S2x256x32x4x64, .f32⟩
  | .hbm, ⟨15, _⟩ => ⟨S2x256x128x64, .f32⟩
  | .hbm, ⟨16, _⟩ => ⟨S2x256x32x4x64, .f32⟩
  | .hbm, ⟨17, _⟩ => ⟨S2x256x128x64, .f32⟩
  | .hbm, ⟨18, _⟩ => ⟨S_, .f32⟩
  | .hbm, ⟨19, _⟩ => ⟨S2x256x128x64, .f32⟩
  | .hbm, ⟨20, _⟩ => ⟨S_, .f32⟩
  | .hbm, ⟨21, _⟩ => ⟨S2x128x256x1, .f32⟩
  | .hbm, ⟨22, _⟩ => ⟨S_, .f32⟩
  | .hbm, ⟨23, _⟩ => ⟨S2x128x256x1, .f32⟩
  | .hbm, ⟨24, _⟩ => ⟨S2x128x256x256, .f32⟩
  | .hbm, ⟨25, _⟩ => ⟨S_, .f32⟩
  | .hbm, ⟨26, _⟩ => ⟨S2x128x256x256, .f32⟩
  | .hbm, ⟨27, _⟩ => ⟨S2x128x256x256, .f32⟩
  | .hbm, ⟨28, _⟩ => ⟨S_, .f32⟩
  | .hbm, ⟨29, _⟩ => ⟨S2x128x256, .f32⟩
  | .hbm, ⟨30, _⟩ => ⟨S2x128x256x1, .f32⟩
  | .hbm, ⟨31, _⟩ => ⟨S2x128x256x1, .f32⟩
  | .hbm, ⟨32, _⟩ => ⟨S2x128x256x1, .f32⟩
  | .hbm, ⟨33, _⟩ => ⟨S2x128x256x1, .f32⟩
  | .hbm, ⟨34, _⟩ => ⟨S2x128x256x256, .f32⟩
  | .hbm, ⟨35, _⟩ => ⟨S2x128x256x256, .f32⟩
  | .hbm, ⟨36, _⟩ => ⟨S2x128x256x256, .f32⟩
  | .hbm, ⟨37, _⟩ => ⟨S2x128x256x1, .f32⟩
  | .hbm, ⟨38, _⟩ => ⟨S_, .f32⟩
  | .hbm, ⟨39, _⟩ => ⟨S2x128x256, .f32⟩
  | .hbm, ⟨40, _⟩ => ⟨S2x128x256x1, .f32⟩
  | .hbm, ⟨41, _⟩ => ⟨S2x128x256x1, .f32⟩
  | .hbm, ⟨42, _⟩ => ⟨S2x256x128x1, .f32⟩
  | .hbm, ⟨43, _⟩ => ⟨S2x256x128x64, .f32⟩
  | .hbm, ⟨44, _⟩ => ⟨S2x256x128x64, .f32⟩
  | .hbm, ⟨45, _⟩ => ⟨S2x128x64x256, .f32⟩
  | .hbm, ⟨46, _⟩ => ⟨S2x256x128x64, .f32⟩
  | .hbm, ⟨47, _⟩ => ⟨S2x256x128x64, .f32⟩
  | .hbm, ⟨48, _⟩ => ⟨S2x256x128x1, .f32⟩
  | .hbm, ⟨49, _⟩ => ⟨S2x256x128x64, .f32⟩
  | .hbm, ⟨50, _⟩ => ⟨S2x256x128x64, .f32⟩
  | .hbm, ⟨51, _⟩ => ⟨S2x256x8192, .f32⟩
  | .hbm, ⟨52, _⟩ => ⟨S2x256x768, .f32⟩
  | .hbm, ⟨53, _⟩ => ⟨S512x768, .f32⟩
  | _, _ => ⟨S512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Proof.KernelIdealProgram.lean ====
module

public import proofs.«01_k».proof.Proof.Gen.KernelIdeal.Skeleton
public import proofs.«01_k».proof.Proof.Gen.KernelIdeal.Launch

@[expose] public section

set_option synthInstance.maxSize 4096
set_option maxRecDepth 65536

noncomputable section

/-! # The body as a short program of phases

The printed body is one long sequence. Here the same sequence is written as a few phases — load, compute
one half, signal everybody, wait, send to everybody, … — each a run of fifteen like steps over tables of
the printed devices, offsets and conditions. `body_eq_phases` says that it is the printed body. -/

namespace Cert.KernelIdeal.Hand

open Idealize.ShloMosaic Idealize.SL.Sem
open Cert.KernelIdeal.Gen

variable {F : FTy → Type} [FloatOps F]

/-- The programs one TensorCore runs. -/
abbrev TcProg (F : FTy → Type) (α : Type) := Prog (TpuEff nD τ sig (Elt F) Λ₀ .tc) α

/-- Fifteen steps in order. -/
def run15 (p : Fin 15 → TcProg F PUnit) : TcProg F PUnit := do
  p 0; p 1; p 2; p 3; p 4; p 5; p 6; p 7; p 8; p 9; p 10; p 11; p 12; p 13; p 14

/-- Fifteen steps that pass a value on. -/
def fold15 {α : Type} (p : Fin 15 → α → TcProg F α) (v : α) : TcProg F α := do
  let v ← p 0 v; let v ← p 1 v; let v ← p 2 v; let v ← p 3 v; let v ← p 4 v
  let v ← p 5 v; let v ← p 6 v; let v ← p 7 v; let v ← p 8 v; let v ← p 9 v
  let v ← p 10 v; let v ← p 11 v; let v ← p 12 v; let v ← p 13 v; p 14 v

/-- A step under a condition, then the rest: the rest does not depend on the condition. -/
theorem ite_jp {c : Prop} [Decidable c] {β : Type} (a : c → TcProg F PUnit) (r : TcProg F β) :
    (if h : c then a h >>= fun _ => r else r) = (if h : c then a h else pure ⟨⟩) >>= fun _ => r := by
  split <;> rfl

/-! ## The tables -/

/-- A fact of fifteen indices from its fifteen instances. -/
theorem all15 {P : Fin 15 → Prop} (h0 : P 0) (h1 : P 1) (h2 : P 2) (h3 : P 3) (h4 : P 4) (h5 : P 5) (h6 : P 6) (h7 : P 7)
    (h8 : P 8) (h9 : P 9) (h10 : P 10) (h11 : P 11) (h12 : P 12) (h13 : P 13) (h14 : P 14) : ∀ k, P k := by
  intro k; fin_cases k <;> assumption

theorem inb16 (k : Fin 15) : ∀ a, (![k.val + 1] : Fin 1 → Nat) a + S1.size a ≤ S16.size a := by
  revert k; decide

/-- Semaphore `k + 1` of an array of sixteen. -/
abbrev semAt (A : DmaSems sig S16) (k : Fin 15) : DmaSem sig :=
  ((A.slice (Rect.unit (s := S16) ![k.val + 1] S1.size (inb16 k))).squeeze S_ squeezes_S1_S_).sem

/-- The device each of the fifteen signals goes to. -/
def sigDev (d0 : Dev nD) : Fin 15 → Nat :=
  ![k0_dev1 d0, k0_dev2 d0, k0_dev3 d0, k0_dev4 d0, k0_dev5 d0, k0_dev6 d0, k0_dev7 d0, k0_dev8 d0, k0_dev9 d0,
    k0_dev10 d0, k0_dev11 d0, k0_dev12 d0, k0_dev13 d0, k0_dev14 d0, k0_dev15 d0]

theorem sigDev_lt (d0 : Dev nD) : ∀ k, sigDev d0 k < nD :=
  all15 (k0_dev1_lt d0)
    (k0_dev2_lt d0)
    (k0_dev3_lt d0)
    (k0_dev4_lt d0)
    (k0_dev5_lt d0)
    (k0_dev6_lt d0)
    (k0_dev7_lt d0)
    (k0_dev8_lt d0)
    (k0_dev9_lt d0)
    (k0_dev10_lt d0)
    (k0_dev11_lt d0)
    (k0_dev12_lt d0)
    (k0_dev13_lt d0)
    (k0_dev14_lt d0)
    (k0_dev15_lt d0)

/-- The conditions of the first pass of transfers. -/
def cond1 (d0 : Dev nD) : Fin 15 → BitVec 1 :=
  ![k0_cond3 d0, k0_cond4 d0, k0_cond5 d0, k0_cond6 d0, k0_cond7 d0, k0_cond8 d0, k0_cond9 d0, k0_cond10 d0, k0_cond11 d0, k0_cond12 d0, k0_cond13 d0, k0_cond14 d0, k0_cond15 d0, k0_cond16 d0, k0_cond17 d0]

/-- The devices of the first pass of transfers. -/
def rsDev1 (d0 : Dev nD) : Fin 15 → Nat :=
  ![k0_dev16 d0, k0_dev17 d0, k0_dev18 d0, k0_dev19 d0, k0_dev20 d0, k0_dev21 d0, k0_dev22 d0, k0_dev23 d0, k0_dev24 d0, k0_dev25 d0, k0_dev26 d0, k0_dev27 d0, k0_dev28 d0, k0_dev29 d0, k0_dev30 d0]

/-- Where the first pass of transfers writes. -/
def dstOff1 (d0 : Dev nD) : Fin 15 → Fin 2 → Nat :=
  ![k0_off2 d0, k0_off4 d0, k0_off6 d0, k0_off8 d0, k0_off10 d0, k0_off12 d0, k0_off14 d0, k0_off16 d0, k0_off18 d0, k0_off20 d0, k0_off22 d0, k0_off24 d0, k0_off26 d0, k0_off28 d0, k0_off30 d0]

/-- Where the first pass of transfers reads. -/
def srcOff1 (d0 : Dev nD) : Fin 15 → Fin 2 → Nat :=
  ![k0_off3 d0, k0_off5 d0, k0_off7 d0, k0_off9 d0, k0_off11 d0, k0_off13 d0, k0_off15 d0, k0_off17 d0, k0_off19 d0, k0_off21 d0, k0_off23 d0, k0_off25 d0, k0_off27 d0, k0_off29 d0, k0_off31 d0]

theorem rsDev1_lt (d0 : Dev nD) : ∀ k, (h : cond1 d0 k = 1#1) → rsDev1 d0 k < nD :=
  all15 (fun h => k0_dev16_lt d0 h)
    (fun h => k0_dev17_lt d0 h)
    (fun h => k0_dev18_lt d0 h)
    (fun h => k0_dev19_lt d0 h)
    (fun h => k0_dev20_lt d0 h)
    (fun h => k0_dev21_lt d0 h)
    (fun h => k0_dev22_lt d0 h)
    (fun h => k0_dev23_lt d0 h)
    (fun h => k0_dev24_lt d0 h)
    (fun h => k0_dev25_lt d0 h)
    (fun h => k0_dev26_lt d0 h)
    (fun h => k0_dev27_lt d0 h)
    (fun h => k0_dev28_lt d0 h)
    (fun h => k0_dev29_lt d0 h)
    (fun h => k0_dev30_lt d0 h)

theorem dstOff1_inb (d0 : Dev nD) : ∀ k, (h : cond1 d0 k = 1#1) → ∀ a, dstOff1 d0 k a + S32x768.size a ≤ S512x768.size a :=
  all15 (fun h => k0_off2_inb d0 h)
    (fun h => k0_off4_inb d0 h)
    (fun h => k0_off6_inb d0 h)
    (fun h => k0_off8_inb d0 h)
    (fun h => k0_off10_inb d0 h)
    (fun h => k0_off12_inb d0 h)
    (fun h => k0_off14_inb d0 h)
    (fun h => k0_off16_inb d0 h)
    (fun h => k0_off18_inb d0 h)
    (fun h => k0_off20_inb d0 h)
    (fun h => k0_off22_inb d0 h)
    (fun h => k0_off24_inb d0 h)
    (fun h => k0_off26_inb d0 h)
    (fun h => k0_off28_inb d0 h)
    (fun h => k0_off30_inb d0 h)

theorem dstOff1_words (d0 : Dev nD) : ∀ k, (h : cond1 d0 k = 1#1) → (Rect.unit (s := S512x768) (dstOff1 d0 k) S32x768.size (dstOff1_inb d0 k h)).WholeWords (EltTy.packing .bf16) :=
  all15 (fun h => k0_off2_wordsbf16 d0 h)
    (fun h => k0_off4_wordsbf16 d0 h)
    (fun h => k0_off6_wordsbf16 d0 h)
    (fun h => k0_off8_wordsbf16 d0 h)
    (fun h => k0_off10_wordsbf16 d0 h)
    (fun h => k0_off12_wordsbf16 d0 h)
    (fun h => k0_off14_wordsbf16 d0 h)
    (fun h => k0_off16_wordsbf16 d0 h)
    (fun h => k0_off18_wordsbf16 d0 h)
    (fun h => k0_off20_wordsbf16 d0 h)
    (fun h => k0_off22_wordsbf16 d0 h)
    (fun h => k0_off24_wordsbf16 d0 h)
    (fun h => k0_off26_wordsbf16 d0 h)
    (fun h => k0_off28_wordsbf16 d0 h)
    (fun h => k0_off30_wordsbf16 d0 h)

theorem srcOff1_inb (d0 : Dev nD) : ∀ k, (h : cond1 d0 k = 1#1) → ∀ a, srcOff1 d0 k a + S32x768.size a ≤ S512x768.size a :=
  all15 (fun h => k0_off3_inb d0 h)
    (fun h => k0_off5_inb d0 h)
    (fun h => k0_off7_inb d0 h)
    (fun h => k0_off9_inb d0 h)
    (fun h => k0_off11_inb d0 h)
    (fun h => k0_off13_inb d0 h)
    (fun h => k0_off15_inb d0 h)
    (fun h => k0_off17_inb d0 h)
    (fun h => k0_off19_inb d0 h)
    (fun h => k0_off21_inb d0 h)
    (fun h => k0_off23_inb d0 h)
    (fun h => k0_off25_inb d0 h)
    (fun h => k0_off27_inb d0 h)
    (fun h => k0_off29_inb d0 h)
    (fun h => k0_off31_inb d0 h)

theorem srcOff1_words (d0 : Dev nD) : ∀ k, (h : cond1 d0 k = 1#1) → (Rect.unit (s := S512x768) (srcOff1 d0 k) S32x768.size (srcOff1_inb d0 k h)).WholeWords (EltTy.packing .bf16) :=
  all15 (fun h => k0_off3_wordsbf16 d0 h)
    (fun h => k0_off5_wordsbf16 d0 h)
    (fun h => k0_off7_wordsbf16 d0 h)
    (fun h => k0_off9_wordsbf16 d0 h)
    (fun h => k0_off11_wordsbf16 d0 h)
    (fun h => k0_off13_wordsbf16 d0 h)
    (fun h => k0_off15_wordsbf16 d0 h)
    (fun h => k0_off17_wordsbf16 d0 h)
    (fun h => k0_off19_wordsbf16 d0 h)
    (fun h => k0_off21_wordsbf16 d0 h)
    (fun h => k0_off23_wordsbf16 d0 h)
    (fun h => k0_off25_wordsbf16 d0 h)
    (fun h => k0_off27_wordsbf16 d0 h)
    (fun h => k0_off29_wordsbf16 d0 h)
    (fun h => k0_off31_wordsbf16 d0 h)

/-- The conditions of the second pass of transfers. -/
def cond2 (d0 : Dev nD) : Fin 15 → BitVec 1 :=
  ![k0_cond20 d0, k0_cond21 d0, k0_cond22 d0, k0_cond23 d0, k0_cond24 d0, k0_cond25 d0, k0_cond26 d0, k0_cond27 d0, k0_cond28 d0, k0_cond29 d0, k0_cond30 d0, k0_cond31 d0, k0_cond32 d0, k0_cond33 d0, k0_cond34 d0]

/-- The devices of the second pass of transfers. -/
def rsDev2 (d0 : Dev nD) : Fin 15 → Nat :=
  ![k0_dev31 d0, k0_dev32 d0, k0_dev33 d0, k0_dev34 d0, k0_dev35 d0, k0_dev36 d0, k0_dev37 d0, k0_dev38 d0, k0_dev39 d0, k0_dev40 d0, k0_dev41 d0, k0_dev42 d0, k0_dev43 d0, k0_dev44 d0, k0_dev45 d0]

/-- Where the second pass of transfers writes. -/
def dstOff2 (d0 : Dev nD) : Fin 15 → Fin 2 → Nat :=
  ![k0_off32 d0, k0_off34 d0, k0_off36 d0, k0_off38 d0, k0_off40 d0, k0_off42 d0, k0_off44 d0, k0_off46 d0, k0_off48 d0, k0_off50 d0, k0_off52 d0, k0_off54 d0, k0_off56 d0, k0_off58 d0, k0_off60 d0]

/-- Where the second pass of transfers reads. -/
def srcOff2 (d0 : Dev nD) : Fin 15 → Fin 2 → Nat :=
  ![k0_off33 d0, k0_off35 d0, k0_off37 d0, k0_off39 d0, k0_off41 d0, k0_off43 d0, k0_off45 d0, k0_off47 d0, k0_off49 d0, k0_off51 d0, k0_off53 d0, k0_off55 d0, k0_off57 d0, k0_off59 d0, k0_off61 d0]

theorem rsDev2_lt (d0 : Dev nD) : ∀ k, (h : cond2 d0 k = 1#1) → rsDev2 d0 k < nD :=
  all15 (fun h => k0_dev31_lt d0 h)
    (fun h => k0_dev32_lt d0 h)
    (fun h => k0_dev33_lt d0 h)
    (fun h => k0_dev34_lt d0 h)
    (fun h => k0_dev35_lt d0 h)
    (fun h => k0_dev36_lt d0 h)
    (fun h => k0_dev37_lt d0 h)
    (fun h => k0_dev38_lt d0 h)
    (fun h => k0_dev39_lt d0 h)
    (fun h => k0_dev40_lt d0 h)
    (fun h => k0_dev41_lt d0 h)
    (fun h => k0_dev42_lt d0 h)
    (fun h => k0_dev43_lt d0 h)
    (fun h => k0_dev44_lt d0 h)
    (fun h => k0_dev45_lt d0 h)

theorem dstOff2_inb (d0 : Dev nD) : ∀ k, (h : cond2 d0 k = 1#1) → ∀ a, dstOff2 d0 k a + S32x768.size a ≤ S512x768.size a :=
  all15 (fun h => k0_off32_inb d0 h)
    (fun h => k0_off34_inb d0 h)
    (fun h => k0_off36_inb d0 h)
    (fun h => k0_off38_inb d0 h)
    (fun h => k0_off40_inb d0 h)
    (fun h => k0_off42_inb d0 h)
    (fun h => k0_off44_inb d0 h)
    (fun h => k0_off46_inb d0 h)
    (fun h => k0_off48_inb d0 h)
    (fun h => k0_off50_inb d0 h)
    (fun h => k0_off52_inb d0 h)
    (fun h => k0_off54_inb d0 h)
    (fun h => k0_off56_inb d0 h)
    (fun h => k0_off58_inb d0 h)
    (fun h => k0_off60_inb d0 h)

theorem dstOff2_words (d0 : Dev nD) : ∀ k, (h : cond2 d0 k = 1#1) → (Rect.unit (s := S512x768) (dstOff2 d0 k) S32x768.size (dstOff2_inb d0 k h)).WholeWords (EltTy.packing .bf16) :=
  all15 (fun h => k0_off32_wordsbf16 d0 h)
    (fun h => k0_off34_wordsbf16 d0 h)
    (fun h => k0_off36_wordsbf16 d0 h)
    (fun h => k0_off38_wordsbf16 d0 h)
    (fun h => k0_off40_wordsbf16 d0 h)
    (fun h => k0_off42_wordsbf16 d0 h)
    (fun h => k0_off44_wordsbf16 d0 h)
    (fun h => k0_off46_wordsbf16 d0 h)
    (fun h => k0_off48_wordsbf16 d0 h)
    (fun h => k0_off50_wordsbf16 d0 h)
    (fun h => k0_off52_wordsbf16 d0 h)
    (fun h => k0_off54_wordsbf16 d0 h)
    (fun h => k0_off56_wordsbf16 d0 h)
    (fun h => k0_off58_wordsbf16 d0 h)
    (fun h => k0_off60_wordsbf16 d0 h)

theorem srcOff2_inb (d0 : Dev nD) : ∀ k, (h : cond2 d0 k = 1#1) → ∀ a, srcOff2 d0 k a + S32x768.size a ≤ S512x768.size a :=
  all15 (fun h => k0_off33_inb d0 h)
    (fun h => k0_off35_inb d0 h)
    (fun h => k0_off37_inb d0 h)
    (fun h => k0_off39_inb d0 h)
    (fun h => k0_off41_inb d0 h)
    (fun h => k0_off43_inb d0 h)
    (fun h => k0_off45_inb d0 h)
    (fun h => k0_off47_inb d0 h)
    (fun h => k0_off49_inb d0 h)
    (fun h => k0_off51_inb d0 h)
    (fun h => k0_off53_inb d0 h)
    (fun h => k0_off55_inb d0 h)
    (fun h => k0_off57_inb d0 h)
    (fun h => k0_off59_inb d0 h)
    (fun h => k0_off61_inb d0 h)

theorem srcOff2_words (d0 : Dev nD) : ∀ k, (h : cond2 d0 k = 1#1) → (Rect.unit (s := S512x768) (srcOff2 d0 k) S32x768.size (srcOff2_inb d0 k h)).WholeWords (EltTy.packing .bf16) :=
  all15 (fun h => k0_off33_wordsbf16 d0 h)
    (fun h => k0_off35_wordsbf16 d0 h)
    (fun h => k0_off37_wordsbf16 d0 h)
    (fun h => k0_off39_wordsbf16 d0 h)
    (fun h => k0_off41_wordsbf16 d0 h)
    (fun h => k0_off43_wordsbf16 d0 h)
    (fun h => k0_off45_wordsbf16 d0 h)
    (fun h => k0_off47_wordsbf16 d0 h)
    (fun h => k0_off49_wordsbf16 d0 h)
    (fun h => k0_off51_wordsbf16 d0 h)
    (fun h => k0_off53_wordsbf16 d0 h)
    (fun h => k0_off55_wordsbf16 d0 h)
    (fun h => k0_off57_wordsbf16 d0 h)
    (fun h => k0_off59_wordsbf16 d0 h)
    (fun h => k0_off61_wordsbf16 d0 h)

theorem ha0 (j : Fin 8) : ∀ a, (![0, 64 * j.val] : Fin 2 → Nat) a + S256x64.size a ≤ S512x512.size a := by
  revert j; decide

theorem ha256 (j : Fin 8) : ∀ a, (![256, 64 * j.val] : Fin 2 → Nat) a + S256x64.size a ≤ S512x512.size a := by
  revert j; decide

/-- The reduced rows rounded for the gathering. -/
def rounded (v : FVec F S32x768 .f32) : FVec F S32x768 .bf16 :=
  shapeCast S32x768 (truncf .bf16 v bitsLt_bf16_f32) shapeCasts_S32x768_S32x768

/-- The device each of the fifteen transfers of the gathering goes to. -/
def agDev (d0 : Dev nD) : Fin 15 → Nat :=
  ![k0_dev46 d0, k0_dev47 d0, k0_dev48 d0, k0_dev49 d0, k0_dev50 d0, k0_dev51 d0, k0_dev52 d0, k0_dev53 d0, k0_dev54 d0,
    k0_dev55 d0, k0_dev56 d0, k0_dev57 d0, k0_dev58 d0, k0_dev59 d0, k0_dev60 d0]

theorem agDev_lt (d0 : Dev nD) : ∀ k, agDev d0 k < nD :=
  all15 (k0_dev46_lt d0)
    (k0_dev47_lt d0)
    (k0_dev48_lt d0)
    (k0_dev49_lt d0)
    (k0_dev50_lt d0)
    (k0_dev51_lt d0)
    (k0_dev52_lt d0)
    (k0_dev53_lt d0)
    (k0_dev54_lt d0)
    (k0_dev55_lt d0)
    (k0_dev56_lt d0)
    (k0_dev57_lt d0)
    (k0_dev58_lt d0)
    (k0_dev59_lt d0)
    (k0_dev60_lt d0)

/-- The device is even: it computes its second half first. -/
abbrev evenBit (d0 : Dev nD) : BitVec 1 :=
  Scalar.cmpi .eq (Scalar.andi (Scalar.remsi (Scalar.divsi (Dev.word d0) 1#32) 16#32) 1#32) 0#32

/-- The condition under which the second half comes first. -/
abbrev hiFirst (d0 : Dev nD) : BitVec 1 := Scalar.cmpi .ne (Scalar.extui (evenBit d0)) 0#32

/-- The condition under which the first half comes first. -/
abbrev loFirst (d0 : Dev nD) : BitVec 1 := Scalar.cmpi .ne (Scalar.extui (Scalar.xori (evenBit d0) 1#1)) 0#32

/-! ## The steps -/

section Steps

variable (arg0 : Memref sig .tc .vmem S512x768 .f32) (harg0 : arg0.IsWhole) (arg1 : Memref sig .tc .vmem S768x512 .f32) (harg1 : arg1.IsWhole)
  (arg2 : Memref sig .tc .vmem S512x768 .f32) (harg2 : arg2.IsWhole) (arg3 : Memref sig .tc .vmem S768x16x128 .f32) (harg3 : arg3.IsWhole)
  (arg4 : Memref sig .tc .vmem S768x16x128 .f32) (harg4 : arg4.IsWhole) (arg5 : Memref sig .tc .vmem S512x768 .f32) (harg5 : arg5.IsWhole)
  (arg6 : Memref sig .tc .vmem S512x512 .f32) (harg6 : arg6.IsWhole) (arg7 : Memref sig .tc .vmem S512x768 .f32) (harg7 : arg7.IsWhole)
  (arg8 : Memref sig .tc .vmem S512x768 .bf16) (harg8 : arg8.IsWhole) (arg9 : Memref sig .tc .vmem S512x768 .bf16) (harg9 : arg9.IsWhole)
  (arg10 : Memref sig .tc .vmem S512x768 .bf16) (harg10 : arg10.IsWhole)
  (arg11 : DmaSems sig S16) (arg12 : DmaSems sig S16) (arg13 : DmaSems sig S16) (arg14 : DmaSems sig S16)

/-- A dead load of one 64-column strip of the attention buffer, then its store. -/
def stripStep (r0 c0 : Nat) (hi : ∀ a, (![r0, c0] : Fin 2 → Nat) a + S256x64.size a ≤ S512x512.size a) (v : FVec F S256x64 .f32) :
    TcProg F PUnit := do
  let _ : Vec F S256x64 .f32 ← Prog.lift (.load arg6 (Rect.unit (s := S512x512) ![r0, c0] S256x64.size hi).toLoadRect (View.loadsAt_vmem h_S256x64))
  Prog.lift (.store arg6 (Rect.unit (s := S512x512) ![r0, c0] S256x64.size hi) v Finset.univ (View.stores_vmem_bits_univ h_S256x64 rfl) (.inl rfl))

/-- One half of the computation: attention of 256 rows strip by strip, the projection into the accumulator,
    its rounding into the send buffer. -/
def half (r0 : Nat) (hx : ∀ a, (![r0, 0] : Fin 2 → Nat) a + S256x768.size a ≤ S512x768.size a)
    (ha : ∀ j : Fin 8, ∀ a, (![r0, 64 * j.val] : Fin 2 → Nat) a + S256x64.size a ≤ S512x512.size a)
    (hA : ∀ a, (![r0, 0] : Fin 2 → Nat) a + S256x512.size a ≤ S512x512.size a)
    (hw : (Rect.unit (s := S512x768) ![r0, 0] S256x768.size hx).PackedRows (EltTy.packing .bf16))
    (v5 : FVec F S768x512 .bf16) (v8 : FVec F S512x768 .bf16) (v12 v16 : FVec F S768x128 .bf16) : TcProg F PUnit := do
  let x : Vec F S256x768 .f32 ← Prog.lift (.load arg0 (Rect.unit (s := S512x768) ![r0, 0] S256x768.size hx).toLoadRect (View.loadsAt_vmem h_S256x768))
  stripStep arg6 r0 0 (ha 0) (k0_pay6 v5 v12 v16 x)
  stripStep arg6 r0 64 (ha 1) (k0_pay7 v5 v12 v16 x)
  stripStep arg6 r0 128 (ha 2) (k0_pay8 v5 v12 v16 x)
  stripStep arg6 r0 192 (ha 3) (k0_pay9 (k0_pay5 v5 v12 v16 x))
  stripStep arg6 r0 256 (ha 4) (k0_pay11 (k0_pay2 v5 x) (k0_pay3 v12 x) (k0_pay4 v16 x))
  stripStep arg6 r0 320 (ha 5) (k0_pay12 (k0_pay2 v5 x) (k0_pay3 v12 x) (k0_pay4 v16 x))
  stripStep arg6 r0 384 (ha 6) (k0_pay13 (k0_pay2 v5 x) (k0_pay3 v12 x) (k0_pay4 v16 x))
  stripStep arg6 r0 448 (ha 7) (k0_pay61 (k0_pay14 (k0_pay2 v5 x) (k0_pay3 v12 x) (k0_pay4 v16 x)))
  let a : Vec F S256x512 .f32 ← Prog.lift (.load arg6 (Rect.unit (s := S512x512) ![r0, 0] S256x512.size hA).toLoadRect (View.loadsAt_vmem h_S256x512))
  let _ : Vec F S256x768 .f32 ← Prog.lift (.load arg7 (Rect.unit (s := S512x768) ![r0, 0] S256x768.size hx).toLoadRect (View.loadsAt_vmem h_S256x768))
  Prog.lift (.store arg7 (Rect.unit (s := S512x768) ![r0, 0] S256x768.size hx) (k0_pay68 v8 a) Finset.univ (View.stores_vmem_bits_univ h_S256x768 rfl) (.inl rfl))
  let y : Vec F S256x768 .f32 ← Prog.lift (.load arg7 (Rect.unit (s := S512x768) ![r0, 0] S256x768.size hx).toLoadRect (View.loadsAt_vmem h_S256x768))
  let _ : Vec F S256x768 .bf16 ← Prog.lift (.load arg8 (Rect.unit (s := S512x768) ![r0, 0] S256x768.size hx).toLoadRect (View.loadsAt_vmem h_S256x768))
  Prog.lift (.store arg8 (Rect.unit (s := S512x768) ![r0, 0] S256x768.size hx) (k0_pay69 y) Finset.univ
    (View.stores_vmem h_S256x768 (harg8.storeExact_slice rfl _ hw) (fun _ => rfl)) (.inl rfl))

/-- One half of the computation under a condition. -/
def halfIf (b : BitVec 1) (r0 : Nat) (hx : ∀ a, (![r0, 0] : Fin 2 → Nat) a + S256x768.size a ≤ S512x768.size a)
    (ha : ∀ j : Fin 8, ∀ a, (![r0, 64 * j.val] : Fin 2 → Nat) a + S256x64.size a ≤ S512x512.size a)
    (hA : ∀ a, (![r0, 0] : Fin 2 → Nat) a + S256x512.size a ≤ S512x512.size a)
    (hw : (Rect.unit (s := S512x768) ![r0, 0] S256x768.size hx).PackedRows (EltTy.packing .bf16))
    (v5 : FVec F S768x512 .bf16) (v8 : FVec F S512x768 .bf16) (v12 v16 : FVec F S768x128 .bf16) : TcProg F PUnit :=
  if h : b = 1#1 then half arg0 arg6 arg7 arg8 harg8 r0 hx ha hA hw v5 v8 v12 v16 else pure ⟨⟩

/-- One signal. -/
def sigStep (n : Nat) (hn : n < nD) : TcProg F PUnit :=
  semSignalWord (⟨n, hn⟩ : Dev nD) (SemArray.scalar (sig.barrier 0 rfl) : Sems sig S_).sem 1#32

/-- One transfer of the reduction: rows of the send buffer to a peer's staging buffer. -/
def rsSend (n : Nat) (hn : n < nD) (sS sD : DmaSem sig) (oS oD : Fin 2 → Nat)
    (hS : ∀ a, oS a + S32x768.size a ≤ S512x768.size a) (hD : ∀ a, oD a + S32x768.size a ≤ S512x768.size a)
    (wS : (Rect.unit (s := S512x768) oS S32x768.size hS).WholeWords (EltTy.packing .bf16))
    (wD : (Rect.unit (s := S512x768) oD S32x768.size hD).WholeWords (EltTy.packing .bf16)) : TcProg F PUnit :=
  Prog.lift (.enqueueDma (arg8.slice (Rect.unit (s := S512x768) oS S32x768.size hS) (fun _ => rfl))
    (.remote (Dev.tc (⟨n, hn⟩ : Dev nD)) (arg9.slice (Rect.unit (s := S512x768) oD S32x768.size hD) (fun _ => rfl)) (.dma sS)) (.dma sD)
    (harg8.wordExact_slice rfl _ wS) (harg9.wordExact_slice rfl _ wD) ⟨⟨rfl, Or.inl rfl⟩, trivial⟩)

/-- One transfer of the gathering: the device's own rows to a peer's gather buffer. -/
def agSend (n : Nat) (hn : n < nD) (sS sD : DmaSem sig) (o : Fin 2 → Nat)
    (ho : ∀ a, o a + S32x768.size a ≤ S512x768.size a)
    (w : (Rect.unit (s := S512x768) o S32x768.size ho).WholeWords (EltTy.packing .bf16)) : TcProg F PUnit :=
  Prog.lift (.enqueueDma (arg10.slice (Rect.unit (s := S512x768) o S32x768.size ho) (fun _ => rfl))
    (.remote (Dev.tc (⟨n, hn⟩ : Dev nD)) (arg10.slice (Rect.unit (s := S512x768) o S32x768.size ho) (fun _ => rfl)) (.dma sS)) (.dma sD)
    (harg10.wordExact_slice rfl _ w) (harg10.wordExact_slice rfl _ w) ⟨⟨rfl, Or.inl rfl⟩, trivial⟩)

/-- A wait for a transfer between two buffers' rows. -/
def waitRows (m m' : Memref sig .tc .vmem S512x768 .bf16) (hm : m.IsWhole) (hm' : m'.IsWhole) (s : DmaSem sig) (o o' : Fin 2 → Nat)
    (ho : ∀ a, o a + S32x768.size a ≤ S512x768.size a) (ho' : ∀ a, o' a + S32x768.size a ≤ S512x768.size a)
    (w : (Rect.unit (s := S512x768) o S32x768.size ho).WholeWords (EltTy.packing .bf16))
    (w' : (Rect.unit (s := S512x768) o' S32x768.size ho').WholeWords (EltTy.packing .bf16)) : TcProg F PUnit :=
  Prog.lift (.waitDma2 s (m.slice (Rect.unit (s := S512x768) o S32x768.size ho) (fun _ => rfl))
    (m'.slice (Rect.unit (s := S512x768) o' S32x768.size ho') (fun _ => rfl)) (hm.wordExact_slice rfl _ w) (hm'.wordExact_slice rfl _ w'))

/-- One step of the reduction: wait for a peer's rows, load them, add. -/
def addStep (d0 : Dev nD) (k : Fin 15) (v : FVec F S32x768 .f32) : TcProg F (FVec F S32x768 .f32) := do
  waitRows arg8 arg9 harg8 harg9 (semAt arg12 k) (k0_off64 d0 (BitVec.ofNat 32 (1 + k.val))) (k0_off63 d0) (k0_off64_inb d0 k) (k0_off63_inb d0)
    (k0_off64_wordsbf16 d0 k) (k0_off63_wordsbf16 d0)
  let y : Vec F S32x768 .bf16 ← Prog.lift (.load arg9 (Rect.unit (s := S512x768) (k0_off65 d0 (BitVec.ofNat 32 (1 + k.val))) S32x768.size (k0_off65_inb d0 k)).toLoadRect (View.loadsAt_vmem h_S32x768))
  pure (k0_pay73 v y)

/-- One transfer of pass 1 of the reduction, if the pass has it. -/
def cstep1 (d0 : Dev nD) (k : Fin 15) : TcProg F PUnit :=
  if h : cond1 d0 k = 1#1 then
    rsSend arg8 harg8 arg9 harg9 (rsDev1 d0 k) (rsDev1_lt d0 k h) (semAt arg11 k) (semAt arg12 k) (srcOff1 d0 k) (dstOff1 d0 k)
      (srcOff1_inb d0 k h) (dstOff1_inb d0 k h) (srcOff1_words d0 k h) (dstOff1_words d0 k h)
  else pure ⟨⟩

/-- One transfer of pass 2 of the reduction, if the pass has it. -/
def cstep2 (d0 : Dev nD) (k : Fin 15) : TcProg F PUnit :=
  if h : cond2 d0 k = 1#1 then
    rsSend arg8 harg8 arg9 harg9 (rsDev2 d0 k) (rsDev2_lt d0 k h) (semAt arg11 k) (semAt arg12 k) (srcOff2 d0 k) (dstOff2 d0 k)
      (srcOff2_inb d0 k h) (dstOff2_inb d0 k h) (srcOff2_words d0 k h) (dstOff2_words d0 k h)
  else pure ⟨⟩

/-- The body as phases. -/
def phases : TcProg F PUnit := do
  let d0 : Dev nD ← Prog.lift .deviceId
  let v3 : Vec F S768x512 .f32 ← Prog.lift (.load arg1 (Rect.unit (s := S768x512) ![0, 0] S768x512.size inb_S768x512_S768x512_0_0).toLoadRect (View.loadsAt_vmem h_S768x512))
  let v6 : Vec F S512x768 .f32 ← Prog.lift (.load arg2 (Rect.unit (s := S512x768) ![0, 0] S512x768.size inb_S512x768_S512x768_0_0).toLoadRect (View.loadsAt_vmem h_S512x768))
  let v10 : Vec F S768x1x128 .f32 ← Prog.lift (.load arg3 (Rect.unit (s := S768x16x128) (k0_off1 d0) S768x1x128.size (k0_off1_inb d0)).toLoadRect (View.loadsAt_vmem h_S768x1x128))
  let v14 : Vec F S768x1x128 .f32 ← Prog.lift (.load arg4 (Rect.unit (s := S768x16x128) (k0_off1 d0) S768x1x128.size (k0_off1_inb d0)).toLoadRect (View.loadsAt_vmem h_S768x1x128))
  halfIf arg0 arg6 arg7 arg8 harg8 (hiFirst d0) 256 inb_S512x768_S256x768_256_0 ha256 inb_S512x512_S256x512_256_0 packedbf16_S512x768_S256x768_256_0
      (k0_pay57 v3) (k0_pay58 v6) (k0_pay59 v10) (k0_pay60 v14)
  halfIf arg0 arg6 arg7 arg8 harg8 (loFirst d0) 0 inb_S512x768_S256x768_0_0 ha0 inb_S512x512_S256x512_0_0 packedbf16_S512x768_S256x768_0_0
      (k0_pay57 v3) (k0_pay58 v6) (k0_pay59 v10) (k0_pay60 v14)
  run15 fun k => sigStep (sigDev d0 k) (sigDev_lt d0 k)
  semWaitWord (SemArray.scalar (sig.barrier 0 rfl) : Sems sig S_).sem 15#32
  run15 fun k => cstep1 arg8 harg8 arg9 harg9 arg11 arg12 d0 k
  halfIf arg0 arg6 arg7 arg8 harg8 (hiFirst d0) 0 inb_S512x768_S256x768_0_0 ha0 inb_S512x512_S256x512_0_0 packedbf16_S512x768_S256x768_0_0
      (k0_pay57 v3) (k0_pay58 v6) (k0_pay59 v10) (k0_pay60 v14)
  halfIf arg0 arg6 arg7 arg8 harg8 (loFirst d0) 256 inb_S512x768_S256x768_256_0 ha256 inb_S512x512_S256x512_256_0 packedbf16_S512x768_S256x768_256_0
      (k0_pay57 v3) (k0_pay58 v6) (k0_pay59 v10) (k0_pay60 v14)
  run15 fun k => cstep2 arg8 harg8 arg9 harg9 arg11 arg12 d0 k
  let acc : Vec F S32x768 .f32 ← Prog.lift (.load arg7 (Rect.unit (s := S512x768) (k0_off62 d0) S32x768.size (k0_off62_inb d0)).toLoadRect (View.loadsAt_vmem h_S32x768))
  let red ← fold15 (addStep arg8 harg8 arg9 harg9 arg12 d0) acc
  let _ : Vec F S32x768 .bf16 ← Prog.lift (.load arg10 (Rect.unit (s := S512x768) (k0_off62 d0) S32x768.size (k0_off62_inb d0)).toLoadRect (View.loadsAt_vmem h_S32x768))
  Prog.lift (.store arg10 (Rect.unit (s := S512x768) (k0_off62 d0) S32x768.size (k0_off62_inb d0)) (rounded red) Finset.univ
    (View.stores_vmem h_S32x768 (harg10.storeExact_slice rfl _ (k0_off62_packedbf16 d0)) (fun _ => rfl)) (.inl rfl))
  run15 fun k => agSend arg10 harg10 (agDev d0 k) (agDev_lt d0 k) (semAt arg13 k) (semAt arg14 k) (k0_off63 d0) (k0_off63_inb d0) (k0_off63_wordsbf16 d0)
  run15 fun k => waitRows arg10 arg10 harg10 harg10 (semAt arg14 k) (k0_off63 d0) (k0_off63 d0) (k0_off63_inb d0) (k0_off63_inb d0)
    (k0_off63_wordsbf16 d0) (k0_off63_wordsbf16 d0)
  let g : Vec F S512x768 .bf16 ← Prog.lift (.load arg10 (Rect.unit (s := S512x768) ![0, 0] S512x768.size inb_S512x768_S512x768_0_0).toLoadRect (View.loadsAt_vmem h_S512x768))
  let _ : Vec F S512x768 .f32 ← Prog.lift (.load arg5 (Rect.unit (s := S512x768) ![0, 0] S512x768.size inb_S512x768_S512x768_0_0).toLoadRect (View.loadsAt_vmem h_S512x768))
  Prog.lift (.store arg5 (Rect.unit (s := S512x768) ![0, 0] S512x768.size inb_S512x768_S512x768_0_0) (k0_pay89 g) Finset.univ (View.stores_vmem_bits_univ h_S512x768 rfl) (.inl rfl))
  run15 fun k => do
    waitRows arg9 arg8 harg9 harg8 (semAt arg11 k) (k0_off63 d0) (k0_off64 d0 (BitVec.ofNat 32 (1 + k.val))) (k0_off63_inb d0) (k0_off64_inb d0 k)
      (k0_off63_wordsbf16 d0) (k0_off64_wordsbf16 d0 k)
    waitRows arg10 arg10 harg10 harg10 (semAt arg13 k) (k0_off63 d0) (k0_off63 d0) (k0_off63_inb d0) (k0_off63_inb d0)
      (k0_off63_wordsbf16 d0) (k0_off63_wordsbf16 d0)

theorem part16_eq :
    ∃ f : Dev nD → BitVec 32 → BitVec 1 → BitVec 32 → BitVec 32 → BitVec 1 → BitVec 1 → BitVec 1 → (BitVec 1), ∀ d0 v2 v18 v222 v223 v224 v225 v226, k0_part16 (F := F) arg0 harg0 arg1 harg1 arg2 harg2 arg3 harg3 arg4 harg4 arg5 harg5 arg6 harg6 arg7 harg7 arg8 harg8 arg9 harg9 arg10 harg10 arg11 arg12 arg13 arg14 d0 v2 v18 v222 v223 v224 v225 v226
      = (do cstep1 arg8 harg8 arg9 harg9 arg11 arg12 d0 0; cstep1 arg8 harg8 arg9 harg9 arg11 arg12 d0 1; pure (f d0 v2 v18 v222 v223 v224 v225 v226)) := by
  apply Exists.intro
  intro d0 v2 v18 v222 v223 v224 v225 v226
  refine (ite_jp (c := k0_cond3 d0 = 1#1) (fun h => rsSend arg8 harg8 arg9 harg9 (rsDev1 d0 0) (rsDev1_lt d0 0 h) (semAt arg11 0) (semAt arg12 0) (srcOff1 d0 0) (dstOff1 d0 0) (srcOff1_inb d0 0 h) (dstOff1_inb d0 0 h) (srcOff1_words d0 0 h) (dstOff1_words d0 0 h)) _).trans (congrArg (Bind.bind _) (funext fun _ => ?_))
  refine (ite_jp (c := k0_cond4 d0 = 1#1) (fun h => rsSend arg8 harg8 arg9 harg9 (rsDev1 d0 1) (rsDev1_lt d0 1 h) (semAt arg11 1) (semAt arg12 1) (srcOff1 d0 1) (dstOff1 d0 1) (srcOff1_inb d0 1 h) (dstOff1_inb d0 1 h) (srcOff1_words d0 1 h) (dstOff1_words d0 1 h)) _).trans (congrArg (Bind.bind _) (funext fun _ => ?_))
  exact rfl

theorem part17_eq :
    ∃ f : Dev nD → BitVec 32 → BitVec 1 → BitVec 1 → (PUnit), ∀ d0 v2 v18 v263, k0_part17 (F := F) arg0 harg0 arg1 harg1 arg2 harg2 arg3 harg3 arg4 harg4 arg5 harg5 arg6 harg6 arg7 harg7 arg8 harg8 arg9 harg9 arg10 harg10 arg11 arg12 arg13 arg14 d0 v2 v18 v263
      = (do cstep1 arg8 harg8 arg9 harg9 arg11 arg12 d0 2; cstep1 arg8 harg8 arg9 harg9 arg11 arg12 d0 3; pure (f d0 v2 v18 v263)) := by
  apply Exists.intro
  intro d0 v2 v18 v263
  refine (ite_jp (c := k0_cond5 d0 = 1#1) (fun h => rsSend arg8 harg8 arg9 harg9 (rsDev1 d0 2) (rsDev1_lt d0 2 h) (semAt arg11 2) (semAt arg12 2) (srcOff1 d0 2) (dstOff1 d0 2) (srcOff1_inb d0 2 h) (dstOff1_inb d0 2 h) (srcOff1_words d0 2 h) (dstOff1_words d0 2 h)) _).trans (congrArg (Bind.bind _) (funext fun _ => ?_))
  refine (ite_jp (c := k0_cond6 d0 = 1#1) (fun h => rsSend arg8 harg8 arg9 harg9 (rsDev1 d0 3) (rsDev1_lt d0 3 h) (semAt arg11 3) (semAt arg12 3) (srcOff1 d0 3) (dstOff1 d0 3) (srcOff1_inb d0 3 h) (dstOff1_inb d0 3 h) (srcOff1_words d0 3 h) (dstOff1_words d0 3 h)) _).trans (congrArg (Bind.bind _) (funext fun _ => ?_))
  exact rfl

theorem part18_eq :
    ∃ f : Dev nD → BitVec 32 → BitVec 1 → (Σ' (v332 : BitVec 32) (c16_i32_219 : BitVec 32), BitVec 1), ∀ d0 v2 v18, k0_part18 (F := F) arg0 harg0 arg1 harg1 arg2 harg2 arg3 harg3 arg4 harg4 arg5 harg5 arg6 harg6 arg7 harg7 arg8 harg8 arg9 harg9 arg10 harg10 arg11 arg12 arg13 arg14 d0 v2 v18
      = (do cstep1 arg8 harg8 arg9 harg9 arg11 arg12 d0 4; cstep1 arg8 harg8 arg9 harg9 arg11 arg12 d0 5; cstep1 arg8 harg8 arg9 harg9 arg11 arg12 d0 6; pure (f d0 v2 v18)) := by
  apply Exists.intro
  intro d0 v2 v18
  refine (ite_jp (c := k0_cond7 d0 = 1#1) (fun h => rsSend arg8 harg8 arg9 harg9 (rsDev1 d0 4) (rsDev1_lt d0 4 h) (semAt arg11 4) (semAt arg12 4) (srcOff1 d0 4) (dstOff1 d0 4) (srcOff1_inb d0 4 h) (dstOff1_inb d0 4 h) (srcOff1_words d0 4 h) (dstOff1_words d0 4 h)) _).trans (congrArg (Bind.bind _) (funext fun _ => ?_))
  refine (ite_jp (c := k0_cond8 d0 = 1#1) (fun h => rsSend arg8 harg8 arg9 harg9 (rsDev1 d0 5) (rsDev1_lt d0 5 h) (semAt arg11 5) (semAt arg12 5) (srcOff1 d0 5) (dstOff1 d0 5) (srcOff1_inb d0 5 h) (dstOff1_inb d0 5 h) (srcOff1_words d0 5 h) (dstOff1_words d0 5 h)) _).trans (congrArg (Bind.bind _) (funext fun _ => ?_))
  refine (ite_jp (c := k0_cond9 d0 = 1#1) (fun h => rsSend arg8 harg8 arg9 harg9 (rsDev1 d0 6) (rsDev1_lt d0 6 h) (semAt arg11 6) (semAt arg12 6) (srcOff1 d0 6) (dstOff1 d0 6) (srcOff1_inb d0 6 h) (dstOff1_inb d0 6 h) (srcOff1_words d0 6 h) (dstOff1_words d0 6 h)) _).trans (congrArg (Bind.bind _) (funext fun _ => ?_))
  exact rfl

theorem part19_eq :
    ∃ f : Dev nD → BitVec 32 → BitVec 1 → BitVec 32 → BitVec 32 → BitVec 1 → (Σ' (v366 : BitVec 32) (v367 : BitVec 32) (v368 : BitVec 1), BitVec 32), ∀ d0 v2 v18 v332 c16_i32_219 v333, k0_part19 (F := F) arg0 harg0 arg1 harg1 arg2 harg2 arg3 harg3 arg4 harg4 arg5 harg5 arg6 harg6 arg7 harg7 arg8 harg8 arg9 harg9 arg10 harg10 arg11 arg12 arg13 arg14 d0 v2 v18 v332 c16_i32_219 v333
      = (do cstep1 arg8 harg8 arg9 harg9 arg11 arg12 d0 7; cstep1 arg8 harg8 arg9 harg9 arg11 arg12 d0 8; pure (f d0 v2 v18 v332 c16_i32_219 v333)) := by
  apply Exists.intro
  intro d0 v2 v18 v332 c16_i32_219 v333
  refine (ite_jp (c := k0_cond10 d0 = 1#1) (fun h => rsSend arg8 harg8 arg9 harg9 (rsDev1 d0 7) (rsDev1_lt d0 7 h) (semAt arg11 7) (semAt arg12 7) (srcOff1 d0 7) (dstOff1 d0 7) (srcOff1_inb d0 7 h) (dstOff1_inb d0 7 h) (srcOff1_words d0 7 h) (dstOff1_words d0 7 h)) _).trans (congrArg (Bind.bind _) (funext fun _ => ?_))
  refine (ite_jp (c := k0_cond11 d0 = 1#1) (fun h => rsSend arg8 harg8 arg9 harg9 (rsDev1 d0 8) (rsDev1_lt d0 8 h) (semAt arg11 8) (semAt arg12 8) (srcOff1 d0 8) (dstOff1 d0 8) (srcOff1_inb d0 8 h) (dstOff1_inb d0 8 h) (srcOff1_words d0 8 h) (dstOff1_words d0 8 h)) _).trans (congrArg (Bind.bind _) (funext fun _ => ?_))
  exact rfl

theorem part20_eq :
    ∃ f : Dev nD → BitVec 32 → BitVec 1 → BitVec 32 → BitVec 32 → BitVec 1 → BitVec 32 → (Σ' (v399 : BitVec 32) (v404 : BitVec 1), BitVec 32), ∀ d0 v2 v18 v366 v367 v368 c0_i32_243, k0_part20 (F := F) arg0 harg0 arg1 harg1 arg2 harg2 arg3 harg3 arg4 harg4 arg5 harg5 arg6 harg6 arg7 harg7 arg8 harg8 arg9 harg9 arg10 harg10 arg11 arg12 arg13 arg14 d0 v2 v18 v366 v367 v368 c0_i32_243
      = (do cstep1 arg8 harg8 arg9 harg9 arg11 arg12 d0 9; cstep1 arg8 harg8 arg9 harg9 arg11 arg12 d0 10; pure (f d0 v2 v18 v366 v367 v368 c0_i32_243)) := by
  apply Exists.intro
  intro d0 v2 v18 v366 v367 v368 c0_i32_243
  refine (ite_jp (c := k0_cond12 d0 = 1#1) (fun h => rsSend arg8 harg8 arg9 harg9 (rsDev1 d0 9) (rsDev1_lt d0 9 h) (semAt arg11 9) (semAt arg12 9) (srcOff1 d0 9) (dstOff1 d0 9) (srcOff1_inb d0 9 h) (dstOff1_inb d0 9 h) (srcOff1_words d0 9 h) (dstOff1_words d0 9 h)) _).trans (congrArg (Bind.bind _) (funext fun _ => ?_))
  refine (ite_jp (c := k0_cond13 d0 = 1#1) (fun h => rsSend arg8 harg8 arg9 harg9 (rsDev1 d0 10) (rsDev1_lt d0 10 h) (semAt arg11 10) (semAt arg12 10) (srcOff1 d0 10) (dstOff1 d0 10) (srcOff1_inb d0 10 h) (dstOff1_inb d0 10 h) (srcOff1_words d0 10 h) (dstOff1_words d0 10 h)) _).trans (congrArg (Bind.bind _) (funext fun _ => ?_))
  exact rfl

theorem part21_eq :
    ∃ f : Dev nD → BitVec 32 → BitVec 1 → BitVec 32 → BitVec 1 → BitVec 32 → (BitVec 1), ∀ d0 v2 v18 v399 v404 v405, k0_part21 (F := F) arg0 harg0 arg1 harg1 arg2 harg2 arg3 harg3 arg4 harg4 arg5 harg5 arg6 harg6 arg7 harg7 arg8 harg8 arg9 harg9 arg10 harg10 arg11 arg12 arg13 arg14 d0 v2 v18 v399 v404 v405
      = (do cstep1 arg8 harg8 arg9 harg9 arg11 arg12 d0 11; cstep1 arg8 harg8 arg9 harg9 arg11 arg12 d0 12; pure (f d0 v2 v18 v399 v404 v405)) := by
  apply Exists.intro
  intro d0 v2 v18 v399 v404 v405
  refine (ite_jp (c := k0_cond14 d0 = 1#1) (fun h => rsSend arg8 harg8 arg9 harg9 (rsDev1 d0 11) (rsDev1_lt d0 11 h) (semAt arg11 11) (semAt arg12 11) (srcOff1 d0 11) (dstOff1 d0 11) (srcOff1_inb d0 11 h) (dstOff1_inb d0 11 h) (srcOff1_words d0 11 h) (dstOff1_words d0 11 h)) _).trans (congrArg (Bind.bind _) (funext fun _ => ?_))
  refine (ite_jp (c := k0_cond15 d0 = 1#1) (fun h => rsSend arg8 harg8 arg9 harg9 (rsDev1 d0 12) (rsDev1_lt d0 12 h) (semAt arg11 12) (semAt arg12 12) (srcOff1 d0 12) (dstOff1 d0 12) (srcOff1_inb d0 12 h) (dstOff1_inb d0 12 h) (srcOff1_words d0 12 h) (dstOff1_words d0 12 h)) _).trans (congrArg (Bind.bind _) (funext fun _ => ?_))
  exact rfl

theorem part22_eq :
    ∃ f : Dev nD → BitVec 32 → FVec F S768x512 .bf16 → FVec F S512x768 .bf16 → FVec F S768x128 .bf16 → FVec F S768x128 .bf16 → BitVec 1 → BitVec 1 → (Σ' (v475 : BitVec 32), BitVec 32), ∀ d0 v2 v5 v8 v12 v16 v18 v441, k0_part22 (F := F) arg0 harg0 arg1 harg1 arg2 harg2 arg3 harg3 arg4 harg4 arg5 harg5 arg6 harg6 arg7 harg7 arg8 harg8 arg9 harg9 arg10 harg10 arg11 arg12 arg13 arg14 d0 v2 v5 v8 v12 v16 v18 v441
      = (do cstep1 arg8 harg8 arg9 harg9 arg11 arg12 d0 13; cstep1 arg8 harg8 arg9 harg9 arg11 arg12 d0 14; halfIf arg0 arg6 arg7 arg8 harg8 (Scalar.cmpi .ne (Scalar.extui v18) 0#32) 0 inb_S512x768_S256x768_0_0 ha0 inb_S512x512_S256x512_0_0 packedbf16_S512x768_S256x768_0_0 v5 v8 v12 v16; halfIf arg0 arg6 arg7 arg8 harg8 (Scalar.cmpi .ne (Scalar.extui (Scalar.xori v18 1#1)) 0#32) 256 inb_S512x768_S256x768_256_0 ha256 inb_S512x512_S256x512_256_0 packedbf16_S512x768_S256x768_256_0 v5 v8 v12 v16; pure (f d0 v2 v5 v8 v12 v16 v18 v441)) := by
  apply Exists.intro
  intro d0 v2 v5 v8 v12 v16 v18 v441
  refine (ite_jp (c := k0_cond16 d0 = 1#1) (fun h => rsSend arg8 harg8 arg9 harg9 (rsDev1 d0 13) (rsDev1_lt d0 13 h) (semAt arg11 13) (semAt arg12 13) (srcOff1 d0 13) (dstOff1 d0 13) (srcOff1_inb d0 13 h) (dstOff1_inb d0 13 h) (srcOff1_words d0 13 h) (dstOff1_words d0 13 h)) _).trans (congrArg (Bind.bind _) (funext fun _ => ?_))
  refine (ite_jp (c := k0_cond17 d0 = 1#1) (fun h => rsSend arg8 harg8 arg9 harg9 (rsDev1 d0 14) (rsDev1_lt d0 14 h) (semAt arg11 14) (semAt arg12 14) (srcOff1 d0 14) (dstOff1 d0 14) (srcOff1_inb d0 14 h) (dstOff1_inb d0 14 h) (srcOff1_words d0 14 h) (dstOff1_words d0 14 h)) _).trans (congrArg (Bind.bind _) (funext fun _ => ?_))
  refine (ite_jp (c := Scalar.cmpi .ne (Scalar.extui v18) 0#32 = 1#1) (fun h => half arg0 arg6 arg7 arg8 harg8 0 inb_S512x768_S256x768_0_0 ha0 inb_S512x512_S256x512_0_0 packedbf16_S512x768_S256x768_0_0 v5 v8 v12 v16) _).trans (congrArg (Bind.bind _) (funext fun _ => ?_))
  refine (ite_jp (c := Scalar.cmpi .ne (Scalar.extui (Scalar.xori v18 1#1)) 0#32 = 1#1) (fun h => half arg0 arg6 arg7 arg8 harg8 256 inb_S512x768_S256x768_256_0 ha256 inb_S512x512_S256x512_256_0 packedbf16_S512x768_S256x768_256_0 v5 v8 v12 v16) _).trans (congrArg (Bind.bind _) (funext fun _ => ?_))
  exact rfl

theorem part23_eq :
    ∃ f : Dev nD → BitVec 32 → BitVec 1 → BitVec 32 → BitVec 32 → (Σ' (v511 : BitVec 32), BitVec 32), ∀ d0 v2 v18 v475 c8_i32_308, k0_part23 (F := F) arg0 harg0 arg1 harg1 arg2 harg2 arg3 harg3 arg4 harg4 arg5 harg5 arg6 harg6 arg7 harg7 arg8 harg8 arg9 harg9 arg10 harg10 arg11 arg12 arg13 arg14 d0 v2 v18 v475 c8_i32_308
      = (do cstep2 arg8 harg8 arg9 harg9 arg11 arg12 d0 0; cstep2 arg8 harg8 arg9 harg9 arg11 arg12 d0 1; pure (f d0 v2 v18 v475 c8_i32_308)) := by
  apply Exists.intro
  intro d0 v2 v18 v475 c8_i32_308
  refine (ite_jp (c := k0_cond20 d0 = 1#1) (fun h => rsSend arg8 harg8 arg9 harg9 (rsDev2 d0 0) (rsDev2_lt d0 0 h) (semAt arg11 0) (semAt arg12 0) (srcOff2 d0 0) (dstOff2 d0 0) (srcOff2_inb d0 0 h) (dstOff2_inb d0 0 h) (srcOff2_words d0 0 h) (dstOff2_words d0 0 h)) _).trans (congrArg (Bind.bind _) (funext fun _ => ?_))
  refine (ite_jp (c := k0_cond21 d0 = 1#1) (fun h => rsSend arg8 harg8 arg9 harg9 (rsDev2 d0 1) (rsDev2_lt d0 1 h) (semAt arg11 1) (semAt arg12 1) (srcOff2 d0 1) (dstOff2 d0 1) (srcOff2_inb d0 1 h) (dstOff2_inb d0 1 h) (srcOff2_words d0 1 h) (dstOff2_words d0 1 h)) _).trans (congrArg (Bind.bind _) (funext fun _ => ?_))
  exact rfl

theorem part24_eq :
    ∃ f : Dev nD → BitVec 32 → BitVec 1 → BitVec 32 → BitVec 32 → (Σ' (v545 : BitVec 32) (c16_i32_352 : BitVec 32), BitVec 32), ∀ d0 v2 v18 v511 c0_i32_330, k0_part24 (F := F) arg0 harg0 arg1 harg1 arg2 harg2 arg3 harg3 arg4 harg4 arg5 harg5 arg6 harg6 arg7 harg7 arg8 harg8 arg9 harg9 arg10 harg10 arg11 arg12 arg13 arg14 d0 v2 v18 v511 c0_i32_330
      = (do cstep2 arg8 harg8 arg9 harg9 arg11 arg12 d0 2; cstep2 arg8 harg8 arg9 harg9 arg11 arg12 d0 3; cstep2 arg8 harg8 arg9 harg9 arg11 arg12 d0 4; pure (f d0 v2 v18 v511 c0_i32_330)) := by
  apply Exists.intro
  intro d0 v2 v18 v511 c0_i32_330
  refine (ite_jp (c := k0_cond22 d0 = 1#1) (fun h => rsSend arg8 harg8 arg9 harg9 (rsDev2 d0 2) (rsDev2_lt d0 2 h) (semAt arg11 2) (semAt arg12 2) (srcOff2 d0 2) (dstOff2 d0 2) (srcOff2_inb d0 2 h) (dstOff2_inb d0 2 h) (srcOff2_words d0 2 h) (dstOff2_words d0 2 h)) _).trans (congrArg (Bind.bind _) (funext fun _ => ?_))
  refine (ite_jp (c := k0_cond23 d0 = 1#1) (fun h => rsSend arg8 harg8 arg9 harg9 (rsDev2 d0 3) (rsDev2_lt d0 3 h) (semAt arg11 3) (semAt arg12 3) (srcOff2 d0 3) (dstOff2 d0 3) (srcOff2_inb d0 3 h) (dstOff2_inb d0 3 h) (srcOff2_words d0 3 h) (dstOff2_words d0 3 h)) _).trans (congrArg (Bind.bind _) (funext fun _ => ?_))
  refine (ite_jp (c := k0_cond24 d0 = 1#1) (fun h => rsSend arg8 harg8 arg9 harg9 (rsDev2 d0 4) (rsDev2_lt d0 4 h) (semAt arg11 4) (semAt arg12 4) (srcOff2 d0 4) (dstOff2 d0 4) (srcOff2_inb d0 4 h) (dstOff2_inb d0 4 h) (srcOff2_words d0 4 h) (dstOff2_words d0 4 h)) _).trans (congrArg (Bind.bind _) (funext fun _ => ?_))
  exact rfl

theorem part25_eq :
    ∃ f : Dev nD → BitVec 32 → BitVec 1 → BitVec 32 → BitVec 32 → BitVec 32 → (Σ' (v579 : BitVec 32) (v580 : BitVec 32), BitVec 1), ∀ d0 v2 v18 v545 c16_i32_352 c0_i32_353, k0_part25 (F := F) arg0 harg0 arg1 harg1 arg2 harg2 arg3 harg3 arg4 harg4 arg5 harg5 arg6 harg6 arg7 harg7 arg8 harg8 arg9 harg9 arg10 harg10 arg11 arg12 arg13 arg14 d0 v2 v18 v545 c16_i32_352 c0_i32_353
      = (do cstep2 arg8 harg8 arg9 harg9 arg11 arg12 d0 5; cstep2 arg8 harg8 arg9 harg9 arg11 arg12 d0 6; pure (f d0 v2 v18 v545 c16_i32_352 c0_i32_353)) := by
  apply Exists.intro
  intro d0 v2 v18 v545 c16_i32_352 c0_i32_353
  refine (ite_jp (c := k0_cond25 d0 = 1#1) (fun h => rsSend arg8 harg8 arg9 harg9 (rsDev2 d0 5) (rsDev2_lt d0 5 h) (semAt arg11 5) (semAt arg12 5) (srcOff2 d0 5) (dstOff2 d0 5) (srcOff2_inb d0 5 h) (dstOff2_inb d0 5 h) (srcOff2_words d0 5 h) (dstOff2_words d0 5 h)) _).trans (congrArg (Bind.bind _) (funext fun _ => ?_))
  refine (ite_jp (c := k0_cond26 d0 = 1#1) (fun h => rsSend arg8 harg8 arg9 harg9 (rsDev2 d0 6) (rsDev2_lt d0 6 h) (semAt arg11 6) (semAt arg12 6) (srcOff2 d0 6) (dstOff2 d0 6) (srcOff2_inb d0 6 h) (dstOff2_inb d0 6 h) (srcOff2_words d0 6 h) (dstOff2_words d0 6 h)) _).trans (congrArg (Bind.bind _) (funext fun _ => ?_))
  exact rfl

theorem part26_eq :
    ∃ f : Dev nD → BitVec 32 → BitVec 1 → BitVec 32 → BitVec 32 → BitVec 1 → (Σ' (v611 : BitVec 32) (v612 : BitVec 32), BitVec 1), ∀ d0 v2 v18 v579 v580 v581, k0_part26 (F := F) arg0 harg0 arg1 harg1 arg2 harg2 arg3 harg3 arg4 harg4 arg5 harg5 arg6 harg6 arg7 harg7 arg8 harg8 arg9 harg9 arg10 harg10 arg11 arg12 arg13 arg14 d0 v2 v18 v579 v580 v581
      = (do cstep2 arg8 harg8 arg9 harg9 arg11 arg12 d0 7; cstep2 arg8 harg8 arg9 harg9 arg11 arg12 d0 8; pure (f d0 v2 v18 v579 v580 v581)) := by
  apply Exists.intro
  intro d0 v2 v18 v579 v580 v581
  refine (ite_jp (c := k0_cond27 d0 = 1#1) (fun h => rsSend arg8 harg8 arg9 harg9 (rsDev2 d0 7) (rsDev2_lt d0 7 h) (semAt arg11 7) (semAt arg12 7) (srcOff2 d0 7) (dstOff2 d0 7) (srcOff2_inb d0 7 h) (dstOff2_inb d0 7 h) (srcOff2_words d0 7 h) (dstOff2_words d0 7 h)) _).trans (congrArg (Bind.bind _) (funext fun _ => ?_))
  refine (ite_jp (c := k0_cond28 d0 = 1#1) (fun h => rsSend arg8 harg8 arg9 harg9 (rsDev2 d0 8) (rsDev2_lt d0 8 h) (semAt arg11 8) (semAt arg12 8) (srcOff2 d0 8) (dstOff2 d0 8) (srcOff2_inb d0 8 h) (dstOff2_inb d0 8 h) (srcOff2_words d0 8 h) (dstOff2_words d0 8 h)) _).trans (congrArg (Bind.bind _) (funext fun _ => ?_))
  exact rfl

theorem part27_eq :
    ∃ f : Dev nD → BitVec 32 → BitVec 1 → BitVec 32 → BitVec 32 → BitVec 1 → (Σ' (v653 : BitVec 1), BitVec 1), ∀ d0 v2 v18 v611 v612 v617, k0_part27 (F := F) arg0 harg0 arg1 harg1 arg2 harg2 arg3 harg3 arg4 harg4 arg5 harg5 arg6 harg6 arg7 harg7 arg8 harg8 arg9 harg9 arg10 harg10 arg11 arg12 arg13 arg14 d0 v2 v18 v611 v612 v617
      = (do cstep2 arg8 harg8 arg9 harg9 arg11 arg12 d0 9; cstep2 arg8 harg8 arg9 harg9 arg11 arg12 d0 10; pure (f d0 v2 v18 v611 v612 v617)) := by
  apply Exists.intro
  intro d0 v2 v18 v611 v612 v617
  refine (ite_jp (c := k0_cond29 d0 = 1#1) (fun h => rsSend arg8 harg8 arg9 harg9 (rsDev2 d0 9) (rsDev2_lt d0 9 h) (semAt arg11 9) (semAt arg12 9) (srcOff2 d0 9) (dstOff2 d0 9) (srcOff2_inb d0 9 h) (dstOff2_inb d0 9 h) (srcOff2_words d0 9 h) (dstOff2_words d0 9 h)) _).trans (congrArg (Bind.bind _) (funext fun _ => ?_))
  refine (ite_jp (c := k0_cond30 d0 = 1#1) (fun h => rsSend arg8 harg8 arg9 harg9 (rsDev2 d0 10) (rsDev2_lt d0 10 h) (semAt arg11 10) (semAt arg12 10) (srcOff2 d0 10) (dstOff2 d0 10) (srcOff2_inb d0 10 h) (dstOff2_inb d0 10 h) (srcOff2_words d0 10 h) (dstOff2_words d0 10 h)) _).trans (congrArg (Bind.bind _) (funext fun _ => ?_))
  exact rfl

theorem part28_eq :
    ∃ f : Dev nD → BitVec 32 → BitVec 1 → BitVec 1 → BitVec 1 → (BitVec 32), ∀ d0 v2 v18 v653 true_419, k0_part28 (F := F) arg0 harg0 arg1 harg1 arg2 harg2 arg3 harg3 arg4 harg4 arg5 harg5 arg6 harg6 arg7 harg7 arg8 harg8 arg9 harg9 arg10 harg10 arg11 arg12 arg13 arg14 d0 v2 v18 v653 true_419
      = (do cstep2 arg8 harg8 arg9 harg9 arg11 arg12 d0 11; cstep2 arg8 harg8 arg9 harg9 arg11 arg12 d0 12; cstep2 arg8 harg8 arg9 harg9 arg11 arg12 d0 13; pure (f d0 v2 v18 v653 true_419)) := by
  apply Exists.intro
  intro d0 v2 v18 v653 true_419
  refine (ite_jp (c := k0_cond31 d0 = 1#1) (fun h => rsSend arg8 harg8 arg9 harg9 (rsDev2 d0 11) (rsDev2_lt d0 11 h) (semAt arg11 11) (semAt arg12 11) (srcOff2 d0 11) (dstOff2 d0 11) (srcOff2_inb d0 11 h) (dstOff2_inb d0 11 h) (srcOff2_words d0 11 h) (dstOff2_words d0 11 h)) _).trans (congrArg (Bind.bind _) (funext fun _ => ?_))
  refine (ite_jp (c := k0_cond32 d0 = 1#1) (fun h => rsSend arg8 harg8 arg9 harg9 (rsDev2 d0 12) (rsDev2_lt d0 12 h) (semAt arg11 12) (semAt arg12 12) (srcOff2 d0 12) (dstOff2 d0 12) (srcOff2_inb d0 12 h) (dstOff2_inb d0 12 h) (srcOff2_words d0 12 h) (dstOff2_words d0 12 h)) _).trans (congrArg (Bind.bind _) (funext fun _ => ?_))
  refine (ite_jp (c := k0_cond33 d0 = 1#1) (fun h => rsSend arg8 harg8 arg9 harg9 (rsDev2 d0 13) (rsDev2_lt d0 13 h) (semAt arg11 13) (semAt arg12 13) (srcOff2 d0 13) (dstOff2 d0 13) (srcOff2_inb d0 13 h) (dstOff2_inb d0 13 h) (srcOff2_words d0 13 h) (dstOff2_words d0 13 h)) _).trans (congrArg (Bind.bind _) (funext fun _ => ?_))
  exact rfl

theorem part29_eq :
    ∀ d0 v2 v18 c15_i32_441, k0_part29 (F := F) arg0 harg0 arg1 harg1 arg2 harg2 arg3 harg3 arg4 harg4 arg5 harg5 arg6 harg6 arg7 harg7 arg8 harg8 arg9 harg9 arg10 harg10 arg11 arg12 arg13 arg14 d0 v2 v18 c15_i32_441
      = (do cstep2 arg8 harg8 arg9 harg9 arg11 arg12 d0 14; Prog.lift (.load arg7 (Rect.unit (s := S512x768) (k0_off62 d0) S32x768.size (k0_off62_inb d0)).toLoadRect (View.loadsAt_vmem h_S32x768))) := by
  intro d0 v2 v18 c15_i32_441
  refine (ite_jp (c := k0_cond34 d0 = 1#1) (fun h => rsSend arg8 harg8 arg9 harg9 (rsDev2 d0 14) (rsDev2_lt d0 14 h) (semAt arg11 14) (semAt arg12 14) (srcOff2 d0 14) (dstOff2 d0 14) (srcOff2_inb d0 14 h) (dstOff2_inb d0 14 h) (srcOff2_words d0 14 h) (dstOff2_words d0 14 h)) _).trans (congrArg (Bind.bind _) (funext fun _ => ?_))
  exact rfl

theorem part9_eq :
    ∃ (f g : Dev nD → BitVec 32) (h : Dev nD → BitVec 1), k0_part9 (F := F) arg0 harg0 arg1 harg1 arg2 harg2 arg3 harg3 arg4 harg4 arg5 harg5 arg6 harg6 arg7 harg7 arg8 harg8 arg9 harg9 arg10 harg10 arg11 arg12 arg13 arg14
      = (do
  let d0 : Dev nD ← Prog.lift .deviceId
  let v3 : Vec F S768x512 .f32 ← Prog.lift (.load arg1 (Rect.unit (s := S768x512) ![0, 0] S768x512.size inb_S768x512_S768x512_0_0).toLoadRect (View.loadsAt_vmem h_S768x512))
  let v6 : Vec F S512x768 .f32 ← Prog.lift (.load arg2 (Rect.unit (s := S512x768) ![0, 0] S512x768.size inb_S512x768_S512x768_0_0).toLoadRect (View.loadsAt_vmem h_S512x768))
  let v10 : Vec F S768x1x128 .f32 ← Prog.lift (.load arg3 (Rect.unit (s := S768x16x128) (k0_off1 d0) S768x1x128.size (k0_off1_inb d0)).toLoadRect (View.loadsAt_vmem h_S768x1x128))
  let v14 : Vec F S768x1x128 .f32 ← Prog.lift (.load arg4 (Rect.unit (s := S768x16x128) (k0_off1 d0) S768x1x128.size (k0_off1_inb d0)).toLoadRect (View.loadsAt_vmem h_S768x1x128))
  halfIf arg0 arg6 arg7 arg8 harg8 (hiFirst d0) 256 inb_S512x768_S256x768_256_0 ha256 inb_S512x512_S256x512_256_0 packedbf16_S512x768_S256x768_256_0 (k0_pay57 v3) (k0_pay58 v6) (k0_pay59 v10) (k0_pay60 v14)
  halfIf arg0 arg6 arg7 arg8 harg8 (loFirst d0) 0 inb_S512x768_S256x768_0_0 ha0 inb_S512x512_S256x512_0_0 packedbf16_S512x768_S256x768_0_0 (k0_pay57 v3) (k0_pay58 v6) (k0_pay59 v10) (k0_pay60 v14)
  pure ⟨d0, Scalar.remsi (Scalar.divsi (Dev.word d0) 1#32) 16#32, k0_pay57 v3, k0_pay58 v6, k0_pay59 v10, k0_pay60 v14, evenBit d0,
    (SemArray.scalar (sig.barrier 0 rfl) : Sems sig S_), f d0, h d0, g d0⟩) := by
  apply Exists.intro
  apply Exists.intro
  apply Exists.intro
  refine congrArg (Bind.bind _) (funext fun d0 => ?_)
  refine congrArg (Bind.bind _) (funext fun v3 => ?_)
  refine congrArg (Bind.bind _) (funext fun v6 => ?_)
  refine congrArg (Bind.bind _) (funext fun v10 => ?_)
  refine congrArg (Bind.bind _) (funext fun v14 => ?_)
  refine (ite_jp (c := hiFirst d0 = 1#1) (fun h => half arg0 arg6 arg7 arg8 harg8 256 inb_S512x768_S256x768_256_0 ha256 inb_S512x512_S256x512_256_0 packedbf16_S512x768_S256x768_256_0 (k0_pay57 v3) (k0_pay58 v6) (k0_pay59 v10) (k0_pay60 v14)) _).trans (congrArg (Bind.bind _) (funext fun _ => ?_))
  refine (ite_jp (c := loFirst d0 = 1#1) (fun h => half arg0 arg6 arg7 arg8 harg8 0 inb_S512x768_S256x768_0_0 ha0 inb_S512x512_S256x512_0_0 packedbf16_S512x768_S256x768_0_0 (k0_pay57 v3) (k0_pay58 v6) (k0_pay59 v10) (k0_pay60 v14)) _).trans (congrArg (Bind.bind _) (funext fun _ => ?_))
  exact rfl

/-- The printed body is the phases. -/
theorem body_eq_phases :
    cc0_body_skel (F := F) arg0 harg0 arg1 harg1 arg2 harg2 arg3 harg3 arg4 harg4 arg5 harg5 arg6 harg6 arg7 harg7 arg8 harg8 arg9 harg9 arg10 harg10 arg11 arg12 arg13 arg14
      = phases arg0 arg1 arg2 arg3 arg4 arg5 arg6 arg7 arg8 harg8 arg9 harg9 arg10 harg10 arg11 arg12 arg13 arg14 := by
  obtain ⟨f9, g9, h9, e9⟩ := part9_eq (F := F) arg0 harg0 arg1 harg1 arg2 harg2 arg3 harg3 arg4 harg4 arg5 harg5 arg6 harg6 arg7 harg7 arg8 harg8 arg9 harg9 arg10 harg10 arg11 arg12 arg13 arg14
  obtain ⟨f16, e16⟩ := part16_eq (F := F) arg0 harg0 arg1 harg1 arg2 harg2 arg3 harg3 arg4 harg4 arg5 harg5 arg6 harg6 arg7 harg7 arg8 harg8 arg9 harg9 arg10 harg10 arg11 arg12 arg13 arg14
  obtain ⟨f17, e17⟩ := part17_eq (F := F) arg0 harg0 arg1 harg1 arg2 harg2 arg3 harg3 arg4 harg4 arg5 harg5 arg6 harg6 arg7 harg7 arg8 harg8 arg9 harg9 arg10 harg10 arg11 arg12 arg13 arg14
  obtain ⟨f18, e18⟩ := part18_eq (F := F) arg0 harg0 arg1 harg1 arg2 harg2 arg3 harg3 arg4 harg4 arg5 harg5 arg6 harg6 arg7 harg7 arg8 harg8 arg9 harg9 arg10 harg10 arg11 arg12 arg13 arg14
  obtain ⟨f19, e19⟩ := part19_eq (F := F) arg0 harg0 arg1 harg1 arg2 harg2 arg3 harg3 arg4 harg4 arg5 harg5 arg6 harg6 arg7 harg7 arg8 harg8 arg9 harg9 arg10 harg10 arg11 arg12 arg13 arg14
  obtain ⟨f20, e20⟩ := part20_eq (F := F) arg0 harg0 arg1 harg1 arg2 harg2 arg3 harg3 arg4 harg4 arg5 harg5 arg6 harg6 arg7 harg7 arg8 harg8 arg9 harg9 arg10 harg10 arg11 arg12 arg13 arg14
  obtain ⟨f21, e21⟩ := part21_eq (F := F) arg0 harg0 arg1 harg1 arg2 harg2 arg3 harg3 arg4 harg4 arg5 harg5 arg6 harg6 arg7 harg7 arg8 harg8 arg9 harg9 arg10 harg10 arg11 arg12 arg13 arg14
  obtain ⟨f22, e22⟩ := part22_eq (F := F) arg0 harg0 arg1 harg1 arg2 harg2 arg3 harg3 arg4 harg4 arg5 harg5 arg6 harg6 arg7 harg7 arg8 harg8 arg9 harg9 arg10 harg10 arg11 arg12 arg13 arg14
  obtain ⟨f23, e23⟩ := part23_eq (F := F) arg0 harg0 arg1 harg1 arg2 harg2 arg3 harg3 arg4 harg4 arg5 harg5 arg6 harg6 arg7 harg7 arg8 harg8 arg9 harg9 arg10 harg10 arg11 arg12 arg13 arg14
  obtain ⟨f24, e24⟩ := part24_eq (F := F) arg0 harg0 arg1 harg1 arg2 harg2 arg3 harg3 arg4 harg4 arg5 harg5 arg6 harg6 arg7 harg7 arg8 harg8 arg9 harg9 arg10 harg10 arg11 arg12 arg13 arg14
  obtain ⟨f25, e25⟩ := part25_eq (F := F) arg0 harg0 arg1 harg1 arg2 harg2 arg3 harg3 arg4 harg4 arg5 harg5 arg6 harg6 arg7 harg7 arg8 harg8 arg9 harg9 arg10 harg10 arg11 arg12 arg13 arg14
  obtain ⟨f26, e26⟩ := part26_eq (F := F) arg0 harg0 arg1 harg1 arg2 harg2 arg3 harg3 arg4 harg4 arg5 harg5 arg6 harg6 arg7 harg7 arg8 harg8 arg9 harg9 arg10 harg10 arg11 arg12 arg13 arg14
  obtain ⟨f27, e27⟩ := part27_eq (F := F) arg0 harg0 arg1 harg1 arg2 harg2 arg3 harg3 arg4 harg4 arg5 harg5 arg6 harg6 arg7 harg7 arg8 harg8 arg9 harg9 arg10 harg10 arg11 arg12 arg13 arg14
  obtain ⟨f28, e28⟩ := part28_eq (F := F) arg0 harg0 arg1 harg1 arg2 harg2 arg3 harg3 arg4 harg4 arg5 harg5 arg6 harg6 arg7 harg7 arg8 harg8 arg9 harg9 arg10 harg10 arg11 arg12 arg13 arg14
  have e29 := part29_eq (F := F) arg0 harg0 arg1 harg1 arg2 harg2 arg3 harg3 arg4 harg4 arg5 harg5 arg6 harg6 arg7 harg7 arg8 harg8 arg9 harg9 arg10 harg10 arg11 arg12 arg13 arg14
  delta cc0_body_skel
  rw [k0_part79_eq_skeleton]
  delta k0_part79_skel phases run15
  simp only [e9, e16, e17, e18, e19, e20, e21, e22, e23, e24, e25, e26, e27, e28, e29, bind_assoc, pure_bind]
  show _ = _
  chain_rfl

end Steps

end Cert.KernelIdeal.Hand

end
-- ==== Proof.KernelIdealTables.lean ====
module

public import proofs.«01_k».proof.Proof.KernelIdealProgram

@[expose] public section

set_option maxRecDepth 65536

noncomputable section

/-! # Who talks to whom

The devices sit on a ring of sixteen. `fwd c k` is `k + 1` places after `c`, `bwd c k` is `k + 1` places before.
The printed addresses, offsets and conditions are read off in these terms, by evaluation at every device. -/

namespace Cert.KernelIdeal.Hand

open Idealize.ShloMosaic
open Cert.KernelIdeal.Gen

set_option backward.proofsInPublic true in
/-- The device `k + 1` places after `c`. -/
def fwd (c : Dev nD) (k : Fin 15) : Dev nD := ⟨(c.val + k.val + 1) % 16, Nat.mod_lt _ (by decide)⟩

set_option backward.proofsInPublic true in
/-- The device `k + 1` places before `c`. -/
def bwd (c : Dev nD) (k : Fin 15) : Dev nD := ⟨(c.val + 15 - k.val) % 16, Nat.mod_lt _ (by decide)⟩

theorem bwd_fwd : ∀ (k : Fin 15) (c : Dev nD), bwd (fwd c k) k = c := by decide +kernel
theorem fwd_bwd : ∀ (k : Fin 15) (c : Dev nD), fwd (bwd c k) k = c := by decide +kernel
theorem bwd_rev : ∀ (k : Fin 15) (c : Dev nD), bwd c (Fin.rev k) = fwd c k := by decide +kernel
theorem fwd_ne : ∀ (k : Fin 15) (c : Dev nD), fwd c k ≠ c := by decide +kernel
theorem bwd_ne : ∀ (k : Fin 15) (c : Dev nD), bwd c k ≠ c := by decide +kernel
theorem fwd_inj : ∀ (c : Dev nD) (k k' : Fin 15), fwd c k = fwd c k' → k = k' := by decide +kernel
theorem bwd_inj : ∀ (c : Dev nD) (k k' : Fin 15), bwd c k = bwd c k' → k = k' := by decide +kernel
theorem fwd_cover : ∀ (c d : Dev nD), d = c ∨ ∃ k, d = fwd c k := by decide +kernel
theorem bwd_cover : ∀ (c d : Dev nD), d = c ∨ ∃ k, d = bwd c k := by decide +kernel

/-- Going `k + 1` places on permutes the devices. -/
def rot (k : Fin 15) : Dev nD ≃ Dev nD := ⟨(fwd · k), (bwd · k), bwd_fwd k, fwd_bwd k⟩

/-- The half of the rows device `c` computes first: the second if it is even. -/
def firstHalf (c : Dev nD) : ℕ := if c.val % 2 = 0 then 1 else 0

/-- Transfer `k` of device `c` belongs to the first pass. -/
def inFirst (c : Dev nD) (k : Fin 15) : Bool := decide ((fwd c k).val / 8 = firstHalf c)

theorem hiFirst_eq : ∀ c : Dev nD, hiFirst c = if c.val % 2 = 0 then 1#1 else 0#1 := by decide +kernel
theorem loFirst_eq : ∀ c : Dev nD, loFirst c = if c.val % 2 = 0 then 0#1 else 1#1 := by decide +kernel

theorem sigDev_eq : ∀ (c : Dev nD) (k : Fin 15), sigDev c k = (fwd c k).val := by decide +kernel
theorem rsDev1_eq : ∀ (c : Dev nD) (k : Fin 15), rsDev1 c k = (fwd c k).val := by decide +kernel
theorem rsDev2_eq : ∀ (c : Dev nD) (k : Fin 15), rsDev2 c k = (fwd c k).val := by decide +kernel
theorem agDev_eq : ∀ (c : Dev nD) (k : Fin 15), agDev c k = (fwd c k).val := by decide +kernel
theorem cond1_eq : ∀ (c : Dev nD) (k : Fin 15), cond1 c k = if inFirst c k then 1#1 else 0#1 := by decide +kernel
theorem cond2_eq : ∀ (c : Dev nD) (k : Fin 15), cond2 c k = if inFirst c k then 0#1 else 1#1 := by decide +kernel
theorem dstOff1_eq : ∀ (c : Dev nD) (k : Fin 15), dstOff1 c k = ![32 * c.val, 0] := by decide +kernel
theorem dstOff2_eq : ∀ (c : Dev nD) (k : Fin 15), dstOff2 c k = ![32 * c.val, 0] := by decide +kernel
theorem srcOff1_eq : ∀ (c : Dev nD) (k : Fin 15), srcOff1 c k = ![32 * (fwd c k).val, 0] := by decide +kernel
theorem srcOff2_eq : ∀ (c : Dev nD) (k : Fin 15), srcOff2 c k = ![32 * (fwd c k).val, 0] := by decide +kernel
theorem off65_eq : ∀ (c : Dev nD) (k : Fin 15), k0_off65 c (BitVec.ofNat 32 (1 + k.val)) = ![32 * (bwd c k).val, 0] := by decide +kernel

/-! ## The semaphores -/

/-- DMA semaphore `k` of the kernel's array `a`: the sends and the arrivals of the reduction, the sends and the
    arrivals of the gathering. -/
def dm (a : Fin 4) (k : Fin 16) : DmaSem sig := ⟨6 + 16 * a.val + k.val, by revert a k; decide⟩

theorem semAt5 : ∀ k : Fin 15, semAt cc0_scratch5 k = dm 0 k.succ := by decide +kernel
theorem semAt6 : ∀ k : Fin 15, semAt cc0_scratch6 k = dm 1 k.succ := by decide +kernel
theorem semAt7 : ∀ k : Fin 15, semAt cc0_scratch7 k = dm 2 k.succ := by decide +kernel
theorem semAt8 : ∀ k : Fin 15, semAt cc0_scratch8 k = dm 3 k.succ := by decide +kernel

/-- The barrier semaphore. -/
abbrev barS : Sem sig := (SemArray.scalar (sig.barrier 0 rfl) : Sems sig S_).sem

/-- What a semaphore is for: nothing (`none`), the barrier (`some none`), or the traffic `k` of array `a`. -/
def kindOf : SemLoc sig → Option (Option (Fin 4 × Fin 15))
  | .reg s => if s = barS then some none else none
  | .dma s =>
    if h : 6 ≤ s.val ∧ s.val < 70 ∧ (s.val - 6) % 16 ≠ 0 then
      some (some (⟨(s.val - 6) / 16, by omega⟩, ⟨(s.val - 6) % 16 - 1, by omega⟩))
    else none

theorem kindOf_bar : kindOf (.reg barS) = some none := by decide +kernel
theorem kindOf_dm : ∀ (a : Fin 4) (k : Fin 15), kindOf (.dma (dm a k.succ)) = some (some (a, k)) := by decide +kernel
theorem kindOf_dm_zero : ∀ a : Fin 4, kindOf (.dma (dm a 0)) = none := by decide +kernel

/-- The kernel's own semaphores. -/
abbrev osem (i : Fin 4 × Fin 16) : SemLoc sig := .dma (dm i.1 i.2)

/-- All the semaphores the exchange runs on: the barrier and the kernel's own. -/
abbrev csem : Option (Fin 4 × Fin 16) → SemLoc sig
  | none => .reg barS
  | some i => osem i

theorem csem_injective : Function.Injective csem := by
  intro a b
  revert a b
  decide +kernel

end Cert.KernelIdeal.Hand

end
-- ==== Proof.KernelIdealValues.lean ====
module

public import proofs.«01_k».proof.Proof.KernelIdealTables
public import Idealize.ShloMosaic.Lib.ValueIdx
public import proofs.«01_k».proof.Proof.Gen.KernelIdeal.Frame

@[expose] public section

set_option maxRecDepth 65536

noncomputable section

/-! # What each buffer holds

Everything a device computes, as functions of the memory at launch: its partial product (`acc`) and its rounding
(`part`), what lands in its staging buffer (`staged`), the running sum of its rows (`redAt`), the gathered rows
(`gathered`) and the result (`result`). A buffer's contents are one function on the whole buffer; the sets `chunk j`
(32 rows) and `hlf b` (256 rows) say which elements are meant. -/

namespace Cert.KernelIdeal.Hand

open Idealize.ShloMosaic Idealize.ShloMosaic.TcCoe
open Idealize.ShloMosaic.ValueIdx (ix2 eq_ix2)
open Cert.KernelIdeal.Gen

variable {F : FTy → Type} [FloatOps F]

variable (m : (ℓ : Loc nD τ sig) → Buf (Elt F) ℓ)

theorem cfg0_N : cfg0.N = 1 := by decide
/-- The pipeline's one point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## One device's partial product -/

/-- The eight heads' outputs on 256 rows. -/
def stripOf (v5 : FVec F S768x512 .bf16) (v12 v16 : FVec F S768x128 .bf16) (x : Vec F S256x768 .f32) : Fin 8 → FVec F S256x64 .f32 :=
  ![k0_pay6 v5 v12 v16 x, k0_pay7 v5 v12 v16 x, k0_pay8 v5 v12 v16 x, k0_pay9 (k0_pay5 v5 v12 v16 x),
    k0_pay11 (k0_pay2 v5 x) (k0_pay3 v12 x) (k0_pay4 v16 x), k0_pay12 (k0_pay2 v5 x) (k0_pay3 v12 x) (k0_pay4 v16 x),
    k0_pay13 (k0_pay2 v5 x) (k0_pay3 v12 x) (k0_pay4 v16 x), k0_pay61 (k0_pay14 (k0_pay2 v5 x) (k0_pay3 v12 x) (k0_pay4 v16 x))]

/-- The heads' outputs side by side. -/
def attnVal (v5 : FVec F S768x512 .bf16) (v12 v16 : FVec F S768x128 .bf16) (x : Vec F S256x768 .f32) : Vec F S256x512 .f32 :=
  fun i => stripOf v5 v12 v16 x ⟨(i 1).val / 64, by have : (i 1).val < 512 := (i 1).isLt; omega⟩
    (ix2 (i 0) ⟨(i 1).val % 64, Nat.mod_lt _ (by decide)⟩)

/-- 256 rows of an array of 512. -/
def rows256 {α : Type} (b : Fin 2) (X : S512x768.Idx → α) : S256x768.Idx → α :=
  fun i => X (ix2 ⟨256 * b.val + (i 0).val, by have : (i 0).val < 256 := (i 0).isLt; omega⟩ (i 1))

/-- 32 rows of an array of 512. -/
def rows32 {α : Type} (j : Dev nD) (X : S512x768.Idx → α) : S32x768.Idx → α :=
  fun i => X (ix2 ⟨32 * j.val + (i 0).val, by have : (i 0).val < 32 := (i 0).isLt; have : j.val < 16 := j.isLt; omega⟩ (i 1))

/-- Device `c`'s `x`. -/
def xB (c : Dev nD) : Vec F S512x768 .f32 := iblk m c 0 t₀
/-- Device `c`'s block of the query weights. -/
def wqB (c : Dev nD) : Vec F S768x512 .f32 := iblk m c 1 t₀
/-- Device `c`'s block of the output weights. -/
def woB (c : Dev nD) : Vec F S512x768 .f32 := iblk m c 2 t₀
/-- Device `c`'s part of the key weights. -/
def wkB (c : Dev nD) : Vec F S768x1x128 .f32 :=
  (Memref.whole cc0_stg3_0 : Memref sig .tc .vmem S768x16x128 .f32).view.readAt (Elt F) (Rect.unit (s := S768x16x128) (k0_off1 c) S768x1x128.size (k0_off1_inb c)).toLoadRect (iblk m c 3 t₀)
/-- Device `c`'s part of the value weights. -/
def wvB (c : Dev nD) : Vec F S768x1x128 .f32 :=
  (Memref.whole cc0_stg4_0 : Memref sig .tc .vmem S768x16x128 .f32).view.readAt (Elt F) (Rect.unit (s := S768x16x128) (k0_off1 c) S768x1x128.size (k0_off1_inb c)).toLoadRect (iblk m c 4 t₀)

/-- Half `b` of device `c`'s partial product. -/
def accHalf (c : Dev nD) (b : Fin 2) : Vec F S256x768 .f32 :=
  k0_pay68 (k0_pay58 (woB m c)) (attnVal (k0_pay57 (wqB m c)) (k0_pay59 (wkB m c)) (k0_pay60 (wvB m c)) (rows256 b (xB m c)))

/-- The half a row is in. -/
def halfOf (i : S512x768.Idx) : Fin 2 := ⟨(i 0).val / 256, by have : (i 0).val < 512 := (i 0).isLt; omega⟩
/-- The row's place in its half. -/
def inHalf (i : S512x768.Idx) : S256x768.Idx := ix2 ⟨(i 0).val % 256, Nat.mod_lt _ (by decide)⟩ (i 1)
/-- The device whose chunk a row is in. -/
def devOf (i : S512x768.Idx) : Dev nD := ⟨(i 0).val / 32, by have : (i 0).val < 512 := (i 0).isLt; show _ < 16; omega⟩
/-- The row's place in its chunk. -/
def inChunk (i : S512x768.Idx) : S32x768.Idx := ix2 ⟨(i 0).val % 32, Nat.mod_lt _ (by decide)⟩ (i 1)

/-- Device `c`'s partial product. -/
def acc (c : Dev nD) : Vec F S512x768 .f32 := fun i => accHalf m c (halfOf i) (inHalf i)
/-- The same, rounded. -/
def part (c : Dev nD) : Vec F S512x768 .bf16 := fun i => k0_pay69 (accHalf m c (halfOf i)) (inHalf i)
/-- What lands in device `d`'s staging buffer: every device's rounded rows `d`. -/
def staged (d : Dev nD) : Vec F S512x768 .bf16 := fun i => rows32 d (part m (devOf i)) (inChunk i)
/-- The running sum of device `c`'s rows. -/
def redAt (c : Dev nD) : ℕ → FVec F S32x768 .f32
  | 0 => rows32 c (acc m c)
  | k + 1 => if h : k < 15 then k0_pay73 (redAt c k) (rows32 (bwd c ⟨k, h⟩) (staged m c)) else redAt c k
/-- The gathered rows, the same on every device. -/
def gathered : Vec F S512x768 .bf16 := fun i => rounded (redAt m (devOf i) 15) (inChunk i)
/-- The result. -/
def result : Vec F S512x768 .f32 := k0_pay89 (gathered m)

theorem redAt_succ (c : Dev nD) (k : Fin 15) : redAt m c (k.val + 1) = k0_pay73 (redAt m c k.val) (rows32 (bwd c k) (staged m c)) := by
  rw [redAt, dif_pos k.isLt]

/-! ## Sets of rows -/

/-- The rows of chunk `j`. -/
def chunk (j : Dev nD) : Finset S512x768.Idx := Finset.univ.filter fun i => (i 0).val / 32 = j.val
/-- The rows of half `b`. -/
def hlf (b : ℕ) : Finset S512x768.Idx := Finset.univ.filter fun i => (i 0).val / 256 = b

theorem mem_chunk {j : Dev nD} {i : S512x768.Idx} : i ∈ chunk j ↔ (i 0).val / 32 = j.val := by
  rw [chunk, Finset.mem_filter]; exact ⟨fun h => h.2, fun h => ⟨Finset.mem_univ _, h⟩⟩
theorem mem_hlf {b : ℕ} {i : S512x768.Idx} : i ∈ hlf b ↔ (i 0).val / 256 = b := by
  rw [hlf, Finset.mem_filter]; exact ⟨fun h => h.2, fun h => ⟨Finset.mem_univ _, h⟩⟩

theorem devOf_of_mem {j : Dev nD} {i : S512x768.Idx} (h : i ∈ chunk j) : devOf i = j := Fin.ext (mem_chunk.mp h)

theorem chunk_disjoint {j j' : Dev nD} (h : j ≠ j') : Disjoint (chunk j) (chunk j') :=
  Finset.disjoint_left.mpr fun i hi hi' => h (Fin.ext ((mem_chunk.mp hi).symm.trans (mem_chunk.mp hi')))
theorem chunk_cover : (Finset.univ : Finset (Dev nD)).biUnion chunk = Finset.univ :=
  Finset.eq_univ_iff_forall.mpr fun i => Finset.mem_biUnion.mpr ⟨devOf i, Finset.mem_univ _, mem_chunk.mpr rfl⟩
theorem hlf_cover (b : Fin 2) : (Finset.univ.filter fun j : Dev nD => j.val / 8 = b.val).biUnion chunk = hlf b.val := by
  ext i
  have : (i 0).val < 512 := (i 0).isLt
  rw [Finset.mem_biUnion, mem_hlf]
  constructor
  · rintro ⟨j, hj, hi⟩
    have h1 := (Finset.mem_filter.mp hj).2
    have h2 := mem_chunk.mp hi
    omega
  · intro h
    exact ⟨devOf i, Finset.mem_filter.mpr ⟨Finset.mem_univ _, by show (i 0).val / 32 / 8 = b.val; omega⟩, mem_chunk.mpr rfl⟩
theorem hlf_disjoint : Disjoint (hlf 0) (hlf 1) :=
  Finset.disjoint_left.mpr fun i hi hi' => by have := mem_hlf.mp hi; have := mem_hlf.mp hi'; omega
theorem hlf_union : hlf 0 ∪ hlf 1 = Finset.univ :=
  Finset.eq_univ_iff_forall.mpr fun i => by
    have : (i 0).val < 512 := (i 0).isLt
    rw [Finset.mem_union, mem_hlf, mem_hlf]; omega

/-! ## Rectangles of rows -/

theorem rect32_set {o : Fin 2 → Nat} (j : Dev nD) (ho : o = ![32 * j.val, 0]) (h : ∀ a, o a + S32x768.size a ≤ S512x768.size a) :
    (Rect.unit (s := S512x768) o S32x768.size h).set = chunk j := by
  subst ho
  ext i
  rw [Rect.mem_set_unit, mem_chunk]
  have h1 : (i 1).val < 768 := (i 1).isLt
  constructor
  · intro hi
    have h0 := hi 0
    simp only [Matrix.cons_val_zero] at h0
    obtain ⟨ha, hb⟩ := h0
    omega
  · intro hi a
    fin_cases a
    · show 32 * j.val ≤ (i 0).val ∧ (i 0).val < 32 * j.val + 32
      omega
    · show 0 ≤ (i 1).val ∧ (i 1).val < 0 + 768
      omega

theorem rect32_emb {o : Fin 2 → Nat} (j : Dev nD) (ho : o = ![32 * j.val, 0]) (h : ∀ a, o a + S32x768.size a ≤ S512x768.size a) (x : S32x768.Idx) :
    (Rect.unit (s := S512x768) o S32x768.size h).emb x
      = (ix2 ⟨32 * j.val + (x 0).val, by have : (x 0).val < 32 := (x 0).isLt; have : j.val < 16 := j.isLt; omega⟩ (x 1) : S512x768.Idx) := by
  subst ho
  funext a
  apply Fin.ext
  rw [Rect.emb_apply]
  fin_cases a
  · show 32 * j.val + 1 * (x 0).val = 32 * j.val + (x 0).val
    omega
  · show 0 + 1 * (x 1).val = (x 1).val
    omega

theorem rect256_set {o : Fin 2 → Nat} (b : Fin 2) (ho : o = ![256 * b.val, 0]) (h : ∀ a, o a + S256x768.size a ≤ S512x768.size a) :
    (Rect.unit (s := S512x768) o S256x768.size h).set = hlf b.val := by
  subst ho
  ext i
  rw [Rect.mem_set_unit, mem_hlf]
  have h1 : (i 1).val < 768 := (i 1).isLt
  constructor
  · intro hi
    have h0 := hi 0
    simp only [Matrix.cons_val_zero] at h0
    obtain ⟨ha, hb⟩ := h0
    omega
  · intro hi a
    fin_cases a
    · show 256 * b.val ≤ (i 0).val ∧ (i 0).val < 256 * b.val + 256
      omega
    · show 0 ≤ (i 1).val ∧ (i 1).val < 0 + 768
      omega

theorem rect256_emb {o : Fin 2 → Nat} (b : Fin 2) (ho : o = ![256 * b.val, 0]) (h : ∀ a, o a + S256x768.size a ≤ S512x768.size a) (x : S256x768.Idx) :
    (Rect.unit (s := S512x768) o S256x768.size h).emb x
      = (ix2 ⟨256 * b.val + (x 0).val, by have : (x 0).val < 256 := (x 0).isLt; omega⟩ (x 1) : S512x768.Idx) := by
  subst ho
  funext a
  apply Fin.ext
  rw [Rect.emb_apply]
  fin_cases a
  · show 256 * b.val + 1 * (x 0).val = 256 * b.val + (x 0).val
    omega
  · show 0 + 1 * (x 1).val = (x 1).val
    omega

/-- A place in chunk `j` names its device and its row. -/
theorem devOf_ix2 (j : Dev nD) (x : S32x768.Idx) (h) : devOf (ix2 ⟨32 * j.val + (x 0).val, h⟩ (x 1)) = j := by
  have : (x 0).val < 32 := (x 0).isLt
  apply Fin.ext
  show (32 * j.val + (x 0).val) / 32 = j.val
  omega
theorem inChunk_ix2 (j : Dev nD) (x : S32x768.Idx) (h) : inChunk (ix2 ⟨32 * j.val + (x 0).val, h⟩ (x 1)) = x := by
  have : (x 0).val < 32 := (x 0).isLt
  refine Eq.trans ?_ (eq_ix2 x).symm
  show ix2 _ _ = ix2 _ _
  congr 1
  apply Fin.ext
  show (32 * j.val + (x 0).val) % 32 = (x 0).val
  omega
theorem halfOf_ix2 (b : Fin 2) (x : S256x768.Idx) (h) : halfOf (ix2 ⟨256 * b.val + (x 0).val, h⟩ (x 1)) = b := by
  have : (x 0).val < 256 := (x 0).isLt
  apply Fin.ext
  show (256 * b.val + (x 0).val) / 256 = b.val
  omega
theorem inHalf_ix2 (b : Fin 2) (x : S256x768.Idx) (h) : inHalf (ix2 ⟨256 * b.val + (x 0).val, h⟩ (x 1)) = x := by
  have : (x 0).val < 256 := (x 0).isLt
  refine Eq.trans ?_ (eq_ix2 x).symm
  show ix2 _ _ = ix2 _ _
  congr 1
  apply Fin.ext
  show (256 * b.val + (x 0).val) % 256 = (x 0).val
  omega

end Cert.KernelIdeal.Hand

end
-- ==== Proof.KernelIdealProtocol.lean ====
module

public import proofs.«01_k».proof.Proof.KernelIdealValues
public import Idealize.ShloMosaic.Lib.Pipeline.Launch
public import Idealize.ShloMosaic.Lib.Transfers
public import Idealize.ShloMosaic.Lib.Tactic

@[expose] public section

set_option maxRecDepth 65536

noncomputable section

/-! # The protocol between the devices

Every device has a barrier cell (one unit from each other device), and for each `k` a cell for each of the four kinds
of transfer semaphore: reduce-scatter sent, reduce-scatter received, all-gather sent, all-gather received. What a
landing hands over says what the buffers hold then. -/

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.ValueIdx (ix2 eq_ix2)
open Cert.KernelIdeal.Gen

variable {F : FTy → Type} [FloatOps F]

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Ownership of rows -/

/-- Device `c` holds the elements `S` of its partial product. -/
abbrev at1 (c : Dev nD) (S : Finset S512x768.Idx) (f : Vec F S512x768 .f32) : sProp 𝕄 := ((c : Thread nD τ).loc cc0_scratch1) ↦[S]{fullShare} f
/-- Device `c` holds the elements `S` of its rounded partial product. -/
abbrev at2 (c : Dev nD) (S : Finset S512x768.Idx) (f : Vec F S512x768 .bf16) : sProp 𝕄 := ((c : Thread nD τ).loc cc0_scratch2) ↦[S]{fullShare} f
/-- Device `c`'s staging buffer is held on the elements `S`. -/
abbrev at3 (c : Dev nD) (S : Finset S512x768.Idx) (f : Vec F S512x768 .bf16) : sProp 𝕄 := ((c : Thread nD τ).loc cc0_scratch3) ↦[S]{fullShare} f
/-- Device `c`'s gathering buffer is held on the elements `S`, at the share `q`. -/
abbrev at4 (c : Dev nD) (S : Finset S512x768.Idx) (q : PosShare TreeShare) (f : Vec F S512x768 .bf16) : sProp 𝕄 := ((c : Thread nD τ).loc cc0_scratch4) ↦[S]{q} f

/-! ## The cells -/

abbrev barCell (c : Dev nD) : GSem nD τ sig := ((c : Thread nD τ), .reg barS)
abbrev dmCell (a : Fin 4) (k : Fin 15) (c : Dev nD) : GSem nD τ sig := ((c : Thread nD τ), .dma (dm a k.succ))
abbrev kcell (ck : Dev nD × Option (Fin 4 × Fin 16)) : GSem nD τ sig := ((ck.1 : Thread nD τ), csem ck.2)

/-- What one transfer of 32 rows adds to its semaphores. -/
abbrev N : ℕ := ((Memref.whole cc0_scratch3 : Memref sig .tc .vmem S512x768 .bf16).slice (Rect.unit (s := S512x768) ![0, 0] S32x768.size (by decide)) (fun _ => rfl)).view.dmaCredit
theorem N_pos : 0 < N := View.dmaCredit_pos _ (by decide)

/-! ## The schedule -/

/-- What the signal `k` brings to `c`'s barrier: rows `c` of the staging and the gathering buffer of the device
    that sent it. -/
def barPay (c : Dev nD) (k : Fin 15) : sProp 𝕄 :=
  iprop((∃ f, at3 (bwd c k) (chunk c) f) ∗ (∃ f, at4 (bwd c k) (chunk c) fullShare f))
/-- What a completed transfer brings to device `d`. -/
def dmaPay (a : Fin 4) (k : Fin 15) (d : Dev nD) : sProp 𝕄 :=
  match a with
  | 0 => at2 d (chunk (fwd d k)) (part m d)
  | 1 => at3 d (chunk (bwd d k)) (staged m d)
  | 2 => at4 d (chunk d) (shareTok fullShare 15 k) (gathered m)
  | 3 => at4 d (chunk (bwd d k)) fullShare (gathered m)

omit [FloatOps F] in
instance barPay_storable (c : Dev nD) (k : Fin 15) : BI.Storable (upEmb : UEmb _ 𝕄) (barPay (F := F) c k) := by
  unfold barPay; infer_instance
instance dmaPay_storable (a : Fin 4) (k : Fin 15) (c : Dev nD) : BI.Storable (upEmb : UEmb _ 𝕄) (dmaPay (F := F) m a k c) := by
  fin_cases a <;> (unfold dmaPay; infer_instance)

/-- One round: a barrier cell has a duty of one unit for each other device, a transfer cell one duty of the
    transfer's size. -/
def Rd : Rounds.Schedule (GSem nD τ sig) (Fin 15) 𝕄 where
  duties g r := if r = 0 ∧ g.1.2 = .tc then (match kindOf g.2 with | none => ∅ | some none => Finset.univ | some (some _) => {0}) else ∅
  unitless _ := False
  amount g _ _ := match kindOf g.2 with | some (some _) => N | _ => 1
  payload g _ d := match kindOf g.2 with | none => iprop(emp) | some none => barPay g.1.1 d | some (some ak) => dmaPay m ak.1 ak.2 g.1.1
  amount_pos g _ _ _ := by
    split
    · exact N_pos
    · exact Nat.one_pos

instance Rd_payload_storable (g : GSem nD τ sig) (r : ℕ) (d : Fin 15) : BI.Storable (upEmb : UEmb _ 𝕄) ((Rd (F := F) m).payload g r d) := by
  show BI.Storable upEmb (match kindOf g.2 with | none => iprop(emp) | some none => barPay g.1.1 d | some (some ak) => dmaPay m ak.1 ak.2 g.1.1)
  split <;> infer_instance

section Sched
variable (c : Dev nD) (a : Fin 4) (k d : Fin 15)

theorem duties_bar : (Rd (F := F) m).duties (barCell c) 0 = Finset.univ := by
  dsimp only [Rd]; rw [if_pos ⟨rfl, rfl⟩, kindOf_bar]
theorem duties_dm : (Rd (F := F) m).duties (dmCell a k c) 0 = {0} := by
  dsimp only [Rd]; rw [if_pos ⟨rfl, rfl⟩, kindOf_dm]
theorem duties_dm_zero (r : ℕ) : (Rd (F := F) m).duties ((c : Thread nD τ), .dma (dm a 0)) r = ∅ := by
  dsimp only [Rd]; rw [kindOf_dm_zero]; exact ite_self _
theorem duties_later (g : GSem nD τ sig) : ∀ r, 1 ≤ r → (Rd (F := F) m).duties g r = ∅ :=
  fun r hr => by dsimp only [Rd]; exact if_neg fun h => by omega

theorem amount_bar : (Rd (F := F) m).amount (barCell c) 0 d = 1 := by dsimp only [Rd]; rw [kindOf_bar]
theorem amount_dm : (Rd (F := F) m).amount (dmCell a k c) 0 d = N := by dsimp only [Rd]; rw [kindOf_dm]

theorem expect_bar : (Rd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_dm : (Rd (F := F) m).expect (dmCell a k c) 0 = N := by
  unfold Schedule.expect Schedule.amountOf; rw [duties_dm, Finset.sum_singleton, amount_dm]

theorem payload_bar : (Rd (F := F) m).payload (barCell c) 0 d = barPay c d := by dsimp only [Rd]; rw [kindOf_bar]
theorem payload_dm : (Rd (F := F) m).payload (dmCell a k c) 0 d = dmaPay m a k c := by dsimp only [Rd]; rw [kindOf_dm]

theorem rest_bar : bigSep ((Rd (F := F) m).duties (barCell c) 0 \ ∅) (fun d => (Rd (F := F) m).payload (barCell c) 0 d) = bigSep Finset.univ (fun d => barPay (F := F) c d) := by
  rw [Finset.sdiff_empty, duties_bar]; exact bigSep_congr fun d _ => payload_bar m c d
theorem rest_dm : bigSep ((Rd (F := F) m).duties (dmCell a k c) 0 \ ∅) (fun d => (Rd (F := F) m).payload (dmCell a k c) 0 d) = dmaPay m a k c := by
  rw [Finset.sdiff_empty, duties_dm, bigSep_singleton, payload_dm]

end Sched

/-! ## Levels -/

def L (g : GSem nD τ sig) : Finset Unit := if g.1.2 = .tc then {()} else ∅
/-- Barrier cells at 1, reduce-scatter receives at 2, all-gather receives at 3, everything else at 0. -/
def lv (g : GSem nD τ sig) (_ : Unit) : ℕ :=
  match kindOf g.2 with | some none => 1 | some (some (1, _)) => 2 | some (some (3, _)) => 3 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; rw [kindOf_bar]
theorem lv_dm1 (k : Fin 15) (c : Dev nD) : lv (dmCell 1 k c) () = 2 := by dsimp only [lv]; rw [kindOf_dm]; rfl
theorem lv_dm3 (k : Fin 15) (c : Dev nD) : lv (dmCell 3 k c) () = 3 := by dsimp only [lv]; rw [kindOf_dm]; rfl

/-- Everything owed is above level `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_sum {n : ℕ} {ι : Type} (s : Finset ι) (f : ι → CellTallies nD τ sig Unit) (h : ∀ i ∈ s, Above n (f i)) : Above n (∑ i ∈ s, f i) := by
  classical
  induction s using Finset.induction_on with
  | empty => rw [Finset.sum_empty]; exact above_zero n
  | insert i s hi ih =>
    rw [Finset.sum_insert hi]
    exact above_add (h i (Finset.mem_insert_self _ _)) (ih fun j hj => h j (Finset.mem_insert_of_mem hj))
theorem above_tally {n : ℕ} (c : Dev nD) (sm : SemLoc sig) (N : ℕ) (h : n < lv ((c : Thread nD τ), sm) ()) : Above n (tallyAt ((c : Thread nD τ), sm) () N) := fun g u hg => by
  rw [tallyAt_apply] at hg
  by_cases hh : g = ((c : Thread nD τ), sm) ∧ u = ()
  · rw [hh.1, L_tc]; exact ⟨Finset.mem_singleton_self _, h⟩
  · rw [if_neg hh] at hg; exact absurd hg (Nat.lt_irrefl 0)

omit [FloatOps F] in
theorem mayWait (c : Dev nD) (sm : SemLoc sig) (O : CellTallies nD τ sig Unit) (n : ℕ) (hO : Above n O) (hn : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hn) (fun g u hg => (hO g u hg).2)

/-! ## Debts -/

/-- What is still owed after the first `k` of fifteen steps. -/
def rem (f : Fin 15 → CellTallies nD τ sig Unit) (k : ℕ) : CellTallies nD τ sig Unit := ∑ j ∈ Finset.univ.filter (fun j : Fin 15 => k ≤ j.val), f j

theorem rem_succ (f : Fin 15 → CellTallies nD τ sig Unit) (k : Fin 15) : rem f k.val = rem f (k.val + 1) + f k := by
  unfold rem
  have : Finset.univ.filter (fun j : Fin 15 => k.val ≤ j.val) = insert k (Finset.univ.filter (fun j : Fin 15 => k.val + 1 ≤ j.val)) := by
    ext j
    simp only [Finset.mem_filter, Finset.mem_univ, true_and, Finset.mem_insert, Fin.ext_iff]
    omega
  rw [this, Finset.sum_insert (by simp), add_comm]
theorem rem_end (f : Fin 15 → CellTallies nD τ sig Unit) : rem f 15 = 0 := by
  unfold rem
  rw [Finset.filter_false_of_mem fun j _ => by have := j.isLt; omega, Finset.sum_empty]
theorem above_rem {n : ℕ} (f : Fin 15 → CellTallies nD τ sig Unit) (k : ℕ) (h : ∀ j, Above n (f j)) : Above n (rem f k) := above_sum _ _ fun j _ => h j

def tBar (c : Dev nD) (k : Fin 15) : CellTallies nD τ sig Unit := tallyAt (barCell (fwd c k)) () 1
/-- The reduce-scatter transfers done in the first pass. -/
def tRs1 (c : Dev nD) (k : Fin 15) : CellTallies nD τ sig Unit := if inFirst c k then tallyAt (dmCell 1 k (fwd c k)) () N else 0
/-- Those done in the second. -/
def tRs2 (c : Dev nD) (k : Fin 15) : CellTallies nD τ sig Unit := if inFirst c k then 0 else tallyAt (dmCell 1 k (fwd c k)) () N
def tAg (c : Dev nD) (k : Fin 15) : CellTallies nD τ sig Unit := tallyAt (dmCell 3 k (fwd c k)) () N

/-- What a device owes after its signals; at launch. -/
def O₁ (c : Dev nD) : CellTallies nD τ sig Unit := rem (tAg c) 0 + rem (tRs2 c) 0 + rem (tRs1 c) 0
def O₀ (c : Dev nD) : CellTallies nD τ sig Unit := O₁ c + rem (tBar c) 0

theorem above_tAg (c : Dev nD) (k : Fin 15) {n : ℕ} (hn : n < 3) : Above n (tAg c k) := above_tally _ _ _ (by rw [lv_dm3]; exact hn)
theorem above_tRs1 (c : Dev nD) (k : Fin 15) {n : ℕ} (hn : n < 2) : Above n (tRs1 c k) := by
  unfold tRs1; split
  · exact above_tally _ _ _ (by rw [lv_dm1]; exact hn)
  · exact above_zero n
theorem above_tRs2 (c : Dev nD) (k : Fin 15) {n : ℕ} (hn : n < 2) : Above n (tRs2 c k) := by
  unfold tRs2; split
  · exact above_zero n
  · exact above_tally _ _ _ (by rw [lv_dm1]; exact hn)
theorem above_tBar (c : Dev nD) (k : Fin 15) : Above 0 (tBar c k) := above_tally _ _ _ (by rw [lv_bar]; exact Nat.one_pos)
theorem above_O₁ (c : Dev nD) {n : ℕ} (hn : n < 2) : Above n (O₁ c) :=
  above_add (above_add (above_rem _ _ fun j => above_tAg c j (by omega)) (above_rem _ _ fun j => above_tRs2 c j hn)) (above_rem _ _ fun j => above_tRs1 c j hn)
theorem above_O₀ (c : Dev nD) : Above 0 (O₀ c) := above_add (above_O₁ c (by decide)) (above_rem _ _ fun j => above_tBar c j)

/-! ## Conjunctions over devices -/

section Deal

/-- The devices as one and the fifteen after it. -/
def fwdEquiv (c : Dev nD) : Option (Fin 15) → Dev nD | none => c | some k => fwd c k
theorem fwdEquiv_bij (c : Dev nD) : Function.Bijective (fwdEquiv c) := by
  constructor
  · rintro (_ | k) (_ | k') h
    · rfl
    · exact absurd h.symm (fwd_ne k' c)
    · exact absurd h (fwd_ne k c)
    · exact congrArg some (fwd_inj c k k' h)
  · intro d
    rcases fwd_cover c d with h | ⟨k, h⟩
    · exact ⟨none, h.symm⟩
    · exact ⟨some k, h.symm⟩

omit [FloatOps F] in
theorem bigSep_option {I : Type} [Fintype I] [DecidableEq I] (Φ : Option I → sProp 𝕄) :
    bigSep Finset.univ Φ = iprop(Φ none ∗ bigSep Finset.univ fun i => Φ (some i)) := by
  have : (Finset.univ : Finset (Option I)) = insert none (Finset.univ.map Function.Embedding.some) := by
    ext x; cases x <;> simp
  rw [this, bigSep_insert (by simp), bigSep_map]
  rfl

omit [FloatOps F] in
theorem bigSep_fwd (c : Dev nD) (Φ : Dev nD → sProp 𝕄) : bigSep Finset.univ Φ = iprop(Φ c ∗ bigSep Finset.univ fun k => Φ (fwd c k)) := by
  rw [bigSep_univ_equiv (Equiv.ofBijective _ (fwdEquiv_bij c)) Φ, bigSep_option]
  rfl

omit [FloatOps F] in
theorem bigSep_rev (Φ : Fin 15 → sProp 𝕄) : bigSep Finset.univ Φ = bigSep Finset.univ fun k => Φ (Fin.rev k) :=
  bigSep_univ_equiv Fin.revPerm Φ

omit [FloatOps F] in
theorem bigSep_bwd (c : Dev nD) (Φ : Dev nD → sProp 𝕄) : bigSep Finset.univ Φ = iprop(Φ c ∗ bigSep Finset.univ fun k => Φ (bwd c k)) := by
  rw [bigSep_fwd c, bigSep_rev fun k => Φ (bwd c k)]
  simp only [bwd_rev]

end Deal

end Cert.KernelIdeal.Hand

end
-- ==== Proof.KernelIdealLoops.lean ====
module

public import proofs.«01_k».proof.Proof.KernelIdealProtocol

@[expose] public section

set_option maxRecDepth 65536

noncomputable section

/-! # Fifteen steps at a time

A phase of fifteen like steps runs under an invariant that counts the steps done; step `k` consumes its own
precondition and leaves its own postcondition. -/

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- Program `p` on device `c` ends in `Q`. -/
abbrev wpc {α : Type} (c : Dev nD) (p : TcProg F α) (Q : α → sProp 𝕄) : sProp 𝕄 :=
  wp frame (wpE (defs₀ (F := F)) 𝒱₀ (c : Thread nD τ) none) Set.univ p Q

theorem wpc_mono {α : Type} {c : Dev nD} {p : TcProg F α} {Q Q' : α → sProp 𝕄} (h : ∀ a, Q a ⊢ Q' a) : wpc c p Q ⊢ wpc c p Q' :=
  wp_mono frame (wpE (defs₀ (F := F)) 𝒱₀ (c : Thread nD τ) none) Set.univ h

theorem wpc_bind {α β : Type} {c : Dev nD} {p : TcProg F α} {q : α → TcProg F β} {R : β → sProp 𝕄} {A : sProp 𝕄}
    (h : A ⊢ wpc c p fun a => wpc c (q a) R) : A ⊢ wpc c (p >>= q) R := by
  show _ ⊢ wp frame (wpE (defs₀ (F := F)) 𝒱₀ (c : Thread nD τ) none) Set.univ (p >>= q) R
  rw [wp_bind]
  exact h

theorem wpc_frame {α : Type} {c : Dev nD} {p : TcProg F α} {A B : sProp 𝕄} {Q : α → sProp 𝕄} (h : A ⊢ wpc c p Q) :
    iprop(A ∗ B) ⊢ wpc c p fun a => iprop(Q a ∗ B) :=
  (sep_mono_left h).trans (wp_frame_r frame (wpE (defs₀ (F := F)) 𝒱₀ (c : Thread nD τ) none) Set.univ)

theorem wpc_pure {α : Type} {c : Dev nD} {A : sProp 𝕄} {a : α} {Q : α → sProp 𝕄} (h : A ⊢ Q a) : A ⊢ wpc c (pure a : TcProg F α) Q := by
  show _ ⊢ wp frame (wpE (defs₀ (F := F)) 𝒱₀ (c : Thread nD τ) none) Set.univ (.ret a) Q
  rw [wp_ret]
  exact h.trans fupd_intro

/-- One phase, then the rest. -/
theorem wpc_seq {α β : Type} (c : Dev nD) (p : TcProg F α) (q : α → TcProg F β) {A B : sProp 𝕄} {Q : α → sProp 𝕄} {R : β → sProp 𝕄}
    (hp : A ⊢ wpc c p Q) (hq : ∀ a, iprop(Q a ∗ B) ⊢ wpc c (q a) R) : iprop(A ∗ B) ⊢ wpc c (p >>= q) R := by
  exact wpc_bind ((wpc_frame hp).trans (wpc_mono hq))

/-- The conjuncts from `k` on, and those before `k`. -/
def bigFrom (Φ : Fin 15 → sProp 𝕄) (k : ℕ) : sProp 𝕄 := bigSep (Finset.univ.filter fun j : Fin 15 => k ≤ j.val) Φ
def bigTo (Φ : Fin 15 → sProp 𝕄) (k : ℕ) : sProp 𝕄 := bigSep (Finset.univ.filter fun j : Fin 15 => j.val < k) Φ

omit [FloatOps F] in
theorem bigFrom_succ (Φ : Fin 15 → sProp 𝕄) (k : Fin 15) : bigFrom Φ k.val = iprop(Φ k ∗ bigFrom Φ (k.val + 1)) := by
  unfold bigFrom
  have : Finset.univ.filter (fun j : Fin 15 => k.val ≤ j.val) = insert k (Finset.univ.filter (fun j : Fin 15 => k.val + 1 ≤ j.val)) := by
    ext j
    simp only [Finset.mem_filter, Finset.mem_univ, true_and, Finset.mem_insert, Fin.ext_iff]
    omega
  rw [this, bigSep_insert (by simp)]
  rfl
omit [FloatOps F] in
theorem bigTo_succ (Φ : Fin 15 → sProp 𝕄) (k : Fin 15) : bigTo Φ (k.val + 1) = iprop(Φ k ∗ bigTo Φ k.val) := by
  unfold bigTo
  have : Finset.univ.filter (fun j : Fin 15 => j.val < k.val + 1) = insert k (Finset.univ.filter (fun j : Fin 15 => j.val < k.val)) := by
    ext j
    simp only [Finset.mem_filter, Finset.mem_univ, true_and, Finset.mem_insert, Fin.ext_iff]
    omega
  rw [this, bigSep_insert (by simp)]
  rfl
omit [FloatOps F] in
theorem bigFrom_zero (Φ : Fin 15 → sProp 𝕄) : bigFrom Φ 0 = bigSep Finset.univ Φ := by
  unfold bigFrom; rw [Finset.filter_true_of_mem fun j _ => Nat.zero_le _]
omit [FloatOps F] in
theorem bigTo_zero (Φ : Fin 15 → sProp 𝕄) : bigTo Φ 0 = iprop(emp) := by
  unfold bigTo; rw [Finset.filter_false_of_mem fun j _ => Nat.not_lt_zero _, bigSep_empty]
  rfl
omit [FloatOps F] in
theorem bigTo_end (Φ : Fin 15 → sProp 𝕄) : bigTo Φ 15 = bigSep Finset.univ Φ := by
  unfold bigTo; rw [Finset.filter_true_of_mem fun j _ => j.isLt]

/-- Where the fold stands after `k` steps. -/
def foldAt (I : ℕ → sProp 𝕄) (pre post : Fin 15 → sProp 𝕄) (k : ℕ) : sProp 𝕄 := iprop(I k ∗ bigFrom pre k ∗ bigTo post k)

theorem fold_step {α : Type} (c : Dev nD) (p : Fin 15 → α → TcProg F α) (val : ℕ → α) (I : ℕ → sProp 𝕄) (pre post : Fin 15 → sProp 𝕄)
    (h : ∀ k : Fin 15, iprop(I k.val ∗ pre k) ⊢ wpc c (p k (val k.val)) (fun a => iprop(⌜a = val (k.val + 1)⌝ ∗ I (k.val + 1) ∗ post k))) (k : Fin 15) : foldAt I pre post k.val ⊢ wpc c (p k (val k.val)) (fun a => iprop(⌜a = val (k.val + 1)⌝ ∗ foldAt I pre post (k.val + 1))) := by
  unfold foldAt
  rw [bigFrom_succ, bigTo_succ]
  refine BIBase.Entails.trans ?_ ((wpc_frame (h k) (B := iprop(bigFrom pre (k.val + 1) ∗ bigTo post k.val))).trans (wpc_mono fun a => ?_))
  · iintro ⟨HI, ⟨Hp, Hr⟩, Ht⟩
    isplitl [HI Hp]; · isplitl [HI] <;> iassumption
    isplitl [Hr] <;> iassumption
  · iintro ⟨⟨Ha, HI, Hp⟩, Hr, Ht⟩
    isplitl [Ha]; · iexact Ha
    isplitl [HI]; · iexact HI
    isplitl [Hr]; · iexact Hr
    isplitl [Hp] <;> iassumption

theorem fold_bind {α : Type} (c : Dev nD) (p : Fin 15 → α → TcProg F α) (val : ℕ → α) (I : ℕ → sProp 𝕄) (pre post : Fin 15 → sProp 𝕄)
    (h : ∀ k : Fin 15, iprop(I k.val ∗ pre k) ⊢ wpc c (p k (val k.val)) (fun a => iprop(⌜a = val (k.val + 1)⌝ ∗ I (k.val + 1) ∗ post k))) {β : Type} (k : Fin 15) (q : α → TcProg F β) {Q : β → sProp 𝕄} (hq : foldAt I pre post (k.val + 1) ⊢ wpc c (q (val (k.val + 1))) Q) :
    foldAt I pre post k.val ⊢ wpc c (p k (val k.val) >>= q) Q := by
  refine wpc_bind ((fold_step c p val I pre post h k).trans (wpc_mono fun a => ?_))
  iintro ⟨%ha, H⟩
  subst ha
  iapply hq
  iexact H

theorem fold15_spec {α : Type} (c : Dev nD) (p : Fin 15 → α → TcProg F α) (val : ℕ → α) (I : ℕ → sProp 𝕄) (pre post : Fin 15 → sProp 𝕄)
    (h : ∀ k : Fin 15, iprop(I k.val ∗ pre k) ⊢ wpc c (p k (val k.val)) (fun a => iprop(⌜a = val (k.val + 1)⌝ ∗ I (k.val + 1) ∗ post k))) : iprop(I 0 ∗ bigSep Finset.univ pre) ⊢ wpc c (fold15 p (val 0)) fun a => iprop(⌜a = val 15⌝ ∗ I 15 ∗ bigSep Finset.univ post) := by
  have h0 : iprop(I 0 ∗ bigSep Finset.univ pre) ⊢ foldAt I pre post 0 := by
    unfold foldAt
    rw [bigFrom_zero, bigTo_zero]
    iintro ⟨HI, Hp⟩
    isplitl [HI]; · iexact HI
    isplitl [Hp]; · iexact Hp
    iempintro
  refine h0.trans ?_
  unfold fold15
  refine fold_bind c p val I pre post h 0 _ ?_
  refine fold_bind c p val I pre post h 1 _ ?_
  refine fold_bind c p val I pre post h 2 _ ?_
  refine fold_bind c p val I pre post h 3 _ ?_
  refine fold_bind c p val I pre post h 4 _ ?_
  refine fold_bind c p val I pre post h 5 _ ?_
  refine fold_bind c p val I pre post h 6 _ ?_
  refine fold_bind c p val I pre post h 7 _ ?_
  refine fold_bind c p val I pre post h 8 _ ?_
  refine fold_bind c p val I pre post h 9 _ ?_
  refine fold_bind c p val I pre post h 10 _ ?_
  refine fold_bind c p val I pre post h 11 _ ?_
  refine fold_bind c p val I pre post h 12 _ ?_
  refine fold_bind c p val I pre post h 13 _ ?_
  refine (fold_step c p val I pre post h 14).trans (wpc_mono fun a => ?_)
  show iprop(⌜a = val 15⌝ ∗ foldAt I pre post 15) ⊢ _
  unfold foldAt
  rw [bigTo_end]
  iintro ⟨Ha, HI, -, Hp⟩
  isplitl [Ha]; · iexact Ha
  isplitl [HI] <;> iassumption

/-- The same for steps that pass no value on. -/
theorem run15_spec (c : Dev nD) (p : Fin 15 → TcProg F PUnit) (I : ℕ → sProp 𝕄) (pre post : Fin 15 → sProp 𝕄)
    (h : ∀ k : Fin 15, iprop(I k.val ∗ pre k) ⊢ wpc c (p k) fun _ => iprop(I (k.val + 1) ∗ post k)) :
    iprop(I 0 ∗ bigSep Finset.univ pre) ⊢ wpc c (run15 p) fun _ => iprop(I 15 ∗ bigSep Finset.univ post) := by
  have := fold15_spec c (fun k (_ : PUnit) => p k) (fun _ => ⟨⟩) I pre post fun k => (h k).trans (wpc_mono fun a => by
    iintro H
    isplitr; · ipureintro; rfl
    iexact H)
  refine this.trans (wpc_mono fun a => ?_)
  iintro ⟨-, H⟩
  iexact H

end Cert.KernelIdeal.Hand

end
-- ==== Proof.KernelIdealSteps.lean ====
module

public import proofs.«01_k».proof.Proof.KernelIdealLoops

@[expose] public section

set_option maxRecDepth 65536

noncomputable section

/-! # The steps that talk to other devices

A signal, a transfer of the reduction, a transfer of the gathering, and the waits, each from the ownership it needs to
the ownership it leaves. -/

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.ValueIdx (ix2 eq_ix2)
open Cert.KernelIdeal.Gen

variable {F : FTy → Type} [FloatOps F]

local notation "𝕄" => MT nD τ sig Unit (Elt F) ℕ UU ℕ

variable (m : (ℓ : Loc nD τ sig) → Buf (Elt F) ℓ)

/-! ## What everybody knows -/

/-- The index of a cell's name: a device and one of its semaphores. -/
abbrev CellIx : Type := Dev nD × Option (Fin 4 × Fin 16)

/-- Every cell's invariant, and that every cell has reached its first round. -/
def records (K : CellIx → ℕ) : sProp 𝕄 :=
  iprop((bigSep Finset.univ fun ck : CellIx => cellInv ER (Rd m) (K ck) (kcell ck)) ∗ bigSep Finset.univ fun ck : CellIx => reached ER (kcell ck) 0)

instance records_persistent (K : CellIx → ℕ) : BI.Persistent (records m K) := by unfold records; infer_instance

variable (K : CellIx → ℕ)

theorem rec_inv (ck : CellIx) : records m K ⊢ cellInv ER (Rd m) (K ck) (kcell ck) := by
  unfold records
  exact BIBase.Entails.trans (Laws.sep_and.trans and_elimL) (bigSep_elim (Finset.mem_univ ck))
theorem rec_reached (ck : CellIx) : records m K ⊢ reached ER (kcell ck) 0 := by
  unfold records
  exact BIBase.Entails.trans (Laws.sep_and.trans and_elimR) (bigSep_elim (Finset.mem_univ ck))

theorem inv_bar (c : Dev nD) : records m K ⊢ cellInv ER (Rd m) (K (c, none)) (barCell c) := rec_inv m K (c, none)
theorem inv_dm (a : Fin 4) (k : Fin 15) (c : Dev nD) : records m K ⊢ cellInv ER (Rd m) (K (c, some (a, k.succ))) (dmCell a k c) := rec_inv m K (c, some (a, k.succ))
theorem reached_bar (c : Dev nD) : records m K ⊢ reached ER (barCell c) 0 := rec_reached m K (c, none)
theorem reached_dm (a : Fin 4) (k : Fin 15) (c : Dev nD) : records m K ⊢ reached ER (dmCell a k c) 0 := rec_reached m K (c, some (a, k.succ))

/-! ## A signal -/

theorem sig_step (c : Dev nD) (k : Fin 15) (O : CellTallies nD τ sig Unit) (W : Waits sig Unit) (n : ℕ) (hn : n < nD) (hk : n = (fwd c k).val) :
    iprop(records m K ∗ owes (c : Thread nD τ) (O + tBar c k) W ∗ dutyTok ER (barCell (fwd c k)) 0 k
        ∗ (∃ f, at3 c (chunk (fwd c k)) f) ∗ (∃ f, at4 c (chunk (fwd c k)) fullShare f))
      ⊢ wpc c (sigStep (F := F) n hn) fun _ => owes (c : Thread nD τ) O W := by
  subst hk
  unfold sigStep
  simp only [semSignalWord, Prog.lift, Prog.bind_op, Prog.bind_ret, Prog.pure_eq_ret]
  iintro ⟨#HR, HO, Ht, H3, H4⟩
  iapply (Rounds.wp_signal 𝒱₀ ER (Rd m) (c : Thread nD τ) none (dst := (fwd c k : Thread nD τ)) (κ := K (fwd c k, none))
      (d := k) (by rw [duties_bar]; exact Finset.mem_univ _) ((amount_bar m (fwd c k) k).trans (by decide)) () O (W := W) rfl)
    $$ [HO Ht H3 H4]
  · isplitr; · iapply (inv_bar m K (fwd c k)); iexact HR
    isplitl [HO]; · iexact HO
    isplitl [Ht]; · iexact Ht
    isplitl [H3 H4]
    · rw [payload_bar]; unfold barPay; rw [bwd_fwd]
      isplitl [H3] <;> iassumption
    iapply (reached_bar m K (fwd c k)); iexact HR
  iintro HO
  rw [wp_ret]; imodintro
  iexact HO

/-! ## A transfer of the reduction -/

/-- What lands in a peer's staging buffer is this device's rounded rows for that peer. -/
theorem rs_landed (c d : Dev nD) (oS oD : Fin 2 → Nat) (hoS : oS = ![32 * d.val, 0]) (hoD : oD = ![32 * c.val, 0])
    (hS : ∀ a, oS a + S32x768.size a ≤ S512x768.size a) (hD : ∀ a, oD a + S32x768.size a ≤ S512x768.size a)
    (fd : Vec F S512x768 .bf16) (i : S512x768.Idx) (hi : i ∈ chunk c) :
    ((View.whole cc0_scratch3).slice (Rect.unit (s := S512x768) oD S32x768.size hD)).write (Elt F) fd
      (((View.whole cc0_scratch2).slice (Rect.unit (s := S512x768) oS S32x768.size hS)).read (Elt F) (part m c)) Finset.univ i = staged m d i := by
  rw [← rect32_set c hoD hD, ← Rect.map_emb_univ] at hi
  obtain ⟨x, -, rfl⟩ := Finset.mem_map.mp hi
  refine (View.write_emb_of_mem (v := (View.whole cc0_scratch3).slice (Rect.unit (s := S512x768) oD S32x768.size hD)) fd _ (Finset.mem_univ x)).trans ?_
  show part m c ((Rect.unit (s := S512x768) oS S32x768.size hS).emb x) = staged m d ((Rect.unit (s := S512x768) oD S32x768.size hD).emb x)
  rw [rect32_emb d hoS, rect32_emb c hoD]
  show _ = rows32 d (part m (devOf _)) (inChunk _)
  rw [devOf_ix2, inChunk_ix2]
  rfl

theorem rs_send (c : Dev nD) (k : Fin 15) (O : CellTallies nD τ sig Unit) (W : Waits sig Unit) (n : ℕ) (hn : n < nD) (hk : n = (fwd c k).val)
    (sS sD : DmaSem sig) (hsS : sS = dm 0 k.succ) (hsD : sD = dm 1 k.succ)
    (oS oD : Fin 2 → Nat) (hoS : oS = ![32 * (fwd c k).val, 0]) (hoD : oD = ![32 * c.val, 0]) (hS) (hD) (wS) (wD) (fd : Vec F S512x768 .bf16) :
    iprop(records m K ∗ owes (c : Thread nD τ) (O + tallyAt (dmCell 1 k (fwd c k)) () N) W
        ∗ dutyTok ER (dmCell 0 k c) 0 0 ∗ dutyTok ER (dmCell 1 k (fwd c k)) 0 0
        ∗ at2 c (chunk (fwd c k)) (part m c) ∗ at3 (fwd c k) (chunk c) fd)
      ⊢ wpc c (rsSend (F := F) (Memref.whole cc0_scratch2) (Memref.isWhole_whole _) (Memref.whole cc0_scratch3) (Memref.isWhole_whole _) n hn sS sD oS oD hS hD wS wD)
          fun _ => iprop(cred (tallyAt (dmCell 0 k c) () N) ∗ owes (c : Thread nD τ) O W) := by
  subst hk hsS hsD
  have eS : ((Memref.whole cc0_scratch2 : Memref sig .tc .vmem S512x768 .bf16).slice (Rect.unit (s := S512x768) oS S32x768.size hS) (fun _ => rfl)).view.set = chunk (fwd c k) :=
    (View.set_slice_whole cc0_scratch2 _).trans (rect32_set (fwd c k) hoS hS)
  have eD : ((Memref.whole cc0_scratch3 : Memref sig .tc .vmem S512x768 .bf16).slice (Rect.unit (s := S512x768) oD S32x768.size hD) (fun _ => rfl)).view.set = chunk c :=
    (View.set_slice_whole cc0_scratch3 _).trans (rect32_set c hoD hD)
  unfold rsSend
  simp only [Prog.lift]
  iintro ⟨#HR, HO, Ht0, Ht1, H2, H3⟩
  iapply (Rounds.wp_send_pointsTo 𝒱₀ ER (Rd m) (c : Thread nD τ) none (c' := (fwd c k : Thread nD τ)) (κ₁ := K (c, some (0, k.succ))) (κ₂ := K (fwd c k, some (1, k.succ)))
      (q := fullShare) (fs := part m c) (fd := fd) (r₁ := 0) (r₂ := 0) (d₁ := 0) (d₂ := 0)
      (by rw [duties_dm]; exact Finset.mem_singleton_self _) (by rw [duties_dm]; exact Finset.mem_singleton_self _)
      () () N (by simp only [View.amount, View.dmaCredit, N]; try rfl) (amount_dm m c 0 k 0) (amount_dm m (fwd c k) 1 k 0) O rfl (W := W)
      (by rw [payload_dm, eS]; exact BI.Entails.refl _)
      (by
        rw [payload_dm, eD]
        show _ ⊢ at3 (fwd c k) (chunk (bwd (fwd c k) k)) (staged m (fwd c k))
        rw [bwd_fwd]
        exact Entails.of_eq (pointsTo_congr fun i hi => rs_landed m c (fwd c k) oS oD hoS hoD hS hD fd i hi)))
    $$ [HO Ht0 Ht1 H2 H3]
  · isplitr; · iapply (inv_dm m K 0 k c); iexact HR
    isplitr; · iapply (inv_dm m K 1 k (fwd c k)); iexact HR
    isplitl [H2]; · rw [eS]; iexact H2
    isplitl [H3]; · rw [eD]; iexact H3
    isplitl [HO]; · iexact HO
    isplitl [Ht0]; · iexact Ht0
    isplitr; · iapply (reached_dm m K 0 k c); iexact HR
    isplitl [Ht1]; · iexact Ht1
    iapply (reached_dm m K 1 k (fwd c k)); iexact HR
  iintro ⟨Hc, HO⟩
  rw [wp_ret]; imodintro
  isplitl [Hc] <;> iassumption

/-! ## A transfer of the gathering -/

theorem ag_landed (c : Dev nD) (o : Fin 2 → Nat) (ho : o = ![32 * c.val, 0])
    (hi' : ∀ a, o a + S32x768.size a ≤ S512x768.size a) (fd : Vec F S512x768 .bf16) (i : S512x768.Idx) (hi : i ∈ chunk c) :
    ((View.whole cc0_scratch4).slice (Rect.unit (s := S512x768) o S32x768.size hi')).write (Elt F) fd
      (((View.whole cc0_scratch4).slice (Rect.unit (s := S512x768) o S32x768.size hi')).read (Elt F) (gathered m)) Finset.univ i = gathered m i := by
  rw [← rect32_set c ho hi', ← Rect.map_emb_univ] at hi
  obtain ⟨x, -, rfl⟩ := Finset.mem_map.mp hi
  exact View.write_emb_of_mem (v := (View.whole cc0_scratch4).slice (Rect.unit (s := S512x768) o S32x768.size hi')) fd _ (Finset.mem_univ x)

theorem ag_send (c : Dev nD) (k : Fin 15) (O : CellTallies nD τ sig Unit) (W : Waits sig Unit) (n : ℕ) (hn : n < nD) (hk : n = (fwd c k).val)
    (sS sD : DmaSem sig) (hsS : sS = dm 2 k.succ) (hsD : sD = dm 3 k.succ)
    (o : Fin 2 → Nat) (ho : o = ![32 * c.val, 0]) (hi) (w) (fd : Vec F S512x768 .bf16) :
    iprop(records m K ∗ owes (c : Thread nD τ) (O + tAg c k) W
        ∗ dutyTok ER (dmCell 2 k c) 0 0 ∗ dutyTok ER (dmCell 3 k (fwd c k)) 0 0
        ∗ at4 c (chunk c) (shareTok fullShare 15 k) (gathered m) ∗ at4 (fwd c k) (chunk c) fullShare fd)
      ⊢ wpc c (agSend (F := F) (Memref.whole cc0_scratch4) (Memref.isWhole_whole _) n hn sS sD o hi w)
          fun _ => iprop(cred (tallyAt (dmCell 2 k c) () N) ∗ owes (c : Thread nD τ) O W) := by
  subst hk hsS hsD
  have eS : ((Memref.whole cc0_scratch4 : Memref sig .tc .vmem S512x768 .bf16).slice (Rect.unit (s := S512x768) o S32x768.size hi) (fun _ => rfl)).view.set = chunk c :=
    (View.set_slice_whole cc0_scratch4 _).trans (rect32_set c ho hi)
  unfold agSend
  simp only [Prog.lift]
  iintro ⟨#HR, HO, Ht0, Ht1, H2, H3⟩
  iapply (Rounds.wp_send_pointsTo 𝒱₀ ER (Rd m) (c : Thread nD τ) none (c' := (fwd c k : Thread nD τ)) (κ₁ := K (c, some (2, k.succ))) (κ₂ := K (fwd c k, some (3, k.succ)))
      (q := shareTok fullShare 15 k) (fs := gathered m) (fd := fd) (r₁ := 0) (r₂ := 0) (d₁ := 0) (d₂ := 0)
      (by rw [duties_dm]; exact Finset.mem_singleton_self _) (by rw [duties_dm]; exact Finset.mem_singleton_self _)
      () () N (by simp only [View.amount, View.dmaCredit, N]; try rfl) (amount_dm m c 2 k 0) (amount_dm m (fwd c k) 3 k 0) O rfl (W := W)
      (by rw [payload_dm, eS]; exact BI.Entails.refl _)
      (by
        rw [payload_dm, eS]
        show _ ⊢ at4 (fwd c k) (chunk (bwd (fwd c k) k)) fullShare (gathered m)
        rw [bwd_fwd]
        exact Entails.of_eq (pointsTo_congr fun i hi' => ag_landed m c o ho hi fd i hi')))
    $$ [HO Ht0 Ht1 H2 H3]
  · isplitr; · iapply (inv_dm m K 2 k c); iexact HR
    isplitr; · iapply (inv_dm m K 3 k (fwd c k)); iexact HR
    isplitl [H2]; · rw [eS]; iexact H2
    isplitl [H3]; · rw [eS]; iexact H3
    isplitl [HO]; · iexact HO
    isplitl [Ht0]; · iexact Ht0
    isplitr; · iapply (reached_dm m K 2 k c); iexact HR
    isplitl [Ht1]; · iexact Ht1
    iapply (reached_dm m K 3 k (fwd c k)); iexact HR
  iintro ⟨Hc, HO⟩
  rw [wp_ret]; imodintro
  isplitl [Hc] <;> iassumption

/-! ## The waits -/

theorem bar_wait (c : Dev nD) (O : CellTallies nD τ sig Unit) (W : Waits sig Unit) (hO : Above 1 O) :
    iprop(records m K ∗ levAts L lv ∗ owes (c : Thread nD τ) O W ∗ cred (tallyAt (barCell c) () 15) ∗ atPos ER (barCell c) 0 ∅ 0)
      ⊢ wpc c (semWaitWord barS 15#32 : TcProg F PUnit) fun _ => iprop((∃ W, owes (c : Thread nD τ) O W) ∗ atPos ER (barCell c) 1 ∅ 0 ∗ bigSep Finset.univ fun k => barPay (F := F) c k) := by
  simp only [semWaitWord, Prog.lift, Prog.bind_op, Prog.bind_ret, Prog.pure_eq_ret]
  iintro ⟨#HR, #Hlev, HO, Hc, Hat⟩
  iapply (Rounds.wp_wait_rest_token 𝒱₀ ER (Rd m) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply (mayWait c (.reg barS) O 1 hO (by rw [lv_bar])); iexact Hlev
    iexact Hat
  iintro ⟨HO, Hat, -, Hpay⟩
  ihave Hp := (Entails.of_eq (rest_bar m c)) $$ Hpay
  rw [wp_ret]; imodintro
  isplitl [HO]; · iexists _; iexact HO
  isplitl [Hat] <;> iassumption

theorem dm_wait (c : Dev nD) (a : Fin 4) (k : Fin 15) (O : CellTallies nD τ sig Unit) (W : Waits sig Unit) (hO : Above (lv (dmCell a k c) ()) O)
    (m₁ m₂ : Memref sig .tc .vmem S512x768 .bf16) (h₁ : m₁.IsWhole) (h₂ : m₂.IsWhole) (s : DmaSem sig) (hs : s = dm a k.succ)
    (o o' : Fin 2 → Nat) (ho) (ho') (w) (w') :
    iprop(records m K ∗ levAts L lv ∗ owes (c : Thread nD τ) O W ∗ cred (tallyAt (dmCell a k c) () N) ∗ atPos ER (dmCell a k c) 0 ∅ 0)
      ⊢ wpc c (waitRows (F := F) m₁ m₂ h₁ h₂ s o o' ho ho' w w') fun _ => iprop((∃ W, owes (c : Thread nD τ) O W) ∗ atPos ER (dmCell a k c) 1 ∅ 0 ∗ dmaPay m a k c) := by
  subst hs
  unfold waitRows
  simp only [Prog.lift]
  iintro ⟨#HR, #Hlev, HO, Hc, Hat⟩
  iapply (Rounds.wp_wait_rest_token 𝒱₀ ER (Rd m) (c : Thread nD τ) none (κ := K (c, some (a, k.succ)))
      (wpE_waitDma2_eq 𝒱₀ (c : Thread nD τ) none Set.univ) (Set.mem_univ _) () (O := O) (W := W) (R := 0) (m := 0) (T := ∅)
      (by rw [Nat.zero_add, expect_dm]; rfl)) $$ [Hc HO Hat]
  · isplitr; · iapply (inv_dm m K a k c); iexact HR
    isplitl [Hc]; · iexact Hc
    isplitl [HO]; · iexact HO
    isplitr; · iapply (mayWait c (.dma (dm a k.succ)) O _ hO le_rfl); iexact Hlev
    iexact Hat
  iintro ⟨HO, Hat, -, Hpay⟩
  ihave Hp := (Entails.of_eq (rest_dm m c a k)) $$ Hpay
  rw [wp_ret]; imodintro
  isplitl [HO]; · iexists _; iexact HO
  isplitl [Hat] <;> iassumption

end Cert.KernelIdeal.Hand

end
-- ==== Proof.KernelIdealCompute.lean ====
module

public import proofs.«01_k».proof.Proof.KernelIdealLoops

@[expose] public section

set_option maxRecDepth 65536

noncomputable section

/-! # The steps within a device

Loads and stores as steps, and one half of the computation: eight strips of the attention buffer, the projection into
the accumulator, its rounding. -/

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.ValueIdx (ix2 eq_ix2)
open Cert.KernelIdeal.Gen

variable {F : FTy → Type} [FloatOps F]

local notation "𝕄" => MT nD τ sig Unit (Elt F) ℕ UU ℕ

/-- A phase with a known outcome, at the head of a program. -/
theorem wpc_step {α β : Type} (c : Dev nD) {p : TcProg F α} (q : α → TcProg F β) {A : sProp 𝕄} {P : α → sProp 𝕄} {R : β → sProp 𝕄}
    (hp : A ⊢ wpc c p P) : A ⊢ iprop((∀ a, P a -∗ wpc c (q a) R) -∗ wpc c (p >>= q) R) := by
  iintro HA HK
  iapply (wpc_seq c p q (B := iprop(∀ a, P a -∗ wpc c (q a) R)) hp (fun a => by
    iintro ⟨HP, HK⟩
    iapply HK
    iexact HP))
  isplitl [HA] <;> iassumption

/-- A phase at the end of a program. -/
theorem wpc_last {α : Type} (c : Dev nD) {p : TcProg F α} {A : sProp 𝕄} {P R : α → sProp 𝕄}
    (hp : A ⊢ wpc c p P) : A ⊢ iprop((∀ a, P a -∗ R a) -∗ wpc c p R) := by
  iintro HA HK
  iapply ((wpc_frame hp (B := iprop(∀ a, P a -∗ R a))).trans (wpc_mono (Q' := R) fun a => by
    iintro ⟨HP, HK⟩
    iapply HK
    iexact HP))
  isplitl [HA] <;> iassumption

theorem wpc_load (c : Dev nD) {s : Shape} {e : EltTy} {m : Memref sig .tc .vmem s e} {r : LoadRect s} {hl : m.view.LoadsAt r}
    (S : Finset (Idx (m.view.loc (c : Thread nD τ)))) (q : PosShare TreeShare) (f : Buf (Elt F) (m.view.loc (c : Thread nD τ))) (hS : m.view.setOn r.set ⊆ S) :
    (m.view.loc (c : Thread nD τ) ↦[S]{q} f : sProp 𝕄)
      ⊢ wpc c (Prog.lift (.load m r hl)) fun v => iprop(⌜v = m.view.readAt (Elt F) r f⌝ ∗ m.view.loc (c : Thread nD τ) ↦[S]{q} f) := by
  simp only [Prog.lift]
  iintro H
  iapply (wp_load 𝒱₀ (c : Thread nD τ) none Set.univ (m := m) (r := r) hS) $$ [H]
  · iexact H
  iintro H
  rw [wp_ret]; imodintro
  isplitr; · ipureintro; rfl
  iexact H

theorem wpc_store (c : Dev nD) {s : Shape} {e : EltTy} {m : Memref sig .tc .vmem s e} {r : Rect s} {w : r.shape.Idx → Elt F e} {Mk : Finset r.shape.Idx} {hx} {hm}
    (S : Finset (Idx ((m.access r).loc (c : Thread nD τ)))) (f : Buf (Elt F) ((m.access r).loc (c : Thread nD τ))) (hS : (m.access r).setOn Mk ⊆ S) :
    ((m.access r).loc (c : Thread nD τ) ↦[S]{fullShare} f : sProp 𝕄)
      ⊢ wpc c (Prog.lift (.store m r w Mk hx hm)) fun _ => (m.access r).loc (c : Thread nD τ) ↦[S]{fullShare} ((m.access r).write (Elt F) f w Mk) := by
  simp only [Prog.lift]
  iintro H
  iapply (wp_store 𝒱₀ (c : Thread nD τ) none Set.univ (m := m) (r := r) hS) $$ [H]
  · iexact H
  iintro H
  rw [wp_ret]; imodintro
  iexact H

/-! ## Strips -/

/-- Device `c`'s attention buffer. -/
abbrev at0 (c : Dev nD) (f : Vec F S512x512 .f32) : sProp 𝕄 := ((c : Thread nD τ).loc cc0_scratch0) ↦{fullShare} f

/-- Half `b` of the attention buffer is done up to column `n`. -/
def DoneTo (b : Fin 2) (n : ℕ) (a : Vec F S256x512 .f32) (f : Vec F S512x512 .f32) : Prop :=
  ∀ x : S256x512.Idx, (x 1).val < n → f (ix2 ⟨256 * b.val + (x 0).val, by have : (x 0).val < 256 := (x 0).isLt; omega⟩ (x 1)) = a x

theorem strip_step (c : Dev nD) (b : Fin 2) (j : Fin 8) (a : Vec F S256x512 .f32) (r0 c0 : ℕ) (hr : r0 = 256 * b.val) (hc : c0 = 64 * j.val) (hi)
    (v : FVec F S256x64 .f32)
    (hv : ∀ x : S256x64.Idx, v x = a (ix2 (x 0) ⟨64 * j.val + (x 1).val, by have : (x 1).val < 64 := (x 1).isLt; omega⟩)) :
    iprop(∃ f, ⌜DoneTo b (64 * j.val) a f⌝ ∗ at0 c f)
      ⊢ wpc c (stripStep (F := F) (Memref.whole cc0_scratch0) r0 c0 hi v) fun _ => iprop(∃ f, ⌜DoneTo b (64 * j.val + 64) a f⌝ ∗ at0 c f) := by
  subst hr hc
  unfold stripStep
  iintro ⟨%f, %hf, H⟩
  iapply (wpc_step c _ (wpc_load c (m := (Memref.whole cc0_scratch0 : Memref sig .tc .vmem S512x512 .f32)) Finset.univ fullShare f (Finset.subset_univ _))) $$ [H]
  · iexact H
  iintro %_ ⟨-, H⟩
  iapply (wpc_last c (wpc_store c (m := (Memref.whole cc0_scratch0 : Memref sig .tc .vmem S512x512 .f32)) Finset.univ f (Finset.subset_univ _))) $$ [H]
  · iexact H
  iintro %_ H
  iexists _
  isplitr
  rotate_left
  · iexact H
  ipureintro
  intro x hx
  have h0 : (x 0).val < 256 := (x 0).isLt
  by_cases hlt : (x 1).val < 64 * j.val
  · refine (View.write_of_not_mem _ _ _ ?_).trans (hf x hlt)
    intro hm
    rw [View.setOn_univ] at hm
    have hm := (View.set_slice_whole cc0_scratch0 (Rect.unit (s := S512x512) ![256 * b.val, 64 * j.val] S256x64.size hi)) ▸ hm
    have h1 := (Rect.mem_set_unit.mp hm) 1
    have h2 : 64 * j.val ≤ (x 1).val := h1.1
    omega
  · have hx1 : (x 1).val - 64 * j.val < 64 := by omega
    have he : (ix2 ⟨256 * b.val + (x 0).val, by omega⟩ (x 1) : S512x512.Idx)
        = (Rect.unit (s := S512x512) ![256 * b.val, 64 * j.val] S256x64.size hi).emb (ix2 (x 0) ⟨(x 1).val - 64 * j.val, hx1⟩) := by
      funext d
      apply Fin.ext
      rw [Rect.emb_apply]
      fin_cases d
      · show 256 * b.val + (x 0).val = 256 * b.val + 1 * (x 0).val
        omega
      · show (x 1).val = 64 * j.val + 1 * ((x 1).val - 64 * j.val)
        omega
    rw [he]
    refine (View.write_emb_of_mem (v := (View.whole cc0_scratch0).slice (Rect.unit (s := S512x512) ![256 * b.val, 64 * j.val] S256x64.size hi)) f v (Finset.mem_univ _)).trans ?_
    refine (hv _).trans (congrArg a ?_)
    refine Eq.trans ?_ (eq_ix2 x).symm
    show ix2 _ _ = ix2 _ _
    congr 1
    apply Fin.ext
    show 64 * j.val + ((x 1).val - 64 * j.val) = (x 1).val
    omega

theorem attnVal_strip (v5 : FVec F S768x512 .bf16) (v12 v16 : FVec F S768x128 .bf16) (X : Vec F S256x768 .f32) (j : Fin 8) (x : S256x64.Idx) :
    stripOf v5 v12 v16 X j x = attnVal v5 v12 v16 X (ix2 (x 0) ⟨64 * j.val + (x 1).val, by have : (x 1).val < 64 := (x 1).isLt; omega⟩) := by
  have h1 : (x 1).val < 64 := (x 1).isLt
  show _ = stripOf v5 v12 v16 X ⟨(64 * j.val + (x 1).val) / 64, _⟩ (ix2 (x 0) ⟨(64 * j.val + (x 1).val) % 64, _⟩)
  have e1 : (⟨(64 * j.val + (x 1).val) / 64, by omega⟩ : Fin 8) = j := Fin.ext (by show (64 * j.val + (x 1).val) / 64 = j.val; omega)
  have e2 : (⟨(64 * j.val + (x 1).val) % 64, Nat.mod_lt _ (by decide)⟩ : Fin 64) = x 1 := Fin.ext (by show (64 * j.val + (x 1).val) % 64 = (x 1).val; omega)
  rw [e1, e2]
  exact congrArg _ (eq_ix2 x)

/-! ## One half -/

/-- Device `c`'s `x`, as the pipeline brings it. -/
abbrev xPts (c : Dev nD) (f : Vec F S512x768 .f32) : sProp 𝕄 := ((c : Thread nD τ).loc cc0_stg0_0) ↦{fullShare} f

theorem read_x256 (b : Fin 2) (r0 : ℕ) (hr : r0 = 256 * b.val) (hx) (X : Vec F S512x768 .f32) :
    (Memref.whole cc0_stg0_0 : Memref sig .tc .vmem S512x768 .f32).view.readAt (Elt F) (Rect.unit (s := S512x768) ![r0, 0] S256x768.size hx).toLoadRect X = rows256 b X := by
  subst hr
  funext x
  exact congrArg X (rect256_emb b rfl hx x)

theorem read_attn (b : Fin 2) (r0 : ℕ) (hr : r0 = 256 * b.val) (hA) (a : Vec F S256x512 .f32) (f : Vec F S512x512 .f32) (hf : DoneTo b 512 a f) :
    (Memref.whole cc0_scratch0 : Memref sig .tc .vmem S512x512 .f32).view.readAt (Elt F) (Rect.unit (s := S512x512) ![r0, 0] S256x512.size hA).toLoadRect f = a := by
  subst hr
  funext x
  have h0 : (x 0).val < 256 := (x 0).isLt
  have h1 : (x 1).val < 512 := (x 1).isLt
  refine Eq.trans (congrArg f (?_ : _ = (ix2 ⟨256 * b.val + (x 0).val, by omega⟩ (x 1) : S512x512.Idx))) (hf x h1)
  show (Rect.unit (s := S512x512) ![256 * b.val, 0] S256x512.size hA).emb x = _
  funext d
  apply Fin.ext
  rw [Rect.emb_apply]
  fin_cases d
  · show 256 * b.val + 1 * (x 0).val = 256 * b.val + (x 0).val
    omega
  · show 0 + 1 * (x 1).val = (x 1).val
    omega

theorem write_acc (m : (ℓ : Loc nD τ sig) → Buf (Elt F) ℓ) (c : Dev nD) (b : Fin 2) (o : Fin 2 → ℕ) (ho : o = ![256 * b.val, 0]) (hx) (f : Vec F S512x768 .f32)
    (i : S512x768.Idx) (hi : i ∈ hlf b.val) :
    ((Memref.whole cc0_scratch1 : Memref sig .tc .vmem S512x768 .f32).access (Rect.unit (s := S512x768) o S256x768.size hx)).write (Elt F) f (accHalf m c b) Finset.univ i = acc m c i := by
  rw [← rect256_set b ho hx, ← Rect.map_emb_univ] at hi
  obtain ⟨x, -, rfl⟩ := Finset.mem_map.mp hi
  refine (View.write_emb_of_mem (v := (View.whole cc0_scratch1).slice (Rect.unit (s := S512x768) o S256x768.size hx)) f _ (Finset.mem_univ x)).trans ?_
  rw [rect256_emb b ho]
  show _ = accHalf m c (halfOf _) (inHalf _)
  rw [halfOf_ix2, inHalf_ix2]
  rfl

theorem write_part (m : (ℓ : Loc nD τ sig) → Buf (Elt F) ℓ) (c : Dev nD) (b : Fin 2) (o : Fin 2 → ℕ) (ho : o = ![256 * b.val, 0]) (hx) (f : Vec F S512x768 .bf16)
    (i : S512x768.Idx) (hi : i ∈ hlf b.val) :
    ((Memref.whole cc0_scratch2 : Memref sig .tc .vmem S512x768 .bf16).access (Rect.unit (s := S512x768) o S256x768.size hx)).write (Elt F) f (k0_pay69 (accHalf m c b)) Finset.univ i = part m c i := by
  rw [← rect256_set b ho hx, ← Rect.map_emb_univ] at hi
  obtain ⟨x, -, rfl⟩ := Finset.mem_map.mp hi
  refine (View.write_emb_of_mem (v := (View.whole cc0_scratch2).slice (Rect.unit (s := S512x768) o S256x768.size hx)) f _ (Finset.mem_univ x)).trans ?_
  rw [rect256_emb b ho]
  show _ = k0_pay69 (accHalf m c (halfOf _)) (inHalf _)
  rw [halfOf_ix2, inHalf_ix2]
  rfl

theorem read_acc256 (m : (ℓ : Loc nD τ sig) → Buf (Elt F) ℓ) (c : Dev nD) (b : Fin 2) (o : Fin 2 → ℕ) (ho : o = ![256 * b.val, 0]) (hx) :
    (Memref.whole cc0_scratch1 : Memref sig .tc .vmem S512x768 .f32).view.readAt (Elt F) (Rect.unit (s := S512x768) o S256x768.size hx).toLoadRect (acc m c) = accHalf m c b := by
  funext x
  refine (congrArg (acc m c) (rect256_emb b ho hx x)).trans ?_
  show accHalf m c (halfOf _) (inHalf _) = _
  rw [halfOf_ix2, inHalf_ix2]

section Half
variable (m : (ℓ : Loc nD τ sig) → Buf (Elt F) ℓ)

/-- What a half needs and keeps. -/
def halfPre (c : Dev nD) (b : Fin 2) : sProp 𝕄 :=
  iprop(xPts c (xB m c) ∗ (∃ f, at0 c f) ∗ (∃ f, at1 c (hlf b.val) f) ∗ (∃ f, at2 c (hlf b.val) f))
def halfPost (c : Dev nD) (b : Fin 2) : sProp 𝕄 :=
  iprop(xPts c (xB m c) ∗ (∃ f, at0 c f) ∗ at1 c (hlf b.val) (acc m c) ∗ at2 c (hlf b.val) (part m c))

theorem half_spec (c : Dev nD) (b : Fin 2) (r0 : ℕ) (hr : r0 = 256 * b.val) (hx) (ha) (hA) (hw) :
    halfPre m c b ⊢ wpc c (half (F := F) (Memref.whole cc0_stg0_0) (Memref.whole cc0_scratch0) (Memref.whole cc0_scratch1) (Memref.whole cc0_scratch2) (Memref.isWhole_whole _)
        r0 hx ha hA hw (k0_pay57 (wqB m c)) (k0_pay58 (woB m c)) (k0_pay59 (wkB m c)) (k0_pay60 (wvB m c))) fun _ => halfPost m c b := by
  have ho : (![r0, 0] : Fin 2 → ℕ) = ![256 * b.val, 0] := by rw [hr]
  have hst := fun j x => attnVal_strip (k0_pay57 (wqB m c)) (k0_pay59 (wkB m c)) (k0_pay60 (wvB m c)) (rows256 b (xB m c)) j x
  have e1 : ((Memref.whole cc0_scratch1 : Memref sig .tc .vmem S512x768 .f32).access (Rect.unit (s := S512x768) ![r0, 0] S256x768.size hx)).set = hlf b.val :=
    (View.set_slice_whole cc0_scratch1 _).trans (rect256_set b ho hx)
  have e2 : ((Memref.whole cc0_scratch2 : Memref sig .tc .vmem S512x768 .bf16).access (Rect.unit (s := S512x768) ![r0, 0] S256x768.size hx)).set = hlf b.val :=
    (View.set_slice_whole cc0_scratch2 _).trans (rect256_set b ho hx)
  have l1 : (Memref.whole cc0_scratch1 : Memref sig .tc .vmem S512x768 .f32).view.setOn (Rect.unit (s := S512x768) ![r0, 0] S256x768.size hx).toLoadRect.set ⊆ hlf b.val := by
    rw [← e1]; exact (View.set_slice _ _).symm.subset
  have l2 : (Memref.whole cc0_scratch2 : Memref sig .tc .vmem S512x768 .bf16).view.setOn (Rect.unit (s := S512x768) ![r0, 0] S256x768.size hx).toLoadRect.set ⊆ hlf b.val := by
    rw [← e2]; exact (View.set_slice _ _).symm.subset
  unfold half halfPre halfPost
  iintro ⟨Hx, ⟨%f0, H0⟩, ⟨%f1, H1⟩, ⟨%f2, H2⟩⟩
  iapply (wpc_step c _ (wpc_load c (m := (Memref.whole cc0_stg0_0 : Memref sig .tc .vmem S512x768 .f32)) Finset.univ fullShare (xB m c) (Finset.subset_univ _))) $$ [Hx]
  · iexact Hx
  iintro %x ⟨%ex, Hx⟩
  rw [read_x256 b r0 hr hx] at ex
  subst ex
  iapply (wpc_step c _ (strip_step c b 0 (attnVal (k0_pay57 (wqB m c)) (k0_pay59 (wkB m c)) (k0_pay60 (wvB m c)) (rows256 b (xB m c))) r0 0 hr rfl (ha 0) _ (hst 0))) $$ [H0]
  · iexists f0
    isplitr; · ipureintro; exact fun x hx => absurd hx (Nat.not_lt_zero _)
    iexact H0
  iintro %_ H0
  iapply (wpc_step c _ (strip_step c b 1 _ r0 64 hr rfl (ha 1) _ (hst 1))) $$ [H0]
  · iexact H0
  iintro %_ H0
  iapply (wpc_step c _ (strip_step c b 2 _ r0 128 hr rfl (ha 2) _ (hst 2))) $$ [H0]
  · iexact H0
  iintro %_ H0
  iapply (wpc_step c _ (strip_step c b 3 _ r0 192 hr rfl (ha 3) _ (hst 3))) $$ [H0]
  · iexact H0
  iintro %_ H0
  iapply (wpc_step c _ (strip_step c b 4 _ r0 256 hr rfl (ha 4) _ (hst 4))) $$ [H0]
  · iexact H0
  iintro %_ H0
  iapply (wpc_step c _ (strip_step c b 5 _ r0 320 hr rfl (ha 5) _ (hst 5))) $$ [H0]
  · iexact H0
  iintro %_ H0
  iapply (wpc_step c _ (strip_step c b 6 _ r0 384 hr rfl (ha 6) _ (hst 6))) $$ [H0]
  · iexact H0
  iintro %_ H0
  iapply (wpc_step c _ (strip_step c b 7 _ r0 448 hr rfl (ha 7) _ (hst 7))) $$ [H0]
  · iexact H0
  iintro %_ ⟨%f0, %hf0, H0⟩
  iapply (wpc_step c _ (wpc_load c (m := (Memref.whole cc0_scratch0 : Memref sig .tc .vmem S512x512 .f32)) Finset.univ fullShare f0 (Finset.subset_univ _))) $$ [H0]
  · iexact H0
  iintro %a ⟨%ea, H0⟩
  rw [read_attn b r0 hr hA _ f0 hf0] at ea
  subst ea
  iapply (wpc_step c _ (wpc_load c (m := (Memref.whole cc0_scratch1 : Memref sig .tc .vmem S512x768 .f32)) (hlf b.val) fullShare f1 l1)) $$ [H1]
  · iexact H1
  iintro %_ ⟨-, H1⟩
  iapply (wpc_step c _ (wpc_store c (m := (Memref.whole cc0_scratch1 : Memref sig .tc .vmem S512x768 .f32)) (r := Rect.unit (s := S512x768) ![r0, 0] S256x768.size hx) (hlf b.val) f1 e1.subset)) $$ [H1]
  · iexact H1
  iintro %_ H1
  ihave H1 := (Entails.of_eq (pointsTo_congr (write_acc m c b _ ho hx f1))) $$ H1
  iapply (wpc_step c _ (wpc_load c (m := (Memref.whole cc0_scratch1 : Memref sig .tc .vmem S512x768 .f32)) (hlf b.val) fullShare (acc m c) l1)) $$ [H1]
  · iexact H1
  iintro %y ⟨%ey, H1⟩
  rw [read_acc256 m c b _ ho hx] at ey
  subst ey
  iapply (wpc_step c _ (wpc_load c (m := (Memref.whole cc0_scratch2 : Memref sig .tc .vmem S512x768 .bf16)) (hlf b.val) fullShare f2 l2)) $$ [H2]
  · iexact H2
  iintro %_ ⟨-, H2⟩
  iapply (wpc_last c (wpc_store c (m := (Memref.whole cc0_scratch2 : Memref sig .tc .vmem S512x768 .bf16)) (r := Rect.unit (s := S512x768) ![r0, 0] S256x768.size hx) (hlf b.val) f2 e2.subset)) $$ [H2]
  · iexact H2
  iintro %_ H2
  ihave H2 := (Entails.of_eq (pointsTo_congr (write_part m c b _ ho hx f2))) $$ H2
  isplitl [Hx]; · iexact Hx
  isplitl [H0]; · iexists f0; iexact H0
  isplitl [H1] <;> iassumption

theorem halfIf_spec (c : Dev nD) (b : Fin 2) (B : BitVec 1) (r0 : ℕ) (hr : r0 = 256 * b.val) (hx) (ha) (hA) (hw) :
    halfPre m c b ⊢ wpc c (halfIf (F := F) (Memref.whole cc0_stg0_0) (Memref.whole cc0_scratch0) (Memref.whole cc0_scratch1) (Memref.whole cc0_scratch2) (Memref.isWhole_whole _)
        B r0 hx ha hA hw (k0_pay57 (wqB m c)) (k0_pay58 (woB m c)) (k0_pay59 (wkB m c)) (k0_pay60 (wvB m c))) fun _ => if B = 1#1 then halfPost m c b else halfPre m c b := by
  unfold halfIf
  split
  · exact half_spec m c b r0 hr hx ha hA hw
  · exact wpc_pure (BI.Entails.refl _)

end Half

end Cert.KernelIdeal.Hand

end
-- ==== Proof.KernelIdealPhases.lean ====
module

public import proofs.«01_k».proof.Proof.KernelIdealSteps
public import proofs.«01_k».proof.Proof.KernelIdealCompute

@[expose] public section

set_option maxRecDepth 65536

noncomputable section

/-! # The phases of the body

Each loop of fifteen steps and each pair of halves, from what it needs to what it leaves. -/

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)
open Idealize.ShloMosaic.ValueIdx (ix2 eq_ix2)
open Cert.KernelIdeal.Gen

variable {F : FTy → Type} [FloatOps F]

local notation "𝕄" => MT nD τ sig Unit (Elt F) ℕ UU ℕ

variable (m : (ℓ : Loc nD τ sig) → Buf (Elt F) ℓ) (K : CellIx → ℕ)

/-- Device `c` owes `O`. -/
def owing (c : Dev nD) (O : CellTallies nD τ sig Unit) : sProp 𝕄 := iprop(∃ W, owes (c : Thread nD τ) O W)

/-- Everything everybody knows. -/
def known (K : CellIx → ℕ) : sProp 𝕄 := iprop(records m K ∗ levAts L lv)
instance known_persistent : BI.Persistent (known m K) := by unfold known; infer_instance

/-! ## The signals -/

theorem sig_loop (c : Dev nD) (f3 f4 : Vec F S512x768 .bf16) :
    iprop((known m K ∗ owing c (O₀ c)) ∗ (bigSep Finset.univ fun k : Fin 15 => dutyTok ER (barCell (fwd c k)) 0 k)
        ∗ (bigSep Finset.univ fun k : Fin 15 => at3 c (chunk (fwd c k)) f3) ∗ (bigSep Finset.univ fun k : Fin 15 => at4 c (chunk (fwd c k)) fullShare f4))
      ⊢ wpc c (run15 fun k => sigStep (F := F) (sigDev c k) (sigDev_lt c k)) fun _ => owing c (O₁ c) := by
  refine BIBase.Entails.trans ?_ ((run15_spec c (fun k => sigStep (F := F) (sigDev c k) (sigDev_lt c k))
    (fun k => iprop(known m K ∗ owing c (O₁ c + rem (tBar c) k)))
    (fun k => iprop(dutyTok ER (barCell (fwd c k)) 0 k ∗ at3 c (chunk (fwd c k)) f3 ∗ at4 c (chunk (fwd c k)) fullShare f4)) (fun _ => iprop(emp))
    fun k => ?_).trans (wpc_mono fun _ => ?_))
  · rw [bigSep_sep', bigSep_sep']
    exact BI.Entails.refl _
  · rw [rem_succ, ← add_assoc]
    unfold known owing
    iintro ⟨⟨⟨#HR, #Hlev⟩, %W, HO⟩, Ht, H3, H4⟩
    iapply (wpc_last c (sig_step m K c k (O₁ c + rem (tBar c) (k.val + 1)) W (sigDev c k) (sigDev_lt c k) (sigDev_eq c k))) $$ [HO Ht H3 H4]
    · isplitr; · iexact HR
      isplitl [HO]; · iexact HO
      isplitl [Ht]; · iexact Ht
      isplitl [H3]; · iexists f3; iexact H3
      iexists f4; iexact H4
    iintro %_ HO
    isplitl
    · isplitr
      · isplitr; · iexact HR
        iexact Hlev
      iexists W; iexact HO
    iempintro
  · rw [rem_end, add_zero]
    iintro ⟨⟨-, HO⟩, -⟩
    iexact HO

/-! ## The reduction's transfers -/

/-- What transfer `k` needs besides its source. -/
def rsNeed (c : Dev nD) (k : Fin 15) : sProp 𝕄 :=
  iprop(dutyTok ER (dmCell 0 k c) 0 0 ∗ dutyTok ER (dmCell 1 k (fwd c k)) 0 0 ∗ (∃ fd, at3 (fwd c k) (chunk c) fd))
/-- Its source. -/
def rsSrc (c : Dev nD) (k : Fin 15) : sProp 𝕄 := at2 c (chunk (fwd c k)) (part m c)
/-- What its sender waits with. -/
def rsCred (c : Dev nD) (k : Fin 15) : sProp 𝕄 := cred (tallyAt (dmCell 0 k c) () N)

theorem pass1 (c : Dev nD) :
    iprop((known m K ∗ owing c (O₁ c)) ∗ (bigSep Finset.univ fun k => rsNeed (F := F) c k)
        ∗ (bigSep Finset.univ fun k => if inFirst c k then rsSrc m c k else iprop(emp)))
      ⊢ wpc c (run15 fun k => cstep1 (F := F) (Memref.whole cc0_scratch2) (Memref.isWhole_whole _) (Memref.whole cc0_scratch3) (Memref.isWhole_whole _) cc0_scratch5 cc0_scratch6 c k)
          fun _ => iprop(owing c (rem (tAg c) 0 + rem (tRs2 c) 0) ∗ bigSep Finset.univ fun k => if inFirst c k then rsCred (F := F) c k else rsNeed c k) := by
  refine BIBase.Entails.trans ?_ ((run15_spec c _
    (fun k => iprop(known m K ∗ owing c (rem (tAg c) 0 + rem (tRs2 c) 0 + rem (tRs1 c) k)))
    (fun k => iprop(rsNeed c k ∗ if inFirst c k then rsSrc m c k else iprop(emp))) (fun k => if inFirst c k then rsCred (F := F) c k else rsNeed c k)
    fun k => ?_).trans (wpc_mono fun _ => ?_))
  · rw [bigSep_sep']
    exact BI.Entails.refl _
  · rw [rem_succ, ← add_assoc]
    have hc := cond1_eq c k
    unfold cstep1 tRs1
    by_cases hf : inFirst c k = true
    · rw [if_pos hf] at hc
      rw [dif_pos hc, if_pos hf, if_pos hf, if_pos hf]
      unfold known owing rsNeed rsSrc rsCred
      iintro ⟨⟨⟨#HR, #Hlev⟩, %W, HO⟩, ⟨Ht0, Ht1, %fd, H3⟩, H2⟩
      iapply (wpc_last c (rs_send m K c k (rem (tAg c) 0 + rem (tRs2 c) 0 + rem (tRs1 c) (k.val + 1)) W (rsDev1 c k) (rsDev1_lt c k hc) (rsDev1_eq c k)
        (semAt cc0_scratch5 k) (semAt cc0_scratch6 k) (semAt5 k) (semAt6 k) (srcOff1 c k) (dstOff1 c k) (srcOff1_eq c k) (dstOff1_eq c k)
        (srcOff1_inb c k hc) (dstOff1_inb c k hc) (srcOff1_words c k hc) (dstOff1_words c k hc) fd)) $$ [HO Ht0 Ht1 H3 H2]
      · isplitr; · iexact HR
        isplitl [HO]; · iexact HO
        isplitl [Ht0]; · iexact Ht0
        isplitl [Ht1]; · iexact Ht1
        isplitl [H2] <;> iassumption
      iintro %_ ⟨Hc, HO⟩
      isplitl [HO]
      · isplitr
        · isplitr; · iexact HR
          iexact Hlev
        iexists W; iexact HO
      iexact Hc
    · rw [if_neg hf] at hc
      rw [dif_neg (by rw [hc]; decide), if_neg hf, if_neg hf, if_neg hf, add_zero]
      refine wpc_pure ?_
      iintro ⟨HI, HN, -⟩
      isplitl [HI] <;> iassumption
  · rw [rem_end, add_zero]
    iintro ⟨⟨-, HO⟩, HP⟩
    isplitl [HO] <;> iassumption

theorem pass2 (c : Dev nD) :
    iprop((known m K ∗ owing c (rem (tAg c) 0 + rem (tRs2 c) 0)) ∗ (bigSep Finset.univ fun k => if inFirst c k then rsCred (F := F) c k else rsNeed c k)
        ∗ (bigSep Finset.univ fun k => if inFirst c k then iprop(emp) else rsSrc m c k))
      ⊢ wpc c (run15 fun k => cstep2 (F := F) (Memref.whole cc0_scratch2) (Memref.isWhole_whole _) (Memref.whole cc0_scratch3) (Memref.isWhole_whole _) cc0_scratch5 cc0_scratch6 c k)
          fun _ => iprop(owing c (rem (tAg c) 0) ∗ bigSep Finset.univ fun k => rsCred (F := F) c k) := by
  refine BIBase.Entails.trans ?_ ((run15_spec c _
    (fun k => iprop(known m K ∗ owing c (rem (tAg c) 0 + rem (tRs2 c) k)))
    (fun k => iprop((if inFirst c k then rsCred (F := F) c k else rsNeed c k) ∗ if inFirst c k then iprop(emp) else rsSrc m c k)) (fun k => rsCred (F := F) c k)
    fun k => ?_).trans (wpc_mono fun _ => ?_))
  · rw [bigSep_sep']
  · rw [rem_succ, ← add_assoc]
    have hc := cond2_eq c k
    unfold cstep2 tRs2
    by_cases hf : inFirst c k = true
    · rw [if_pos hf] at hc
      rw [dif_neg (by rw [hc]; decide), if_pos hf, if_pos hf, if_pos hf, add_zero]
      refine wpc_pure ?_
      iintro ⟨HI, HN, -⟩
      isplitl [HI] <;> iassumption
    · rw [if_neg hf] at hc
      rw [dif_pos hc, if_neg hf, if_neg hf, if_neg hf]
      unfold known owing rsNeed rsSrc rsCred
      iintro ⟨⟨⟨#HR, #Hlev⟩, %W, HO⟩, ⟨Ht0, Ht1, %fd, H3⟩, H2⟩
      iapply (wpc_last c (rs_send m K c k (rem (tAg c) 0 + rem (tRs2 c) (k.val + 1)) W (rsDev2 c k) (rsDev2_lt c k hc) (rsDev2_eq c k)
        (semAt cc0_scratch5 k) (semAt cc0_scratch6 k) (semAt5 k) (semAt6 k) (srcOff2 c k) (dstOff2 c k) (srcOff2_eq c k) (dstOff2_eq c k)
        (srcOff2_inb c k hc) (dstOff2_inb c k hc) (srcOff2_words c k hc) (dstOff2_words c k hc) fd)) $$ [HO Ht0 Ht1 H3 H2]
      · isplitr; · iexact HR
        isplitl [HO]; · iexact HO
        isplitl [Ht0]; · iexact Ht0
        isplitl [Ht1]; · iexact Ht1
        isplitl [H2] <;> iassumption
      iintro %_ ⟨Hc, HO⟩
      isplitl [HO]
      · isplitr
        · isplitr; · iexact HR
          iexact Hlev
        iexists W; iexact HO
      iexact Hc
  · rw [rem_end, add_zero]
    iintro ⟨⟨-, HO⟩, HP⟩
    isplitl [HO] <;> iassumption

/-! ## The reduction's sums -/

/-- A cell about to be waited on. -/
def waiting (a : Fin 4) (k : Fin 15) (c : Dev nD) : sProp 𝕄 := iprop(cred (tallyAt (dmCell a k c) () N) ∗ atPos ER (dmCell a k c) 0 ∅ 0)
/-- After the wait. -/
def waited (a : Fin 4) (k : Fin 15) (c : Dev nD) : sProp 𝕄 := iprop(atPos ER (dmCell a k c) 1 ∅ 0 ∗ dmaPay m a k c)

theorem wait_step (c : Dev nD) (a : Fin 4) (k : Fin 15) (O : CellTallies nD τ sig Unit) (hO : Above (lv (dmCell a k c) ()) O)
    (m₁ m₂ : Memref sig .tc .vmem S512x768 .bf16) (h₁ : m₁.IsWhole) (h₂ : m₂.IsWhole) (s : DmaSem sig) (hs : s = dm a k.succ)
    (o o' : Fin 2 → Nat) (ho) (ho') (w) (w') :
    iprop((known m K ∗ owing c O) ∗ waiting (F := F) a k c)
      ⊢ wpc c (waitRows (F := F) m₁ m₂ h₁ h₂ s o o' ho ho' w w') fun _ => iprop(owing c O ∗ waited m a k c) := by
  unfold known owing waiting waited
  iintro ⟨⟨⟨#HR, #Hlev⟩, %W, HO⟩, Hc, Hat⟩
  iapply (wpc_last c (dm_wait m K c a k O W hO m₁ m₂ h₁ h₂ s hs o o' ho ho' w w')) $$ [HO Hc Hat]
  · isplitr; · iexact HR
    isplitr; · iexact Hlev
    isplitl [HO]; · iexact HO
    isplitl [Hc] <;> iassumption
  iintro %_ ⟨HO, Hat, Hp⟩
  isplitl [HO]; · iexact HO
  isplitl [Hat] <;> iassumption

theorem read_rows3 (j : Dev nD) (o : Fin 2 → ℕ) (ho : o = ![32 * j.val, 0]) (h) (f : Vec F S512x768 .bf16) :
    (Memref.whole cc0_scratch3 : Memref sig .tc .vmem S512x768 .bf16).view.readAt (Elt F) (Rect.unit (s := S512x768) o S32x768.size h).toLoadRect f = rows32 j f := by
  funext x
  exact congrArg f (rect32_emb j ho h x)
theorem read_rows1 (j : Dev nD) (o : Fin 2 → ℕ) (ho : o = ![32 * j.val, 0]) (h) (f : Vec F S512x768 .f32) :
    (Memref.whole cc0_scratch1 : Memref sig .tc .vmem S512x768 .f32).view.readAt (Elt F) (Rect.unit (s := S512x768) o S32x768.size h).toLoadRect f = rows32 j f := by
  funext x
  exact congrArg f (rect32_emb j ho h x)

theorem add_step (c : Dev nD) (k : Fin 15) :
    iprop((known m K ∗ owing c (rem (tAg c) 0)) ∗ waiting (F := F) 1 k c)
      ⊢ wpc c (addStep (F := F) (Memref.whole cc0_scratch2) (Memref.isWhole_whole _) (Memref.whole cc0_scratch3) (Memref.isWhole_whole _) cc0_scratch6 c k (redAt m c k.val))
          fun a => iprop(⌜a = redAt m c (k.val + 1)⌝ ∗ owing c (rem (tAg c) 0) ∗ waited m 1 k c) := by
  have e3 : ((Memref.whole cc0_scratch3 : Memref sig .tc .vmem S512x768 .bf16).access (Rect.unit (s := S512x768) (k0_off65 c (BitVec.ofNat 32 (1 + k.val))) S32x768.size (k0_off65_inb c k))).set = chunk (bwd c k) :=
    (View.set_slice_whole cc0_scratch3 _).trans (rect32_set (bwd c k) (off65_eq c k) (k0_off65_inb c k))
  have l3 : (Memref.whole cc0_scratch3 : Memref sig .tc .vmem S512x768 .bf16).view.setOn (Rect.unit (s := S512x768) (k0_off65 c (BitVec.ofNat 32 (1 + k.val))) S32x768.size (k0_off65_inb c k)).toLoadRect.set ⊆ chunk (bwd c k) := by
    rw [← e3]; exact (View.set_slice _ _).symm.subset
  unfold addStep
  iintro H
  iapply (wpc_step c _ (wait_step m K c 1 k (rem (tAg c) 0) (by rw [lv_dm1]; exact above_rem _ _ fun j => above_tAg c j (by decide))
    _ _ _ _ _ (semAt6 k) _ _ _ _ _ _)) $$ [H]
  · iexact H
  iintro %_ ⟨HO, Hw⟩
  unfold waited
  icases Hw with ⟨Hat, Hp⟩
  ihave Hp := (Entails.of_eq (show dmaPay m 1 k c = at3 c (chunk (bwd c k)) (staged m c) from rfl)) $$ Hp
  iapply (wpc_step c _ (wpc_load c (m := (Memref.whole cc0_scratch3 : Memref sig .tc .vmem S512x768 .bf16)) (chunk (bwd c k)) fullShare (staged m c) l3)) $$ [Hp]
  · iexact Hp
  iintro %y ⟨%ey, Hp⟩
  rw [read_rows3 (bwd c k) _ (off65_eq c k)] at ey
  subst ey
  iapply (wpc_pure (BI.Entails.refl _))
  isplitr; · ipureintro; exact (redAt_succ m c k).symm
  isplitl [HO]; · iexact HO
  isplitl [Hat]; · iexact Hat
  iapply (Entails.of_eq (show at3 c (chunk (bwd c k)) (staged m c) = dmaPay m 1 k c from rfl))
  iexact Hp

theorem add_loop (c : Dev nD) :
    iprop((known m K ∗ owing c (rem (tAg c) 0)) ∗ bigSep Finset.univ fun k => waiting (F := F) 1 k c)
      ⊢ wpc c (fold15 (addStep (F := F) (Memref.whole cc0_scratch2) (Memref.isWhole_whole _) (Memref.whole cc0_scratch3) (Memref.isWhole_whole _) cc0_scratch6 c) (redAt m c 0))
          fun a => iprop(⌜a = redAt m c 15⌝ ∗ owing c (rem (tAg c) 0) ∗ bigSep Finset.univ fun k => waited m 1 k c) := by
  refine (fold15_spec c _ (redAt m c) (fun _ => iprop(known m K ∗ owing c (rem (tAg c) 0))) (fun k => waiting (F := F) 1 k c) (fun k => waited m 1 k c) fun k => ?_).trans (wpc_mono fun a => ?_)
  · iintro ⟨⟨#HK, HO⟩, Hw⟩
    iapply (wpc_last c (add_step m K c k)) $$ [HO Hw]
    · isplitl [HO]
      · isplitr; · iexact HK
        iexact HO
      iexact Hw
    iintro %a ⟨%ha, HO, Hw⟩
    isplitr; · ipureintro; exact ha
    isplitl [HO]
    · isplitr; · iexact HK
      iexact HO
    iexact Hw
  · iintro ⟨Ha, ⟨-, HO⟩, Hw⟩
    isplitl [Ha]; · iexact Ha
    isplitl [HO] <;> iassumption

/-! ## The gathering -/

/-- What a transfer of the gathering needs. -/
def agNeed (c : Dev nD) (k : Fin 15) : sProp 𝕄 :=
  iprop(dutyTok ER (dmCell 2 k c) 0 0 ∗ dutyTok ER (dmCell 3 k (fwd c k)) 0 0 ∗ at4 c (chunk c) (shareTok fullShare 15 k) (gathered m) ∗ ∃ fd, at4 (fwd c k) (chunk c) fullShare fd)
def agCred (c : Dev nD) (k : Fin 15) : sProp 𝕄 := cred (tallyAt (dmCell 2 k c) () N)

theorem ag_loop (c : Dev nD) :
    iprop((known m K ∗ owing c (rem (tAg c) 0)) ∗ bigSep Finset.univ fun k => agNeed m c k)
      ⊢ wpc c (run15 fun k => agSend (F := F) (Memref.whole cc0_scratch4) (Memref.isWhole_whole _) (agDev c k) (agDev_lt c k) (semAt cc0_scratch7 k) (semAt cc0_scratch8 k)
            (k0_off63 c) (k0_off63_inb c) (k0_off63_wordsbf16 c))
          fun _ => iprop(owing c 0 ∗ bigSep Finset.univ fun k => agCred (F := F) c k) := by
  refine (run15_spec c _ (fun k => iprop(known m K ∗ owing c (rem (tAg c) k))) (fun k => agNeed m c k) (fun k => agCred (F := F) c k)
    fun k => ?_).trans (wpc_mono fun _ => ?_)
  · rw [rem_succ]
    unfold known owing agNeed agCred
    iintro ⟨⟨⟨#HR, #Hlev⟩, %W, HO⟩, Ht0, Ht1, H4, %fd, H4'⟩
    iapply (wpc_last c (ag_send m K c k (rem (tAg c) (k.val + 1)) W (agDev c k) (agDev_lt c k) (agDev_eq c k)
      (semAt cc0_scratch7 k) (semAt cc0_scratch8 k) (semAt7 k) (semAt8 k) (k0_off63 c) (k0_off63_eq c) (k0_off63_inb c) (k0_off63_wordsbf16 c) fd)) $$ [HO Ht0 Ht1 H4 H4']
    · isplitr; · iexact HR
      isplitl [HO]; · iexact HO
      isplitl [Ht0]; · iexact Ht0
      isplitl [Ht1]; · iexact Ht1
      isplitl [H4] <;> iassumption
    iintro %_ ⟨Hc, HO⟩
    isplitl [HO]
    · isplitr
      · isplitr; · iexact HR
        iexact Hlev
      iexists W; iexact HO
    iexact Hc
  · rw [rem_end]
    iintro ⟨⟨-, HO⟩, HP⟩
    isplitl [HO] <;> iassumption

theorem agw_loop (c : Dev nD) :
    iprop((known m K ∗ owing c 0) ∗ bigSep Finset.univ fun k => waiting (F := F) 3 k c)
      ⊢ wpc c (run15 fun k => waitRows (F := F) (Memref.whole cc0_scratch4) (Memref.whole cc0_scratch4) (Memref.isWhole_whole _) (Memref.isWhole_whole _) (semAt cc0_scratch8 k)
            (k0_off63 c) (k0_off63 c) (k0_off63_inb c) (k0_off63_inb c) (k0_off63_wordsbf16 c) (k0_off63_wordsbf16 c))
          fun _ => iprop(owing c 0 ∗ bigSep Finset.univ fun k => waited m 3 k c) := by
  refine (run15_spec c _ (fun _ => iprop(known m K ∗ owing c 0)) (fun k => waiting (F := F) 3 k c) (fun k => waited m 3 k c)
    fun k => ?_).trans (wpc_mono fun _ => ?_)
  · iintro ⟨⟨#HK, HO⟩, Hw⟩
    iapply (wpc_last c (wait_step m K c 3 k 0 (above_zero _) _ _ _ _ _ (semAt8 k) _ _ _ _ _ _)) $$ [HO Hw]
    · isplitl [HO]
      · isplitr; · iexact HK
        iexact HO
      iexact Hw
    iintro %a ⟨HO, Hw⟩
    isplitl [HO]
    · isplitr; · iexact HK
      iexact HO
    iexact Hw
  · iintro ⟨⟨-, HO⟩, Hw⟩
    isplitl [HO] <;> iassumption

theorem last_loop (c : Dev nD) :
    iprop((known m K ∗ owing c 0) ∗ (bigSep Finset.univ fun k => waiting (F := F) 0 k c) ∗ bigSep Finset.univ fun k => waiting (F := F) 2 k c)
      ⊢ wpc c (run15 fun k => do
            waitRows (F := F) (Memref.whole cc0_scratch3) (Memref.whole cc0_scratch2) (Memref.isWhole_whole _) (Memref.isWhole_whole _) (semAt cc0_scratch5 k)
              (k0_off63 c) (k0_off64 c (BitVec.ofNat 32 (1 + k.val))) (k0_off63_inb c) (k0_off64_inb c k) (k0_off63_wordsbf16 c) (k0_off64_wordsbf16 c k)
            waitRows (F := F) (Memref.whole cc0_scratch4) (Memref.whole cc0_scratch4) (Memref.isWhole_whole _) (Memref.isWhole_whole _) (semAt cc0_scratch7 k)
              (k0_off63 c) (k0_off63 c) (k0_off63_inb c) (k0_off63_inb c) (k0_off63_wordsbf16 c) (k0_off63_wordsbf16 c))
          fun _ => iprop(owing c 0 ∗ (bigSep Finset.univ fun k => waited m 0 k c) ∗ bigSep Finset.univ fun k => waited m 2 k c) := by
  refine BIBase.Entails.trans ?_ ((run15_spec c _ (fun _ => iprop(known m K ∗ owing c 0)) (fun k => iprop(waiting (F := F) 0 k c ∗ waiting (F := F) 2 k c))
    (fun k => iprop(waited m 0 k c ∗ waited m 2 k c)) fun k => ?_).trans (wpc_mono fun _ => ?_))
  · rw [bigSep_sep']
  · iintro ⟨⟨#HK, HO⟩, H0, H2⟩
    iapply (wpc_step c _ (wait_step m K c 0 k 0 (above_zero _) _ _ _ _ _ (semAt5 k) _ _ _ _ _ _)) $$ [HO H0]
    · isplitl [HO]
      · isplitr; · iexact HK
        iexact HO
      iexact H0
    iintro %a ⟨HO, H0⟩
    iapply (wpc_last c (wait_step m K c 2 k 0 (above_zero _) _ _ _ _ _ (semAt7 k) _ _ _ _ _ _)) $$ [HO H2]
    · isplitl [HO]
      · isplitr; · iexact HK
        iexact HO
      iexact H2
    iintro %a ⟨HO, H2⟩
    isplitl [HO]
    · isplitr; · iexact HK
      iexact HO
    isplitl [H0] <;> iassumption
  · rw [bigSep_sep']
    iintro ⟨⟨-, HO⟩, Hw⟩
    isplitl [HO] <;> iassumption

/-! ## Closing the cells -/

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_bar (c : Dev nD) : iprop(records m K ∗ atPos ER (barCell c) 1 ∅ 0) ⊢ |={Set.univ}=> (semVal (barCell c) 0 : sProp 𝕄) :=
  (sep_mono_left (inv_bar m K c)).trans (Rounds.cell_close ER (Rd m) (Set.mem_univ (K (c, none))) (fun h => h) (R := 1) (duties_later m (barCell c)))
theorem close_dm (c : Dev nD) (a : Fin 4) :
    iprop(records m K ∗ bigSep Finset.univ fun k : Fin 15 => atPos ER (dmCell a k c) 1 ∅ 0) ⊢ |={Set.univ}=> (bigSep Finset.univ fun k : Fin 15 => semVal (dmCell a k c) 0 : sProp 𝕄) :=
  (bigSep_with (Ψ := fun k => iprop(|={Set.univ}=> semVal (dmCell a k c) 0)) fun k _ =>
    (sep_mono_left (inv_dm m K a k c)).trans (Rounds.cell_close ER (Rd m) (Set.mem_univ (K (c, some (a, k.succ)))) (fun h => h) (R := 1) (duties_later m (dmCell a k c)))).trans (bigSep_fupd _ _)
theorem close_zero (c : Dev nD) :
    iprop(records m K ∗ bigSep Finset.univ fun a : Fin 4 => atPos ER ((c : Thread nD τ), .dma (dm a 0)) 0 ∅ 0)
      ⊢ |={Set.univ}=> (bigSep Finset.univ fun a : Fin 4 => semVal ((c : Thread nD τ), .dma (dm a 0)) 0 : sProp 𝕄) :=
  (bigSep_with (Ψ := fun a : Fin 4 => iprop(|={Set.univ}=> semVal ((c : Thread nD τ), .dma (dm a 0)) 0)) fun a _ =>
    (sep_mono_left (rec_inv m K (c, some (a, 0)))).trans (Rounds.cell_close ER (Rd m) (Set.mem_univ (K (c, some (a, 0)))) (fun h => h) (R := 0) (fun r _ => duties_dm_zero m c a r))).trans (bigSep_fupd _ _)

end Cert.KernelIdeal.Hand

end
-- ==== Proof.KernelIdealPieces.lean ====
module

public import proofs.«01_k».proof.Proof.KernelIdealPhases

@[expose] public section

set_option maxRecDepth 65536

noncomputable section

/-! # Pieces of buffers, the halves in order, and what the body starts and ends with -/

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.Transfers (shareTok shareDrop pointsTo_toks)
open Idealize.ShloMosaic.ValueIdx (ix2 eq_ix2)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (K : CellIx → ℕ)

/-! ## A buffer as its sixteen chunks -/

omit [FloatOps F] in
theorem at2_chunks (c : Dev nD) (f : Vec F S512x768 .bf16) : at2 c Finset.univ f = bigSep Finset.univ fun j => at2 c (chunk j) f := by
  rw [← chunk_cover]; exact pointsTo_biUnion _ _ fun _ _ _ _ h => chunk_disjoint h
omit [FloatOps F] in
theorem at3_chunks (c : Dev nD) (f : Vec F S512x768 .bf16) : at3 c Finset.univ f = bigSep Finset.univ fun j => at3 c (chunk j) f := by
  rw [← chunk_cover]; exact pointsTo_biUnion _ _ fun _ _ _ _ h => chunk_disjoint h
omit [FloatOps F] in
theorem at4_chunks (c : Dev nD) (q : PosShare TreeShare) (f : Vec F S512x768 .bf16) : at4 c Finset.univ q f = bigSep Finset.univ fun j => at4 c (chunk j) q f := by
  rw [← chunk_cover]; exact pointsTo_biUnion _ _ fun _ _ _ _ h => chunk_disjoint h

omit [FloatOps F] in
/-- The staging buffer whole again: the device's own rows as they were, the others as they landed. -/
theorem at3_whole (c : Dev nD) (f g : Vec F S512x768 .bf16) :
    iprop(at3 c (chunk c) f ∗ bigSep Finset.univ fun k => at3 c (chunk (bwd c k)) g) ⊢ ∃ h, at3 c Finset.univ h := by
  have e1 : at3 c (chunk c) f = at3 c (chunk c) (fun i => if i ∈ chunk c then f i else g i) :=
    pointsTo_congr fun i hi => (if_pos hi).symm
  have e2 : ∀ k, at3 c (chunk (bwd c k)) g = at3 c (chunk (bwd c k)) (fun i => if i ∈ chunk c then f i else g i) := fun k =>
    pointsTo_congr fun i hi => (if_neg fun h => Finset.disjoint_left.mp (chunk_disjoint (bwd_ne k c)) hi h).symm
  rw [e1, bigSep_congr fun k _ => e2 k]
  iintro H
  iexists (fun i => if i ∈ chunk c then f i else g i)
  iapply (Entails.of_eq ((bigSep_bwd c fun j => at3 c (chunk j) (fun i => if i ∈ chunk c then f i else g i)).symm.trans (at3_chunks c _).symm)) $$ H

/-- One half of the rounded partial product as chunks. -/
theorem at2_half (c : Dev nD) (b : Fin 2) :
    at2 c (hlf b.val) (part m c)
      = iprop((if c.val / 8 = b.val then at2 c (chunk c) (part m c) else iprop(emp)) ∗ bigSep Finset.univ fun k => if (fwd c k).val / 8 = b.val then rsSrc m c k else iprop(emp)) := by
  rw [← hlf_cover b]
  refine (pointsTo_biUnion _ _ fun _ _ _ _ h => chunk_disjoint h).trans ?_
  rw [bigSep_filter, bigSep_fwd c]
  rfl

omit [FloatOps F] in
theorem at1_halves (c : Dev nD) (f : Vec F S512x768 .f32) : at1 c Finset.univ f ⊣⊢ iprop(at1 c (hlf 0) f ∗ at1 c (hlf 1) f) := by
  rw [← hlf_union]; exact pointsTo_union hlf_disjoint
omit [FloatOps F] in
theorem at2_halves (c : Dev nD) (f : Vec F S512x768 .bf16) : at2 c Finset.univ f ⊣⊢ iprop(at2 c (hlf 0) f ∗ at2 c (hlf 1) f) := by
  rw [← hlf_union]; exact pointsTo_union hlf_disjoint

/-! ## The halves, in the device's order -/

/-- The half a device computes first, and the other. -/
def fstH (c : Dev nD) : Fin 2 := if c.val % 2 = 0 then 1 else 0
def sndH (c : Dev nD) : Fin 2 := if c.val % 2 = 0 then 0 else 1

theorem fstH_val (c : Dev nD) : (fstH c).val = firstHalf c := by unfold fstH firstHalf; split <;> rfl

/-- A half not yet computed. -/
def todo (c : Dev nD) (b : Fin 2) : sProp 𝕄 := iprop((∃ f, at1 c (hlf b.val) f) ∗ ∃ f, at2 c (hlf b.val) f)
/-- A half computed. -/
def done (c : Dev nD) (b : Fin 2) : sProp 𝕄 := iprop(at1 c (hlf b.val) (acc m c) ∗ at2 c (hlf b.val) (part m c))
/-- What the halves share. -/
def common (c : Dev nD) : sProp 𝕄 := iprop(xPts c (xB m c) ∗ ∃ f, at0 c f)

theorem half_on (c : Dev nD) (b : Fin 2) (B : BitVec 1) (hB : B = 1#1) (r0 : ℕ) (hr : r0 = 256 * b.val) (hx) (ha) (hA) (hw) :
    iprop(common m c ∗ todo (F := F) c b) ⊢ wpc c (halfIf (F := F) (Memref.whole cc0_stg0_0) (Memref.whole cc0_scratch0) (Memref.whole cc0_scratch1) (Memref.whole cc0_scratch2) (Memref.isWhole_whole _)
        B r0 hx ha hA hw (k0_pay57 (wqB m c)) (k0_pay58 (woB m c)) (k0_pay59 (wkB m c)) (k0_pay60 (wvB m c))) fun _ => iprop(common m c ∗ done m c b) := by
  unfold halfIf
  rw [dif_pos hB]
  refine BIBase.Entails.trans ?_ ((half_spec m c b r0 hr hx ha hA hw).trans (wpc_mono fun _ => ?_))
  · unfold common todo halfPre
    iintro ⟨⟨Hx, H0⟩, H1, H2⟩
    isplitl [Hx]; · iexact Hx
    isplitl [H0]; · iexact H0
    isplitl [H1] <;> iassumption
  · unfold common done halfPost
    iintro ⟨Hx, H0, H1, H2⟩
    isplitl [Hx H0]
    · isplitl [Hx] <;> iassumption
    isplitl [H1] <;> iassumption

theorem half_off (c : Dev nD) (B : BitVec 1) (hB : B = 0#1) (r0 : ℕ) (hx) (ha) (hA) (hw) (A : sProp 𝕄) :
    A ⊢ wpc c (halfIf (F := F) (Memref.whole cc0_stg0_0) (Memref.whole cc0_scratch0) (Memref.whole cc0_scratch1) (Memref.whole cc0_scratch2) (Memref.isWhole_whole _)
        B r0 hx ha hA hw (k0_pay57 (wqB m c)) (k0_pay58 (woB m c)) (k0_pay59 (wkB m c)) (k0_pay60 (wvB m c))) fun _ => A := by
  unfold halfIf
  rw [dif_neg (by rw [hB]; decide)]
  exact wpc_pure (BI.Entails.refl _)

theorem halves1 (c : Dev nD) {β : Type} (q : PUnit → TcProg F β) (R : β → sProp 𝕄) (hx) (ha) (hA) (hw) (hx') (ha') (hA') (hw') :
    iprop(common m c ∗ todo (F := F) c 0 ∗ todo (F := F) c 1)
      ⊢ iprop(((common m c ∗ done m c (fstH c) ∗ todo (F := F) c (sndH c)) -∗ wpc c (q ⟨⟩) R)
        -∗ wpc c (halfIf (F := F) (Memref.whole cc0_stg0_0) (Memref.whole cc0_scratch0) (Memref.whole cc0_scratch1) (Memref.whole cc0_scratch2) (Memref.isWhole_whole _)
            (hiFirst c) 256 hx ha hA hw (k0_pay57 (wqB m c)) (k0_pay58 (woB m c)) (k0_pay59 (wkB m c)) (k0_pay60 (wvB m c)) >>= fun _ =>
          halfIf (F := F) (Memref.whole cc0_stg0_0) (Memref.whole cc0_scratch0) (Memref.whole cc0_scratch1) (Memref.whole cc0_scratch2) (Memref.isWhole_whole _)
            (loFirst c) 0 hx' ha' hA' hw' (k0_pay57 (wqB m c)) (k0_pay58 (woB m c)) (k0_pay59 (wkB m c)) (k0_pay60 (wvB m c)) >>= q) R) := by
  unfold fstH sndH
  by_cases h : c.val % 2 = 0
  · have h1 := (hiFirst_eq c).trans (if_pos h)
    have h2 := (loFirst_eq c).trans (if_pos h)
    rw [if_pos h, if_pos h]
    iintro ⟨HC, H0, H1⟩ HK
    iapply (wpc_step c _ (half_on m c 1 (hiFirst c) h1 256 rfl hx ha hA hw)) $$ [HC H1]
    · isplitl [HC] <;> iassumption
    iintro %_ ⟨HC, H1⟩
    iapply (wpc_step c q (half_off m c (loFirst c) h2 0 hx' ha' hA' hw' (common m c))) $$ [HC]
    · iexact HC
    iintro %_ HC
    iapply HK
    isplitl [HC]; · iexact HC
    isplitl [H1] <;> iassumption
  · have h1 := (hiFirst_eq c).trans (if_neg h)
    have h2 := (loFirst_eq c).trans (if_neg h)
    rw [if_neg h, if_neg h]
    iintro ⟨HC, H0, H1⟩ HK
    iapply (wpc_step c _ (half_off m c (hiFirst c) h1 256 hx ha hA hw (common m c))) $$ [HC]
    · iexact HC
    iintro %_ HC
    iapply (wpc_step c q (half_on m c 0 (loFirst c) h2 0 rfl hx' ha' hA' hw')) $$ [HC H0]
    · isplitl [HC] <;> iassumption
    iintro %_ ⟨HC, H0⟩
    iapply HK
    isplitl [HC]; · iexact HC
    isplitl [H0] <;> iassumption

theorem halves2 (c : Dev nD) {β : Type} (q : PUnit → TcProg F β) (R : β → sProp 𝕄) (hx) (ha) (hA) (hw) (hx') (ha') (hA') (hw') :
    iprop(common m c ∗ todo (F := F) c (sndH c))
      ⊢ iprop(((common m c ∗ done m c (sndH c)) -∗ wpc c (q ⟨⟩) R)
        -∗ wpc c (halfIf (F := F) (Memref.whole cc0_stg0_0) (Memref.whole cc0_scratch0) (Memref.whole cc0_scratch1) (Memref.whole cc0_scratch2) (Memref.isWhole_whole _)
            (hiFirst c) 0 hx ha hA hw (k0_pay57 (wqB m c)) (k0_pay58 (woB m c)) (k0_pay59 (wkB m c)) (k0_pay60 (wvB m c)) >>= fun _ =>
          halfIf (F := F) (Memref.whole cc0_stg0_0) (Memref.whole cc0_scratch0) (Memref.whole cc0_scratch1) (Memref.whole cc0_scratch2) (Memref.isWhole_whole _)
            (loFirst c) 256 hx' ha' hA' hw' (k0_pay57 (wqB m c)) (k0_pay58 (woB m c)) (k0_pay59 (wkB m c)) (k0_pay60 (wvB m c)) >>= q) R) := by
  unfold sndH
  by_cases h : c.val % 2 = 0
  · have h1 := (hiFirst_eq c).trans (if_pos h)
    have h2 := (loFirst_eq c).trans (if_pos h)
    rw [if_pos h]
    iintro H HK
    iapply (wpc_step c _ (half_on m c 0 (hiFirst c) h1 0 rfl hx ha hA hw)) $$ [H]
    · iexact H
    iintro %_ H
    iapply (wpc_step c q (half_off m c (loFirst c) h2 256 hx' ha' hA' hw' iprop(common m c ∗ done m c 0))) $$ [H]
    · iexact H
    iintro %_ H
    iapply HK
    iexact H
  · have h1 := (hiFirst_eq c).trans (if_neg h)
    have h2 := (loFirst_eq c).trans (if_neg h)
    rw [if_neg h]
    iintro H HK
    iapply (wpc_step c _ (half_off m c (hiFirst c) h1 0 hx ha hA hw iprop(common m c ∗ todo (F := F) c 1))) $$ [H]
    · iexact H
    iintro %_ H
    iapply (wpc_step c q (half_on m c 1 (loFirst c) h2 256 rfl hx' ha' hA' hw')) $$ [H]
    · iexact H
    iintro %_ H
    iapply HK
    iexact H

/-- The first half's chunks are the first pass's sources, besides the device's own. -/
theorem first_sources (c : Dev nD) :
    at2 c (hlf (fstH c).val) (part m c)
      = iprop((if c.val / 8 = (fstH c).val then at2 c (chunk c) (part m c) else iprop(emp)) ∗ bigSep Finset.univ fun k => if inFirst c k then rsSrc m c k else iprop(emp)) := by
  rw [at2_half]
  refine congrArg _ (bigSep_congr fun k _ => ?_)
  unfold inFirst
  rw [fstH_val]
  by_cases h : (fwd c k).val / 8 = firstHalf c
  · rw [if_pos h, if_pos (decide_eq_true h)]
  · rw [if_neg h, if_neg (by rw [decide_eq_true_iff]; exact h)]
theorem second_sources (c : Dev nD) :
    at2 c (hlf (sndH c).val) (part m c)
      = iprop((if c.val / 8 = (fstH c).val then iprop(emp) else at2 c (chunk c) (part m c)) ∗ bigSep Finset.univ fun k => if inFirst c k then iprop(emp) else rsSrc m c k) := by
  have hs : ∀ d : Dev nD, d.val / 8 = (sndH c).val ↔ ¬ d.val / 8 = (fstH c).val := fun d => by
    have hd : d.val < 16 := d.isLt
    unfold sndH fstH
    split
    · show d.val / 8 = 0 ↔ ¬ d.val / 8 = 1
      omega
    · show d.val / 8 = 1 ↔ ¬ d.val / 8 = 0
      omega
  rw [at2_half]
  refine congrArg₂ _ ?_ (bigSep_congr fun k _ => ?_)
  · by_cases h : c.val / 8 = (fstH c).val
    · rw [if_pos h, if_neg fun h' => (hs c).mp h' h]
    · rw [if_neg h, if_pos ((hs c).mpr h)]
  · unfold inFirst
    rw [← fstH_val]
    by_cases h : (fwd c k).val / 8 = (fstH c).val
    · rw [if_neg fun h' => (hs _).mp h' h, if_pos (decide_eq_true h)]
    · rw [if_pos ((hs _).mpr h), if_neg (by rw [decide_eq_true_iff]; exact h)]

theorem own_source (c : Dev nD) :
    iprop((if c.val / 8 = (fstH c).val then at2 c (chunk c) (part m c) else iprop(emp)) ∗ (if c.val / 8 = (fstH c).val then iprop(emp) else at2 c (chunk c) (part m c)))
      ⊢ at2 c (chunk c) (part m c) := by
  split
  · iintro ⟨H, -⟩; iexact H
  · iintro ⟨-, H⟩; iexact H

theorem done_acc (c : Dev nD) : iprop(at1 c (hlf (fstH c).val) (acc m c) ∗ at1 c (hlf (sndH c).val) (acc m c)) ⊢ at1 c Finset.univ (acc m c) := by
  refine BIBase.Entails.trans ?_ (at1_halves c (acc m c)).2
  unfold fstH sndH
  by_cases h : c.val % 2 = 0
  · rw [if_pos h, if_pos h]
    iintro ⟨H1, H0⟩
    isplitl [H0]
    · iexact H0
    · iexact H1
  · rw [if_neg h, if_neg h]
    exact BI.Entails.refl _

/-! ## What a device's cells split into -/

omit [FloatOps F] in
theorem bigSep_sixteen (Φ : Fin 16 → sProp 𝕄) : bigSep Finset.univ Φ = iprop(Φ 0 ∗ bigSep Finset.univ fun k : Fin 15 => Φ k.succ) := by
  rw [Fin.univ_succ, Finset.cons_eq_insert, bigSep_insert (by simp [Fin.succ_ne_zero]), bigSep_map]
  rfl
omit [FloatOps F] in
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem own_split (c : Dev nD) (Φ : GSem nD τ sig → sProp 𝕄) :
    (bigSep Finset.univ fun i : Fin 4 × Fin 16 => Φ ((c : Thread nD τ), osem i))
      = iprop((bigSep Finset.univ fun a : Fin 4 => Φ ((c : Thread nD τ), .dma (dm a 0)))
          ∗ (bigSep Finset.univ fun k : Fin 15 => Φ (dmCell 0 k c)) ∗ (bigSep Finset.univ fun k : Fin 15 => Φ (dmCell 1 k c))
          ∗ (bigSep Finset.univ fun k : Fin 15 => Φ (dmCell 2 k c)) ∗ (bigSep Finset.univ fun k : Fin 15 => Φ (dmCell 3 k c))) := by
  rw [bigSep_univ_prod, bigSep_congr (fun a _ => bigSep_sixteen fun k => Φ ((c : Thread nD τ), osem (a, k))), bigSep_sep',
    bigSep_four fun a => bigSep Finset.univ fun k : Fin 15 => Φ ((c : Thread nD τ), osem (a, k.succ))]
omit [FloatOps F] in
theorem cells_split (c : Dev nD) (Φ : GSem nD τ sig → sProp 𝕄) :
    (bigSep Finset.univ fun s : Option (Fin 4 × Fin 16) => Φ (kcell (c, s)))
      = iprop(Φ (barCell c) ∗ (bigSep Finset.univ fun a : Fin 4 => Φ ((c : Thread nD τ), .dma (dm a 0)))
          ∗ (bigSep Finset.univ fun k : Fin 15 => Φ (dmCell 0 k c)) ∗ (bigSep Finset.univ fun k : Fin 15 => Φ (dmCell 1 k c))
          ∗ (bigSep Finset.univ fun k : Fin 15 => Φ (dmCell 2 k c)) ∗ (bigSep Finset.univ fun k : Fin 15 => Φ (dmCell 3 k c))) := by
  rw [bigSep_option]
  exact congrArg _ (own_split c Φ)

/-! ## What the body starts from and ends with -/

/-- The tokens of the duties device `c` pays. -/
def payToks (c : Dev nD) : sProp 𝕄 :=
  iprop((bigSep Finset.univ fun k : Fin 15 => dutyTok ER (barCell (fwd c k)) 0 k)
    ∗ (bigSep Finset.univ fun k : Fin 15 => dutyTok ER (dmCell 0 k c) 0 0) ∗ (bigSep Finset.univ fun k : Fin 15 => dutyTok ER (dmCell 1 k (fwd c k)) 0 0)
    ∗ (bigSep Finset.univ fun k : Fin 15 => dutyTok ER (dmCell 2 k c) 0 0) ∗ (bigSep Finset.univ fun k : Fin 15 => dutyTok ER (dmCell 3 k (fwd c k)) 0 0))

/-- What the exchange gives device `c`: everybody's records, its own positions, the tokens it pays with. -/
def ghost (c : Dev nD) : sProp 𝕄 :=
  iprop(records m K ∗ (bigSep Finset.univ fun s : Option (Fin 4 × Fin 16) => atPos ER (kcell (c, s)) 0 ∅ 0) ∗ payToks c)

/-- The credit it waits with. -/
def credits (c : Dev nD) : sProp 𝕄 :=
  iprop(cred (tallyAt (barCell c) () 15) ∗ (bigSep Finset.univ fun k : Fin 15 => cred (tallyAt (dmCell 1 k c) () N))
    ∗ (bigSep Finset.univ fun k : Fin 15 => cred (tallyAt (dmCell 3 k c) () N)))

def start (c : Dev nD) : sProp 𝕄 := iprop((∃ K, ghost m K c) ∗ credits c ∗ levAts L lv)

/-- The five scratch buffers, whatever they hold. -/
def scratches (c : Dev nD) : sProp 𝕄 :=
  iprop((∃ f, at0 c f) ∗ (∃ f, at1 c Finset.univ f) ∗ (∃ f, at2 c Finset.univ f) ∗ (∃ f, at3 c Finset.univ f) ∗ (∃ f, at4 c Finset.univ fullShare f))

def Φ₀ (c : Dev nD) : sProp 𝕄 := iprop(start m c ∗ scratches c)
def Φ₁ (c : Dev nD) : sProp 𝕄 :=
  iprop(scratches (F := F) c ∗ (bigSep Finset.univ fun i : Fin 4 × Fin 16 => semVal ((c : Thread nD τ), osem i) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => iblk m c 0 t₀
    | ⟨1, _⟩ => iblk m c 1 t₀
    | ⟨2, _⟩ => iblk m c 2 t₀
    | ⟨3, _⟩ => iblk m c 3 t₀
    | ⟨4, _⟩ => iblk m c 4 t₀
    | ⟨5, _⟩ => result m
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_in (w : Fin cfg0.W) (hw : w ≠ (5 : Fin 6)) (t : Fin cfg0.N) : (cfg0.win w).fetch t = true := by
  rw [fin_N t]; fin_cases w <;> first | rfl | exact absurd rfl hw

end Cert.KernelIdeal.Hand

end
-- ==== Proof.KernelIdealBody.lean ====
module

public import proofs.«01_k».proof.Proof.KernelIdealPieces

@[expose] public section

set_option maxRecDepth 65536

noncomputable section

/-! # The whole body, phase by phase -/

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Transfers (shareTok shareDrop pointsTo_toks)
open Idealize.ShloMosaic.ValueIdx (ix2 eq_ix2)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (K : CellIx → ℕ)

/-! ## Handing pieces from one phase to the next -/

/-- What the barrier brings, with the tokens, is what the first exchange needs, and the places for the second. -/
theorem rs_needs (c : Dev nD) :
    iprop((bigSep Finset.univ fun k : Fin 15 => dutyTok ER (dmCell 0 k c) 0 0) ∗ (bigSep Finset.univ fun k : Fin 15 => dutyTok ER (dmCell 1 k (fwd c k)) 0 0)
        ∗ bigSep Finset.univ fun k => barPay (F := F) c k)
      ⊢ iprop((bigSep Finset.univ fun k => rsNeed (F := F) c k) ∗ bigSep Finset.univ fun k : Fin 15 => iprop(∃ f, at4 (F := F) (fwd c k) (chunk c) fullShare f)) := by
  have e : (bigSep Finset.univ fun k => barPay (F := F) c k)
      = iprop((bigSep Finset.univ fun k : Fin 15 => iprop(∃ f, at3 (F := F) (fwd c k) (chunk c) f)) ∗ bigSep Finset.univ fun k : Fin 15 => iprop(∃ f, at4 (F := F) (fwd c k) (chunk c) fullShare f)) := by
    rw [bigSep_rev, ← bigSep_sep']
    exact bigSep_congr fun k _ => by unfold barPay; rw [bwd_rev]
  rw [e]
  unfold rsNeed
  rw [bigSep_sep', bigSep_sep']
  iintro ⟨H0, H1, H3, H4⟩
  isplitl [H0 H1 H3]
  · isplitl [H0]; · iexact H0
    isplitl [H1]; · iexact H1
    iexact H3
  iexact H4

/-- What the second exchange needs. -/
theorem ag_needs (c : Dev nD) :
    iprop((bigSep Finset.univ fun k : Fin 15 => dutyTok ER (dmCell 2 k c) 0 0) ∗ (bigSep Finset.univ fun k : Fin 15 => dutyTok ER (dmCell 3 k (fwd c k)) 0 0)
        ∗ (bigSep Finset.univ fun k : Fin 15 => at4 c (chunk c) (shareTok fullShare 15 k) (gathered m))
        ∗ bigSep Finset.univ fun k : Fin 15 => iprop(∃ f, at4 (F := F) (fwd c k) (chunk c) fullShare f))
      ⊢ bigSep Finset.univ fun k => agNeed m c k := by
  unfold agNeed
  rw [bigSep_sep', bigSep_sep', bigSep_sep']

theorem waits_of (a : Fin 4) (c : Dev nD) :
    iprop((bigSep Finset.univ fun k : Fin 15 => cred (tallyAt (dmCell a k c) () N)) ∗ bigSep Finset.univ fun k : Fin 15 => atPos ER (dmCell a k c) 0 ∅ 0)
      ⊢ bigSep Finset.univ fun k : Fin 15 => waiting (F := F) a k c := by
  unfold waiting
  rw [bigSep_sep']
theorem waited_of (a : Fin 4) (c : Dev nD) :
    (bigSep Finset.univ fun k : Fin 15 => waited m a k c)
      ⊢ iprop((bigSep Finset.univ fun k : Fin 15 => atPos ER (dmCell a k c) 1 ∅ 0) ∗ bigSep Finset.univ fun k : Fin 15 => dmaPay m a k c) := by
  unfold waited
  rw [bigSep_sep']

/-- Every landed chunk, split into what is read and what the senders' shares make up. -/
theorem land_split (c : Dev nD) :
    (bigSep Finset.univ fun k : Fin 15 => dmaPay m 3 k c)
      = iprop((bigSep Finset.univ fun k : Fin 15 => at4 c (chunk (bwd c k)) (shareDrop fullShare 15) (gathered m))
          ∗ bigSep Finset.univ fun k : Fin 15 => bigSep Finset.univ fun i : Fin 15 => at4 c (chunk (bwd c k)) (shareTok fullShare 15 i) (gathered m)) := by
  rw [← bigSep_sep']
  refine bigSep_congr fun k _ => ?_
  show at4 c (chunk (bwd c k)) fullShare (gathered m) = _
  have h : at4 c (chunk (bwd c k)) fullShare (gathered m)
      ⊣⊢ iprop(at4 c (chunk (bwd c k)) (shareDrop fullShare 15) (gathered m) ∗ bigSep Finset.univ fun i : Fin 15 => at4 c (chunk (bwd c k)) (shareTok fullShare 15 i) (gathered m)) :=
    pointsTo_toks fullShare 15
  exact BI.equiv_iff.mp ⟨h.1, h.2⟩

theorem own_split4 (c : Dev nD) :
    at4 c (chunk c) fullShare (gathered m)
      ⊣⊢ iprop(at4 c (chunk c) (shareDrop fullShare 15) (gathered m) ∗ bigSep Finset.univ fun k : Fin 15 => at4 c (chunk c) (shareTok fullShare 15 k) (gathered m)) :=
  pointsTo_toks fullShare 15

theorem read_whole4 (c : Dev nD) :
    at4 c Finset.univ (shareDrop fullShare 15) (gathered m)
      = iprop(at4 c (chunk c) (shareDrop fullShare 15) (gathered m) ∗ bigSep Finset.univ fun k : Fin 15 => at4 c (chunk (bwd c k)) (shareDrop fullShare 15) (gathered m)) :=
  (at4_chunks c _ _).trans (bigSep_bwd c _)
theorem full_whole4 (c : Dev nD) :
    at4 c Finset.univ fullShare (gathered m) = iprop(at4 c (chunk c) fullShare (gathered m) ∗ bigSep Finset.univ fun k : Fin 15 => dmaPay m 3 k c) :=
  (at4_chunks c _ _).trans (bigSep_bwd c _)

/-- After the gathering the buffer is whole. -/
theorem join4 (c : Dev nD) :
    iprop(at4 c Finset.univ (shareDrop fullShare 15) (gathered m) ∗ (bigSep Finset.univ fun k : Fin 15 => dmaPay m 2 k c)
        ∗ bigSep Finset.univ fun k : Fin 15 => bigSep Finset.univ fun i : Fin 15 => at4 c (chunk (bwd c k)) (shareTok fullShare 15 i) (gathered m))
      ⊢ at4 c Finset.univ fullShare (gathered m) := by
  rw [read_whole4, full_whole4, land_split]
  iintro ⟨⟨Ho, Hr⟩, Ht, Hs⟩
  isplitl [Ho Ht]
  · iapply (own_split4 m c).2
    isplitl [Ho]; · iexact Ho
    iexact Ht
  isplitl [Hr] <;> iassumption

/-- The partial product's rounding whole again. -/
theorem join2 (c : Dev nD) :
    iprop(at2 c (chunk c) (part m c) ∗ bigSep Finset.univ fun k : Fin 15 => dmaPay m 0 k c) ⊢ at2 c Finset.univ (part m c) :=
  Entails.of_eq ((at2_chunks c _).trans (bigSep_fwd c _)).symm

/-- The device's own reduced rows, stored. -/
theorem write_own (c : Dev nD) (o : Fin 2 → Nat) (ho : o = ![32 * c.val, 0]) (hi' : ∀ a, o a + S32x768.size a ≤ S512x768.size a)
    (fd : Vec F S512x768 .bf16) (i : S512x768.Idx) (hi : i ∈ chunk c) :
    ((View.whole cc0_scratch4).slice (Rect.unit (s := S512x768) o S32x768.size hi')).write (Elt F) fd (rounded (redAt m c 15)) Finset.univ i = gathered m i := by
  rw [← rect32_set c ho hi', ← Rect.map_emb_univ] at hi
  obtain ⟨x, -, rfl⟩ := Finset.mem_map.mp hi
  refine (View.write_emb_of_mem (v := (View.whole cc0_scratch4).slice (Rect.unit (s := S512x768) o S32x768.size hi')) fd _ (Finset.mem_univ x)).trans ?_
  unfold gathered
  rw [rect32_emb c ho hi' x, devOf_ix2, inChunk_ix2]
  rfl

theorem hz : (![0, 0] : Fin 2 → Nat) = fun _ => 0 := funext fun a => by fin_cases a <;> rfl

theorem wpc_dev (c : Dev nD) : (iprop(emp) : sProp 𝕄) ⊢ wpc c (Prog.lift .deviceId : TcProg F (Dev nD)) fun d => iprop(⌜d = c⌝) := by
  simp only [Prog.lift, wp_deviceId]
  rw [wp_ret]
  iintro -
  imodintro
  ipureintro; rfl

/-! ## The body -/

def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The staged inputs, in the pipeline's order. -/
def inputs (c : Dev nD) : sProp 𝕄 :=
  iprop(xPts c (xB m c) ∗ (((c : Thread nD τ).loc cc0_stg1_0) ↦{fullShare} wqB m c) ∗ (((c : Thread nD τ).loc cc0_stg2_0) ↦{fullShare} woB m c)
    ∗ (((c : Thread nD τ).loc cc0_stg3_0) ↦{fullShare} iblk m c 3 t₀) ∗ (((c : Thread nD τ).loc cc0_stg4_0) ↦{fullShare} iblk m c 4 t₀))

set_option maxHeartbeats 2000000 in
theorem sound_body (c : Dev nD) :
    iprop(ghost m K c ∗ credits c ∗ levAts L lv ∗ scratches c ∗ owing c (O₀ c) ∗ inputs m c ∗ ∃ f, (((c : Thread nD τ).loc cc0_stg5_0) ↦{fullShare} f))
      ⊢ wpc c (phases (F := F) (Memref.whole cc0_stg0_0) (Memref.whole cc0_stg1_0) (Memref.whole cc0_stg2_0) (Memref.whole cc0_stg3_0) (Memref.whole cc0_stg4_0)
          (Memref.whole cc0_stg5_0) (Memref.whole cc0_scratch0) (Memref.whole cc0_scratch1) (Memref.whole cc0_scratch2) (Memref.isWhole_whole _)
          (Memref.whole cc0_scratch3) (Memref.isWhole_whole _) (Memref.whole cc0_scratch4) (Memref.isWhole_whole _) cc0_scratch5 cc0_scratch6 cc0_scratch7 cc0_scratch8)
        fun _ => iprop(|={Set.univ}=> (Φ₁ c ∗ owing c 0 ∗ inputs m c ∗ (((c : Thread nD τ).loc cc0_stg5_0) ↦{fullShare} result m))) := by
  have e1 : ((Memref.whole cc0_scratch1 : Memref sig .tc .vmem S512x768 .f32).access (Rect.unit (s := S512x768) (k0_off62 c) S32x768.size (k0_off62_inb c))).set = chunk c :=
    (View.set_slice_whole cc0_scratch1 _).trans (rect32_set c (k0_off62_eq c) (k0_off62_inb c))
  have l1 : (Memref.whole cc0_scratch1 : Memref sig .tc .vmem S512x768 .f32).view.setOn (Rect.unit (s := S512x768) (k0_off62 c) S32x768.size (k0_off62_inb c)).toLoadRect.set ⊆ Finset.univ :=
    Finset.subset_univ _
  have e4 : ((Memref.whole cc0_scratch4 : Memref sig .tc .vmem S512x768 .bf16).access (Rect.unit (s := S512x768) (k0_off62 c) S32x768.size (k0_off62_inb c))).set = chunk c :=
    (View.set_slice_whole cc0_scratch4 _).trans (rect32_set c (k0_off62_eq c) (k0_off62_inb c))
  have l4 : (Memref.whole cc0_scratch4 : Memref sig .tc .vmem S512x768 .bf16).view.setOn (Rect.unit (s := S512x768) (k0_off62 c) S32x768.size (k0_off62_inb c)).toLoadRect.set ⊆ chunk c := by
    rw [← e4]; exact (View.set_slice _ _).symm.subset
  have w4 : ∀ fd : Vec F S512x768 .bf16, (at4 c (chunk c) fullShare (((Memref.whole cc0_scratch4 : Memref sig .tc .vmem S512x768 .bf16).access (Rect.unit (s := S512x768) (k0_off62 c) S32x768.size (k0_off62_inb c))).write (Elt F) fd (rounded (redAt m c 15)) Finset.univ) : sProp 𝕄)
      = at4 c (chunk c) fullShare (gathered m) := fun fd => pointsTo_congr fun i hi => write_own m c _ (k0_off62_eq c) _ fd i hi
  have w5 : ∀ f : Vec F S512x768 .f32, ((((c : Thread nD τ).loc cc0_stg5_0) ↦{fullShare} (((Memref.whole cc0_stg5_0 : Memref sig .tc .vmem S512x768 .f32).access (Rect.unit (s := S512x768) ![0, 0] S512x768.size inb_S512x768_S512x768_0_0)).write (Elt F) f (k0_pay89 (gathered m)) Finset.univ)) : sProp 𝕄)
      = (((c : Thread nD τ).loc cc0_stg5_0) ↦{fullShare} result m) := fun f =>
    congrArg (fun g => ((((c : Thread nD τ).loc cc0_stg5_0) ↦{fullShare} g) : sProp 𝕄)) (Memref.write_access_unit_zero_univ (Elt F) cc0_stg5_0 hz inb_S512x768_S512x768_0_0 f (k0_pay89 (gathered m)))
  unfold phases ghost credits scratches inputs
  rw [cells_split c fun g => atPos ER g 0 ∅ 0]
  unfold payToks
  iintro ⟨⟨#HR, ⟨HaB, HaZ, Ha0, Ha1, Ha2, Ha3⟩, HtB, Ht0, Ht1, Ht2, Ht3⟩, ⟨HcB, Hc1, Hc3⟩, #Hlev, ⟨H0, ⟨%f1, H1⟩, ⟨%f2, H2⟩, ⟨%f3, H3⟩, %f4, H4⟩, HO, ⟨Hx, Hq, Ho, Hk, Hv⟩, %f5, H5⟩
  ihave #HK := (show iprop(records m K ∗ levAts L lv) ⊢ known m K from BI.Entails.refl _) $$ [HR Hlev]
  · isplitl [HR] <;> iassumption
  -- its own number, and the weights
  iapply (wpc_step c _ (wpc_dev (F := F) c)) $$ []
  · iempintro
  iintro %d %hd
  subst hd
  iapply (wpc_step d _ (wpc_load d Finset.univ fullShare (wqB m d) (Finset.subset_univ _))) $$ [Hq]
  · iexact Hq
  iintro %v3 ⟨%h3, Hq⟩
  iapply (wpc_step d _ (wpc_load d Finset.univ fullShare (woB m d) (Finset.subset_univ _))) $$ [Ho]
  · iexact Ho
  iintro %v6 ⟨%h6, Ho⟩
  iapply (wpc_step d _ (wpc_load d Finset.univ fullShare (iblk m d 3 t₀) (Finset.subset_univ _))) $$ [Hk]
  · iexact Hk
  iintro %v10 ⟨%h10, Hk⟩
  iapply (wpc_step d _ (wpc_load d Finset.univ fullShare (iblk m d 4 t₀) (Finset.subset_univ _))) $$ [Hv]
  · iexact Hv
  iintro %v14 ⟨%h14, Hv⟩
  have h3' : v3 = wqB m d := h3.trans (Memref.readAt_unit_zero (Elt F) cc0_stg1_0 hz _ _)
  have h6' : v6 = woB m d := h6.trans (Memref.readAt_unit_zero (Elt F) cc0_stg2_0 hz _ _)
  have h10' : v10 = wkB m d := h10
  have h14' : v14 = wvB m d := h14
  clear h3 h6 h10 h14
  subst h3' h6' h10' h14'
  -- the first half
  ihave H1 := (at1_halves d f1).1 $$ H1
  icases H1 with ⟨H1a, H1b⟩
  ihave H2 := (at2_halves d f2).1 $$ H2
  icases H2 with ⟨H2a, H2b⟩
  iapply (halves1 m d _ _ _ _ _ _ _ _ _ _) $$ [Hx H0 H1a H1b H2a H2b]
  · unfold common todo
    isplitl [Hx H0]
    · isplitl [Hx] <;> iassumption
    isplitl [H1a H2a]
    · isplitl [H1a]
      · iexists f1; iexact H1a
      · iexists f2; iexact H2a
    · isplitl [H1b]
      · iexists f1; iexact H1b
      · iexists f2; iexact H2b
  iintro ⟨HC, HD1, HT⟩
  -- the barrier
  ihave H3 := (Entails.of_eq ((at3_chunks d f3).trans (bigSep_fwd d _))) $$ H3
  icases H3 with ⟨H3o, H3⟩
  ihave H4 := (Entails.of_eq ((at4_chunks d fullShare f4).trans (bigSep_fwd d _))) $$ H4
  icases H4 with ⟨H4o, H4⟩
  iapply (wpc_step d _ (sig_loop m K d f3 f4)) $$ [HO HtB H3 H4]
  · isplitl [HO]
    · isplitr; · iexact HK
      iexact HO
    isplitl [HtB]; · iexact HtB
    isplitl [H3] <;> iassumption
  iintro %_ HO
  ihave HO := (show owing d (O₁ d) ⊢ (∃ W, owes (d : Thread nD τ) (O₁ d) W : sProp 𝕄) from BI.Entails.refl _) $$ HO
  icases HO with ⟨%W, HO⟩
  iapply (wpc_step d _ (bar_wait m K d (O₁ d) W (above_O₁ d (by decide)))) $$ [HO HcB HaB]
  · isplitr; · iexact HR
    isplitr; · iexact Hlev
    isplitl [HO]; · iexact HO
    isplitl [HcB] <;> iassumption
  iintro %_ ⟨HO, HaB, HP⟩
  ihave HO := (show (∃ W, owes (d : Thread nD τ) (O₁ d) W : sProp 𝕄) ⊢ owing d (O₁ d) from BI.Entails.refl _) $$ HO
  -- the first pass
  ihave HP := (rs_needs (F := F) d) $$ [Ht0 Ht1 HP]
  · isplitl [Ht0]; · iexact Ht0
    isplitl [Ht1] <;> iassumption
  icases HP with ⟨Hrs, Hpl⟩
  unfold done
  icases HD1 with ⟨HA1, HP1⟩
  ihave HP1 := (Entails.of_eq (first_sources m d)) $$ HP1
  icases HP1 with ⟨Hown1, Hsrc1⟩
  iapply (wpc_step d _ (pass1 m K d)) $$ [HO Hrs Hsrc1]
  · isplitl [HO]
    · isplitr; · iexact HK
      iexact HO
    isplitl [Hrs] <;> iassumption
  iintro %_ ⟨HO, Hmid⟩
  -- the second half
  iapply (halves2 m d _ _ _ _ _ _ _ _ _ _) $$ [HC HT]
  · isplitl [HC] <;> iassumption
  iintro ⟨HC, HD2⟩
  unfold done
  icases HD2 with ⟨HA2, HP2⟩
  ihave HP2 := (Entails.of_eq (second_sources m d)) $$ HP2
  icases HP2 with ⟨Hown2, Hsrc2⟩
  ihave H2o := (own_source m d) $$ [Hown1 Hown2]
  · isplitl [Hown1] <;> iassumption
  iapply (wpc_step d _ (pass2 m K d)) $$ [HO Hmid Hsrc2]
  · isplitl [HO]
    · isplitr; · iexact HK
      iexact HO
    isplitl [Hmid] <;> iassumption
  iintro %_ ⟨HO, Hc0⟩
  ihave H1 := (done_acc m d) $$ [HA1 HA2]
  · isplitl [HA1] <;> iassumption
  -- the sum
  iapply (wpc_step d _ (wpc_load d Finset.univ fullShare (acc m d) l1)) $$ [H1]
  · iexact H1
  iintro %a ⟨%ha, H1⟩
  have ha' : a = redAt m d 0 := ha.trans (read_rows1 d _ (k0_off62_eq d) _ _)
  clear ha
  subst ha'
  ihave Hw := (waits_of (F := F) 1 d) $$ [Hc1 Ha1]
  · isplitl [Hc1] <;> iassumption
  iapply (wpc_step d _ (add_loop m K d)) $$ [HO Hw]
  · isplitl [HO]
    · isplitr; · iexact HK
      iexact HO
    iexact Hw
  iintro %r ⟨%hr, HO, Hw1⟩
  subst hr
  -- its own rows stored
  iapply (wpc_step d _ (wpc_load d (m := Memref.whole cc0_scratch4) (chunk d) fullShare f4 l4)) $$ [H4o]
  · iexact H4o
  iintro %_ ⟨-, H4o⟩
  iapply (wpc_step d _ (wpc_store d (m := Memref.whole cc0_scratch4) (r := Rect.unit (s := S512x768) (k0_off62 d) S32x768.size (k0_off62_inb d)) (chunk d) f4 e4.subset)) $$ [H4o]
  · iexact H4o
  iintro %_ H4o
  ihave H4o := (Entails.of_eq (w4 f4)) $$ H4o
  ihave H4o := (own_split4 m d).1 $$ H4o
  icases H4o with ⟨H4d, H4t⟩
  -- the gathering
  ihave Hag := (ag_needs m d) $$ [Ht2 Ht3 H4t Hpl]
  · isplitl [Ht2]; · iexact Ht2
    isplitl [Ht3]; · iexact Ht3
    isplitl [H4t] <;> iassumption
  iapply (wpc_step d _ (ag_loop m K d)) $$ [HO Hag]
  · isplitl [HO]
    · isplitr; · iexact HK
      iexact HO
    iexact Hag
  iintro %_ ⟨HO, Hc2⟩
  ihave Hw := (waits_of (F := F) 3 d) $$ [Hc3 Ha3]
  · isplitl [Hc3] <;> iassumption
  iapply (wpc_step d _ (agw_loop m K d)) $$ [HO Hw]
  · isplitl [HO]
    · isplitr; · iexact HK
      iexact HO
    iexact Hw
  iintro %_ ⟨HO, Hw3⟩
  ihave Hw3 := (waited_of m 3 d) $$ Hw3
  icases Hw3 with ⟨Ha3, Hp3⟩
  ihave Hp3 := (Entails.of_eq (land_split m d)) $$ Hp3
  icases Hp3 with ⟨Hp3, Hs3⟩
  ihave H4 := (Entails.of_eq (read_whole4 m d).symm) $$ [H4d Hp3]
  · isplitl [H4d] <;> iassumption
  -- the result
  iapply (wpc_step d _ (wpc_load d Finset.univ (shareDrop fullShare 15) (gathered m) (Finset.subset_univ _))) $$ [H4]
  · iexact H4
  iintro %g ⟨%hg, H4⟩
  have hg' : g = gathered m := hg.trans (Memref.readAt_unit_zero (Elt F) cc0_scratch4 hz _ _)
  clear hg
  subst hg'
  iapply (wpc_step d _ (wpc_load d Finset.univ fullShare f5 (Finset.subset_univ _))) $$ [H5]
  · iexact H5
  iintro %_ ⟨-, H5⟩
  iapply (wpc_step d _ (wpc_store d (m := Memref.whole cc0_stg5_0) Finset.univ f5 (Finset.subset_univ _))) $$ [H5]
  · iexact H5
  iintro %_ H5
  ihave H5 := (Entails.of_eq (w5 f5)) $$ H5
  -- the last waits
  ihave Hc0 := (Entails.of_eq (show (bigSep Finset.univ fun k : Fin 15 => rsCred (F := F) d k) = bigSep Finset.univ fun k : Fin 15 => cred (tallyAt (dmCell 0 k d) () N) from rfl)) $$ Hc0
  ihave Hc2 := (Entails.of_eq (show (bigSep Finset.univ fun k : Fin 15 => agCred (F := F) d k) = bigSep Finset.univ fun k : Fin 15 => cred (tallyAt (dmCell 2 k d) () N) from rfl)) $$ Hc2
  ihave Hw0 := (waits_of (F := F) 0 d) $$ [Hc0 Ha0]
  · isplitl [Hc0] <;> iassumption
  ihave Hw2 := (waits_of (F := F) 2 d) $$ [Hc2 Ha2]
  · isplitl [Hc2] <;> iassumption
  iapply (wpc_last d (last_loop m K d)) $$ [HO Hw0 Hw2]
  · isplitl [HO]
    · isplitr; · iexact HK
      iexact HO
    isplitl [Hw0] <;> iassumption
  iintro %_ ⟨HO, Hw0, Hw2⟩
  ihave Hw0 := (waited_of m 0 d) $$ Hw0
  icases Hw0 with ⟨Ha0, Hp0⟩
  ihave Hw1 := (waited_of m 1 d) $$ Hw1
  icases Hw1 with ⟨Ha1, Hp1⟩
  ihave Hw2 := (waited_of m 2 d) $$ Hw2
  icases Hw2 with ⟨Ha2, Hp2⟩
  ihave H2 := (join2 m d) $$ [H2o Hp0]
  · isplitl [H2o] <;> iassumption
  ihave Hp1 := (Entails.of_eq (show (bigSep Finset.univ fun k : Fin 15 => dmaPay m 1 k d) = bigSep Finset.univ fun k : Fin 15 => at3 d (chunk (bwd d k)) (staged m d) from rfl)) $$ Hp1
  ihave H3 := (at3_whole d f3 (staged m d)) $$ [H3o Hp1]
  · isplitl [H3o] <;> iassumption
  ihave H4 := (join4 m d) $$ [H4 Hp2 Hs3]
  · isplitl [H4]; · iexact H4
    isplitl [Hp2] <;> iassumption
  -- every cell closes
  imod (close_bar m K d) $$ [HaB] with HzB
  · isplitr; · iexact HR
    iexact HaB
  imod (close_zero m K d) $$ [HaZ] with HzZ
  · isplitr; · iexact HR
    iexact HaZ
  imod (close_dm m K d 0) $$ [Ha0] with Hz0
  · isplitr; · iexact HR
    iexact Ha0
  imod (close_dm m K d 1) $$ [Ha1] with Hz1
  · isplitr; · iexact HR
    iexact Ha1
  imod (close_dm m K d 2) $$ [Ha2] with Hz2
  · isplitr; · iexact HR
    iexact Ha2
  imod (close_dm m K d 3) $$ [Ha3] with Hz3
  · isplitr; · iexact HR
    iexact Ha3
  imodintro
  unfold Φ₁ scratches common
  rw [own_split d fun g => semVal g 0]
  icases HC with ⟨Hx, H0⟩
  isplitl [H0 H1 H2 H3 H4 HzB HzZ Hz0 Hz1 Hz2 Hz3]
  · isplitl [H0 H1 H2 H3 H4]
    · isplitl [H0]; · iexact H0
      isplitl [H1]; · iexists acc m d; iexact H1
      isplitl [H2]; · iexists part m d; iexact H2
      isplitl [H3]; · iexact H3
      iexists gathered m; iexact H4
    isplitl [HzZ Hz0 Hz1 Hz2 Hz3]
    · isplitl [HzZ]; · iexact HzZ
      isplitl [Hz0]; · iexact Hz0
      isplitl [Hz1]; · iexact Hz1
      isplitl [Hz2] <;> iassumption
    iexact HzB
  isplitl [HO]; · iexact HO
  isplitl [Hx Hq Ho Hk Hv]
  · isplitl [Hx]; · iexact Hx
    isplitl [Hq]; · iexact Hq
    isplitl [Ho]; · iexact Ho
    isplitl [Hk] <;> iassumption
  iexact H5

/-! ## The pipeline's obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

omit [FloatOps F] in
theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

def bodyPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ c ∗ (dats m ρ 0 c).owesAt () t₀.succ
    ∗ stg c cc0_stg0_0 (iblk m c 0 t₀) ∗ stg c cc0_stg1_0 (iblk m c 1 t₀) ∗ stg c cc0_stg2_0 (iblk m c 2 t₀)
    ∗ stg c cc0_stg3_0 (iblk m c 3 t₀) ∗ stg c cc0_stg4_0 (iblk m c 4 t₀) ∗ stg c cc0_stg5_0 (result m))

theorem sound (c : Dev nD) :
    bodyPre m ρ c ⊢ wpc c (cc0_body (F := F) (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _) (Memref.whole cc0_stg4_0) (Memref.isWhole_whole _)
        (Memref.whole cc0_stg5_0) (Memref.isWhole_whole _) (Memref.whole cc0_scratch0) (Memref.isWhole_whole _) (Memref.whole cc0_scratch1) (Memref.isWhole_whole _)
        (Memref.whole cc0_scratch2) (Memref.isWhole_whole _) (Memref.whole cc0_scratch3) (Memref.isWhole_whole _) (Memref.whole cc0_scratch4) (Memref.isWhole_whole _)
        cc0_scratch5 cc0_scratch6 cc0_scratch7 cc0_scratch8) fun _ => bodyPost m ρ c := by
  rw [cc0_body_eq_skeleton, body_eq_phases]
  unfold bodyPre bodyPost Φ₀ start stg Dat.owesAt Pipeline.owesWithin
  rw [show (dats m ρ 0 c).owed t₀.castSucc = O₀ c from rfl, show (dats m ρ 0 c).owed t₀.succ = 0 from rfl]
  iintro ⟨⟨⟨⟨%K, Hg⟩, Hcr, Hlev⟩, Hsc⟩, ⟨%W, -, HO⟩, ⟨%d0, %g0, %h0, H0⟩, ⟨%d1, %g1, %h1, H1⟩, ⟨%d2, %g2, %h2, H2⟩, ⟨%d3, %g3, %h3, H3⟩, ⟨%d4, %g4, %h4, H4⟩, %d5, %g5, %h5, H5⟩
  have h0' : g0 = xB m c := by rw [h0]; unfold Dat.before; rw [if_pos (fetch_in 0 (by decide) t₀)]; rfl
  have h1' : g1 = wqB m c := by rw [h1]; unfold Dat.before; rw [if_pos (fetch_in 1 (by decide) t₀)]; rfl
  have h2' : g2 = woB m c := by rw [h2]; unfold Dat.before; rw [if_pos (fetch_in 2 (by decide) t₀)]; rfl
  have h3' : g3 = iblk m c 3 t₀ := by rw [h3]; unfold Dat.before; rw [if_pos (fetch_in 3 (by decide) t₀)]; rfl
  have h4' : g4 = iblk m c 4 t₀ := by rw [h4]; unfold Dat.before; rw [if_pos (fetch_in 4 (by decide) t₀)]; rfl
  clear h0 h1 h2 h3 h4
  subst h0' h1' h2' h3' h4'
  iapply (wp_fupd _ _ _ _ _)
  iapply (wpc_last c (sound_body m K c)) $$ [Hg Hcr Hlev Hsc HO H0 H1 H2 H3 H4 H5]
  · isplitl [Hg]; · iexact Hg
    isplitl [Hcr]; · iexact Hcr
    isplitl [Hlev]; · iexact Hlev
    isplitl [Hsc]; · iexact Hsc
    isplitl [HO]; · unfold owing; iexists W; iexact HO
    isplitl [H0 H1 H2 H3 H4]
    · unfold inputs
      isplitl [H0]; · iexact H0
      isplitl [H1]; · iexact H1
      isplitl [H2]; · iexact H2
      isplitl [H3] <;> iassumption
    iexists g5; iexact H5
  iintro %_ H
  imod H with H
  imodintro
  unfold owing inputs
  icases H with ⟨HΦ, ⟨%W', HO⟩, ⟨H0, H1, H2, H3, H4⟩, H5⟩
  isplitl [HΦ]; · iexact HΦ
  isplitl [HO]
  · iexists W'
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound m ρ c

end Cert.KernelIdeal.Hand

end
-- ==== Proof.KernelIdealLaunch.lean ====
module

public import proofs.«01_k».proof.Proof.KernelIdealBody
public import Idealize.ShloMosaic.Lib.Pipeline.CollectiveSegs

@[expose] public section

set_option maxRecDepth 65536

noncomputable section

/-! # The launch: cells and tokens dealt to the devices, and the run of all sixteen -/

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by unfold Dat.share; split <;> rfl

theorem kcell_injective : Function.Injective (kcell : CellIx → GSem nD τ sig) := by
  rintro ⟨c, s⟩ ⟨c', s'⟩ h
  have h1 : c = c' := congrArg (fun g : GSem nD τ sig => g.1.1) h
  have h2 : s = s' := csem_injective (congrArg Prod.snd h)
  rw [h1, h2]

theorem bar_eq_iff {c d : Dev nD} : barCell c = barCell d ↔ c = d :=
  ⟨fun h => congrArg Prod.fst (kcell_injective (a₁ := (c, none)) (a₂ := (d, none)) h), fun h => h ▸ rfl⟩
theorem dm_eq_iff {a b : Fin 4} {j k : Fin 15} {c d : Dev nD} : dmCell a j c = dmCell b k d ↔ a = b ∧ j = k ∧ c = d := by
  constructor
  · intro h
    have := kcell_injective (a₁ := (c, some (a, j.succ))) (a₂ := (d, some (b, k.succ))) h
    simp only [Prod.mk.injEq, Option.some.injEq, Fin.succ_inj] at this
    exact ⟨this.2.1, this.2.2, this.1⟩
  · rintro ⟨rfl, rfl, rfl⟩; rfl
theorem bar_ne_dm {a : Fin 4} {k : Fin 15} {c d : Dev nD} : barCell c ≠ dmCell a k d := fun h => by
  have := kcell_injective (a₁ := (c, none)) (a₂ := (d, some (a, k.succ))) h
  simp at this

/-! ## Cells and tokens -/

def theCells : Finset (GSem nD τ sig) := Finset.univ.map ⟨kcell, kcell_injective⟩

/-- The tokens of a device's own cells: fifteen of its barrier, one of each transfer cell. -/
def tokOf (x : Dev nD × Option (Fin 4) × Fin 15) : GSem nD τ sig × ℕ × Fin 15 :=
  match x with
  | (c, none, k) => (barCell c, 0, k)
  | (c, some a, k) => (dmCell a k c, 0, 0)
theorem tokOf_injective : Function.Injective tokOf := by
  rintro ⟨c, _ | a, k⟩ ⟨c', _ | a', k'⟩ h
  · have h1 := bar_eq_iff.mp (congrArg Prod.fst h)
    have h2 : k = k' := congrArg (fun x : GSem nD τ sig × ℕ × Fin 15 => x.2.2) h
    rw [h1, h2]
  · exact absurd (congrArg Prod.fst h) bar_ne_dm
  · exact absurd (congrArg Prod.fst h).symm bar_ne_dm
  · obtain ⟨rfl, rfl, rfl⟩ := dm_eq_iff.mp (congrArg Prod.fst h); rfl
def theToks : Finset (GSem nD τ sig × ℕ × Fin 15) := Finset.univ.map ⟨tokOf, tokOf_injective⟩

def u₀ : UU := (initOf (Pipeline.cells cfgs cellOf_inj) (Pipeline.launchToks cfgs cellOf_inj), initOf theCells theToks)

/-- The duty tokens of device `c`'s own cells. -/
def toks (c : Dev nD) : sProp 𝕄 :=
  iprop((bigSep Finset.univ fun k : Fin 15 => dutyTok ER (barCell c) 0 k)
    ∗ (bigSep Finset.univ fun k : Fin 15 => dutyTok ER (dmCell 0 k c) 0 0) ∗ (bigSep Finset.univ fun k : Fin 15 => dutyTok ER (dmCell 1 k c) 0 0)
    ∗ (bigSep Finset.univ fun k : Fin 15 => dutyTok ER (dmCell 2 k c) 0 0) ∗ (bigSep Finset.univ fun k : Fin 15 => dutyTok ER (dmCell 3 k c) 0 0))

/-- What the launch deals device `c`. -/
def G (c : Dev nD) : sProp 𝕄 :=
  iprop((bigSep Finset.univ fun s : Option (Fin 4 × Fin 16) => roundState ER (Rd m) (kcell (c, s)) 0)
    ∗ (bigSep Finset.univ fun s : Option (Fin 4 × Fin 16) => atPos ER (kcell (c, s)) 0 ∅ 0) ∗ (bigSep Finset.univ fun s : Option (Fin 4 × Fin 16) => reached ER (kcell (c, s)) 0) ∗ toks c)

/-- What the devices make of it together. -/
def G' (c : Dev nD) : sProp 𝕄 := iprop(∃ K, ghost m K c)

theorem fund : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun s : Option (Fin 4 × Fin 16) => Φ (kcell (c, s)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks
    rw [bigSep_map, bigSep_univ_prod]
    refine bigSep_congr fun c _ => ?_
    rw [bigSep_univ_prod, bigSep_option, bigSep_four]
    rfl
  iintro HX
  imod (Rounds.fund ER (Rd m) theCells theToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl
theorem ownSems0_eq (c : Dev nD) : (Pipeline.ownSems0 (Ix := Unit) (Name := ℕ) (U := UU) (Lvl := ℕ) (Val := Elt F) (τ := τ) osem c : sProp 𝕄)
    = bigSep Finset.univ fun i : Fin 4 × Fin 16 => semVal ((c : Thread nD τ), osem i) 0 := rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun s : Option (Fin 4 × Fin 16) => semVal (kcell (c, s)) 0 : sProp 𝕄) := by
  rw [ownSems0_eq, unscopedSems0_eq, bigSep_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s => iprop(∃ κ : ℕ, cellInv ER (Rd m) κ (kcell (c, s))))
          ∗ (bigSep Finset.univ fun s : Option (Fin 4 × Fin 16) => atPos ER (kcell (c, s)) 0 ∅ 0) ∗ (bigSep Finset.univ fun s : Option (Fin 4 × Fin 16) => reached ER (kcell (c, s)) 0) ∗ toks c) := by
  unfold G
  iintro ⟨Hos, Hus, Hst, Hat, Hr, Htok⟩
  ihave Hv := (sems0_eq (F := F) c) $$ [Hos Hus]
  · isplitl [Hos] <;> iassumption
  imod (show iprop((bigSep Finset.univ fun s : Option (Fin 4 × Fin 16) => semVal (kcell (c, s)) 0) ∗ bigSep Finset.univ fun s : Option (Fin 4 × Fin 16) => roundState ER (Rd m) (kcell (c, s)) 0)
      ⊢ (|={Set.univ}=> bigSep Finset.univ fun s => iprop(∃ κ : ℕ, cellInv ER (Rd m) κ (kcell (c, s))) : sProp 𝕄) from by
        rw [← bigSep_sep']
        exact (bigSep_mono fun s _ => (Rounds.body_intro ER (Rd m) (kcell (c, s))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- A token of every device's cell, handed to the device that pays it. -/
theorem deal (Φ : Fin 15 → Dev nD → sProp 𝕄) :
    (bigSep Finset.univ fun c : Dev nD => bigSep Finset.univ fun k : Fin 15 => Φ k c) = bigSep Finset.univ fun c : Dev nD => bigSep Finset.univ fun k : Fin 15 => Φ k (fwd c k) := by
  rw [← bigSep_univ_prod (fun x : Dev nD × Fin 15 => Φ x.2 x.1), ← bigSep_univ_prod (fun x : Dev nD × Fin 15 => Φ x.2 (fwd x.1 x.2)),
    bigSep_univ_equiv (⟨fun x => (fwd x.1 x.2, x.2), fun x => (bwd x.1 x.2, x.2), fun x => by simp only [bwd_fwd], fun x => by simp only [fwd_bwd]⟩ : Dev nD × Fin 15 ≃ Dev nD × Fin 15)
      (fun x : Dev nD × Fin 15 => Φ x.2 x.1)]
  rfl

theorem toks_around : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep', bigSep_sep', bigSep_sep',
    deal fun k c => (dutyTok ER (barCell c) 0 k : sProp 𝕄), deal fun k c => (dutyTok ER (dmCell 1 k c) 0 0 : sProp 𝕄), deal fun k c => (dutyTok ER (dmCell 3 k c) 0 0 : sProp 𝕄)]

theorem regroup :
    (bigSep Finset.univ fun c : Dev nD => iprop((bigSep Finset.univ fun s => iprop(∃ κ : ℕ, cellInv ER (Rd m) κ (kcell (c, s))))
          ∗ (bigSep Finset.univ fun s : Option (Fin 4 × Fin 16) => atPos ER (kcell (c, s)) 0 ∅ 0) ∗ (bigSep Finset.univ fun s : Option (Fin 4 × Fin 16) => reached ER (kcell (c, s)) 0) ∗ toks c) : sProp 𝕄)
      ⊢ bigSep Finset.univ (G' m) := by
  rw [bigSep_sep', bigSep_sep', bigSep_sep', ← bigSep_univ_prod (fun ck : CellIx => iprop(∃ κ : ℕ, cellInv ER (Rd m) κ (kcell ck))),
    ← bigSep_univ_prod (fun ck : CellIx => (reached ER (kcell ck) 0 : sProp 𝕄)), toks_around]
  iintro ⟨HI, Hat, #HR, Htok⟩
  ihave HK := (BI.bigSep_exists_pi Finset.univ (fun (ck : CellIx) (κ : ℕ) => (cellInv ER (Rd m) κ (kcell ck) : sProp 𝕄))) $$ HI
  icases HK with ⟨%K, #HI⟩
  iapply (bigSep_with (R := records m K) (Φ := fun c : Dev nD => iprop((bigSep Finset.univ fun s : Option (Fin 4 × Fin 16) => atPos ER (kcell (c, s)) 0 ∅ 0) ∗ payToks c))
    fun c _ => (show _ ⊢ G' m c from by
      unfold G' ghost
      iintro H
      iexists K
      iexact H))
  isplitr
  · unfold records; isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem rem_apply (f : Fin 15 → CellTallies nD τ sig Unit) (g : GSem nD τ sig) : rem f 0 g () = ∑ j, f j g () := by
  unfold rem
  rw [Finset.filter_true_of_mem fun j _ => Nat.zero_le _, Finset.sum_apply, Finsupp.finset_sum_apply]

theorem O₀_apply (d : Dev nD) (g : GSem nD τ sig) :
    O₀ d g () = (∑ j, tAg d j g ()) + (∑ j, tallyAt (dmCell 1 j (fwd d j)) () N g ()) + ∑ j, tBar d j g () := by
  unfold O₀ O₁
  rw [Pi.add_apply, Finsupp.add_apply, Pi.add_apply, Finsupp.add_apply, Pi.add_apply, Finsupp.add_apply, rem_apply, rem_apply, rem_apply, rem_apply,
    add_assoc (∑ j, tAg d j g ()), ← Finset.sum_add_distrib]
  congr 3
  funext j
  unfold tRs1 tRs2
  split
  · exact Nat.zero_add _
  · exact Nat.add_zero _

theorem tally_dm {a b : Fin 4} (j k : Fin 15) (c d : Dev nD) (n : ℕ) :
    tallyAt (dmCell a j d) () n (dmCell b k c) () = if b = a ∧ k = j ∧ c = d then n else 0 := by
  rw [tallyAt_apply]
  refine if_congr ?_ rfl rfl
  rw [dm_eq_iff]
  exact and_iff_left rfl
theorem tally_bar (c d : Dev nD) (n : ℕ) : tallyAt (barCell d) () n (barCell c) () = if c = d then n else 0 := by
  rw [tallyAt_apply]
  refine if_congr ?_ rfl rfl
  rw [bar_eq_iff]
  exact and_iff_left rfl
theorem tally_bar_dm (a : Fin 4) (k : Fin 15) (c d : Dev nD) (n : ℕ) : tallyAt (barCell d) () n (dmCell a k c) () = 0 := by
  rw [tallyAt_apply]; exact if_neg fun h => bar_ne_dm h.1.symm
theorem tally_dm_bar (a : Fin 4) (k : Fin 15) (c d : Dev nD) (n : ℕ) : tallyAt (dmCell a k d) () n (barCell c) () = 0 := by
  rw [tallyAt_apply]; exact if_neg fun h => bar_ne_dm h.1

theorem owed_bar (d c : Dev nD) : O₀ d (barCell c) () = ∑ j, if c = fwd d j then 1 else 0 := by
  rw [O₀_apply]
  unfold tAg tBar
  rw [Finset.sum_eq_zero fun j _ => tally_dm_bar 3 j c (fwd d j) N, Finset.sum_eq_zero fun j _ => tally_dm_bar 1 j c (fwd d j) N, Nat.zero_add, Nat.zero_add]
  exact Finset.sum_congr rfl fun j _ => tally_bar c (fwd d j) 1

theorem owed_dm1 (k : Fin 15) (d c : Dev nD) : O₀ d (dmCell 1 k c) () = if c = fwd d k then N else 0 := by
  rw [O₀_apply]
  unfold tAg tBar
  rw [Finset.sum_eq_zero fun j _ => (tally_dm j k c (fwd d j) N).trans (if_neg fun h => absurd h.1 (by decide)),
    Finset.sum_eq_zero fun j _ => tally_bar_dm 1 k c (fwd d j) 1, Nat.zero_add, Nat.add_zero,
    Finset.sum_congr rfl fun j _ => (tally_dm j k c (fwd d j) N), Finset.sum_eq_single k (fun j _ hj => if_neg fun h => hj h.2.1.symm) (fun h => absurd (Finset.mem_univ _) h)]
  exact if_congr ⟨fun h => h.2.2, fun h => ⟨rfl, rfl, h⟩⟩ rfl rfl
theorem owed_dm3 (k : Fin 15) (d c : Dev nD) : O₀ d (dmCell 3 k c) () = if c = fwd d k then N else 0 := by
  rw [O₀_apply]
  unfold tAg tBar
  rw [Finset.sum_eq_zero (f := fun j => tallyAt (dmCell 1 j (fwd d j)) () N (dmCell 3 k c) ()) fun j _ => (tally_dm j k c (fwd d j) N).trans (if_neg fun h => absurd h.1 (by decide)),
    Finset.sum_eq_zero fun j _ => tally_bar_dm 3 k c (fwd d j) 1, Nat.add_zero, Nat.add_zero,
    Finset.sum_congr rfl fun j _ => (tally_dm j k c (fwd d j) N), Finset.sum_eq_single k (fun j _ hj => if_neg fun h => hj h.2.1.symm) (fun h => absurd (Finset.mem_univ _) h)]
  exact if_congr ⟨fun h => h.2.2, fun h => ⟨rfl, rfl, h⟩⟩ rfl rfl

/-- Exactly one device is `k + 1` places before `c`. -/
theorem sum_fwd (k : Fin 15) (c : Dev nD) (n : ℕ) : (∑ d : Dev nD, if c = fwd d k then n else 0) = n := by
  rw [Finset.sum_eq_single (bwd c k) (fun d _ hd => if_neg fun h => hd (by rw [h, bwd_fwd])) (fun h => absurd (Finset.mem_univ _) h), if_pos (fwd_bwd k c).symm]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => sum_fwd j c 1, Finset.sum_const, Finset.card_univ, Fintype.card_fin, smul_eq_mul]
theorem launch_dm1 (k : Fin 15) (c : Dev nD) :
    tallyOn (dmCell 1 k c) (launchCredit (Pipeline.owing O₀) 0 (dmCell 1 k c)) = (tallyAt (dmCell 1 k c) () N : CellTallies nD τ sig Unit) := by
  unfold tallyAt; refine congrArg _ (Finsupp.ext fun u => ?_); cases u
  rw [Pipeline.launchCredit_owing, Finsupp.single_eq_same, Finset.sum_congr rfl fun d _ => owed_dm1 k d c, sum_fwd]
theorem launch_dm3 (k : Fin 15) (c : Dev nD) :
    tallyOn (dmCell 3 k c) (launchCredit (Pipeline.owing O₀) 0 (dmCell 3 k c)) = (tallyAt (dmCell 3 k c) () N : CellTallies nD τ sig Unit) := by
  unfold tallyAt; refine congrArg _ (Finsupp.ext fun u => ?_); cases u
  rw [Pipeline.launchCredit_owing, Finsupp.single_eq_same, Finset.sum_congr rfl fun d _ => owed_dm3 k d c, sum_fwd]

theorem creds (c : Dev nD) : (Pipeline.launchCred O₀ c : sProp 𝕄) ⊢ credits c := by
  have hs : (Pipeline.launchCred O₀ c : sProp 𝕄) ⊢ bigSep Finset.univ fun s : Option (Fin 4 × Fin 16) => cred (tallyOn (kcell (c, s)) (launchCredit (Pipeline.owing O₀) 0 (kcell (c, s)))) := by
    have e : (bigSep (Finset.univ.map ⟨csem, csem_injective⟩) fun sm : SemLoc sig => (cred (tallyOn ((c : Thread nD τ), sm) (launchCredit (Pipeline.owing O₀) 0 ((c : Thread nD τ), sm))) : sProp 𝕄))
        = bigSep Finset.univ fun s : Option (Fin 4 × Fin 16) => cred (tallyOn (kcell (c, s)) (launchCredit (Pipeline.owing O₀) 0 (kcell (c, s)))) := by
      rw [bigSep_map]; rfl
    rw [← e]
    unfold Pipeline.launchCred
    exact bigSep_subset (Finset.subset_univ _)
  refine hs.trans ?_
  rw [cells_split c fun g => (cred (tallyOn g (launchCredit (Pipeline.owing O₀) 0 g)) : sProp 𝕄), launch_bar,
    bigSep_congr fun k _ => congrArg cred (launch_dm1 k c), bigSep_congr fun k _ => congrArg cred (launch_dm3 k c)]
  unfold credits
  iintro ⟨HB, -, -, H1, -, H3⟩
  isplitl [HB]; · iexact HB
  isplitl [H1] <;> iassumption

/-! ## The side conditions of the run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratches
  iintro ⟨Hr, HS, HB⟩
  isplitl [HB]; · iexact HB
  isplitl [HS]; · iexact HS
  iexact Hr

theorem lv_stage : ∀ (w : Fin cfg0.W) (s : Fin (cfg0.win w).nbuf), kindOf (.dma ((cfg0.win w).sem s)) = none := by
  intro w s
  fin_cases w <;> fin_cases s <;> decide +kernel

theorem waits (c : Dev nD) : (levAts L lv : sProp 𝕄) ⊢ Pipeline.cellsWaits cfgs (dats m ρ) () 0 c :=
  Pipeline.cellsWaits_intro cfgs (dats m ρ) () 0 c fun w s t =>
    mayWait c _ _ 0 (by
      rcases t with ⟨_ | _, ht⟩
      · exact above_O₀ c
      · exact above_zero 0) (le_of_eq (by dsimp only [lv]; rw [lv_stage w s]))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, every fair execution on the sixteen devices ends, with every device's arrays
    as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they began. -/
theorem args_kept (c : Dev nD) (r : PUnit × MemSt nD τ sig (Elt F)) (h : QC m ρ r) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c 0).trans ((dats m ρ 0 c).arrAt_in (0 : Fin 6) rfl _), (h c 1).trans ((dats m ρ 0 c).arrAt_in (1 : Fin 6) rfl _),
    (h c 3).trans ((dats m ρ 0 c).arrAt_in (3 : Fin 6) rfl _), (h c 4).trans ((dats m ρ 0 c).arrAt_in (4 : Fin 6) rfl _),
    (h c 2).trans ((dats m ρ 0 c).arrAt_in (2 : Fin 6) rfl _)⟩

theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => args_kept m ρ c r h.1, h.2⟩) (run_main m ρ)

end Cert.KernelIdeal.Hand

end
-- ==== Proof.KernelIdealHeads.lean ====
module

public import proofs.«01_k».proof.Proof.KernelIdealValues
public import Idealize.ShloMosaic.Lib.Pointwise

@[expose] public section

set_option maxRecDepth 65536

noncomputable section

/-! # The kernel's heads over the extended reals -/

namespace Cert.KernelIdeal.Hand

open Idealize.ShloMosaic
open Cert.KernelIdeal.Gen

/-- The scale of the scores. -/
abbrev scale : EReal := Ideal.ofBits .f32 0x3E000000#32

/-- The scores of one query row. -/
def score (q : Fin 64 → EReal) (k : Fin 256 → Fin 64 → EReal) (j : Fin 256) : EReal := (∑ d, q d * k j d) * scale
/-- Their maximum. -/
def top (s : Fin 256 → EReal) : EReal := Finset.univ.fold max (Ideal.ofBits .f32 0xFF800000#32) s
/-- The weight of one key. -/
def wgt (s : Fin 256 → EReal) (j : Fin 256) : EReal := Ideal.exp (s j - top s)
/-- Softmax of the scores against one column of values. -/
def soft (s : Fin 256 → EReal) (v : Fin 256 → EReal) : EReal := Ideal.div (∑ j, wgt s j * v j) (∑ j, wgt s j)

/-- Four heads stacked by rows, against one group's keys and values. -/
def core (qs : FVec Ideal S1024x64 .bf16) (kg vg : FVec Ideal S256x64 .bf16) : FVec Ideal S1024x64 .f32 :=
  have s : FVec Ideal S1024x256 .f32 := mulf (matmul dot_S1024x64_S256x64_S1024x256_1_1_0_0_n_n none qs kg (constant S1024x256 .f32 0x00000000#32)) (broadcast S1024x256 (Scalar.ofBits .f32 0x3E000000#32))
  have mx : FVec Ideal S1024 .f32 := multiReduction .maximumf [1] S1024 s 0xFF800000#32 reduces_S1024x256_S1024 (.inl rfl) rfl
  have p : FVec Ideal S1024x256 .f32 := exp (subf s (broadcastTo S1024x256 (shapeCast S1024x1 mx shapeCasts_S1024_S1024x1) broadcasts_S1024x1_S1024x256))
  have l : FVec Ideal S1024 .f32 := multiReduction .add [1] S1024 p 0x00000000#32 reduces_S1024x256_S1024 (.inl rfl) rfl
  divf (matmul dot_S1024x256_S256x64_S1024x64_1_0_0_1_n_n none (truncf .bf16 p bitsLt_bf16_f32) vg (constant S1024x64 .f32 0x00000000#32))
    (broadcastTo S1024x64 (shapeCast S1024x1 l shapeCasts_S1024_S1024x1) broadcasts_S1024x1_S1024x64)

theorem core_apply (qs : FVec Ideal S1024x64 .bf16) (kg vg : FVec Ideal S256x64 .bf16) (r : Fin 1024) (d : Fin 64) :
    core qs kg vg (ix2 r d) = soft (score (fun e => qs (ix2 r e)) fun j e => kg (ix2 j e)) fun j => vg (ix2 j d) := by
  unfold core
  pointwise []
  rfl

section
variable (v5 : FVec Ideal S768x512 .bf16) (v12 v16 : FVec Ideal S768x128 .bf16) (x : Vec Ideal S256x768 .f32)
variable (q : FVec Ideal S256x512 .bf16) (k v : FVec Ideal S256x128 .bf16)

/-- Four heads' columns stacked by rows. -/
def stack4 (a b c d : FVec Ideal S256x64 .bf16) : FVec Ideal S1024x64 .bf16 :=
  concatenate S1024x64 0 [⟨S256x64, a⟩, ⟨S256x64, b⟩, ⟨S256x64, c⟩, ⟨S256x64, d⟩] concatenates_S256x64_S256x64_S256x64_S256x64_S1024x64_d0

theorem stack4_apply (a b c d : FVec Ideal S256x64 .bf16) (hh : Fin 4) (i : Fin 256) (e : Fin 64) :
    stack4 a b c d (ix2 ⟨256 * hh.val + i.val, by omega⟩ e) = (![a, b, c, d] : Fin 4 → FVec Ideal S256x64 .bf16) hh (ix2 i e) := by
  unfold stack4
  pointwise []
  fin_cases hh
  · rw [dif_pos (by show 256 * 0 + i.val < 256; omega)]
    exact congrArg (fun t => a (ix2 t e)) (Fin.ext (by show 256 * 0 + i.val = i.val; omega))
  · rw [dif_neg (by show ¬ 256 * 1 + i.val < 256; omega), dif_pos (by show 256 * 1 + i.val - 256 < 256; omega)]
    exact congrArg (fun t => b (ix2 t e)) (Fin.ext (by show 256 * 1 + i.val - 256 = i.val; omega))
  · rw [dif_neg (by show ¬ 256 * 2 + i.val < 256; omega), dif_neg (by show ¬ 256 * 2 + i.val - 256 < 256; omega), dif_pos (by show 256 * 2 + i.val - 256 - 256 < 256; omega)]
    exact congrArg (fun t => c (ix2 t e)) (Fin.ext (by show 256 * 2 + i.val - 256 - 256 = i.val; omega))
  · rw [dif_neg (by show ¬ 256 * 3 + i.val < 256; omega), dif_neg (by show ¬ 256 * 3 + i.val - 256 < 256; omega), dif_neg (by show ¬ 256 * 3 + i.val - 256 - 256 < 256; omega)]
    exact congrArg (fun t => d (ix2 t e)) (Fin.ext (by show 256 * 3 + i.val - 256 - 256 - 256 = i.val; omega))

theorem pay5_eq : k0_pay5 v5 v12 v16 x = core
    (stack4 (extractStridedSlice S256x64 ![0, 0] (k0_pay2 v5 x) slices_S256x512_o0_0_S256x64) (extractStridedSlice S256x64 ![0, 64] (k0_pay2 v5 x) slices_S256x512_o0_64_S256x64)
      (extractStridedSlice S256x64 ![0, 128] (k0_pay2 v5 x) slices_S256x512_o0_128_S256x64) (extractStridedSlice S256x64 ![0, 192] (k0_pay2 v5 x) slices_S256x512_o0_192_S256x64))
    (extractStridedSlice S256x64 ![0, 0] (k0_pay3 v12 x) slices_S256x128_o0_0_S256x64) (extractStridedSlice S256x64 ![0, 0] (k0_pay4 v16 x) slices_S256x128_o0_0_S256x64) := rfl

theorem pay10_eq : k0_pay10 q k v = core
    (stack4 (extractStridedSlice S256x64 ![0, 256] q slices_S256x512_o0_256_S256x64) (extractStridedSlice S256x64 ![0, 320] q slices_S256x512_o0_320_S256x64)
      (extractStridedSlice S256x64 ![0, 384] q slices_S256x512_o0_384_S256x64) (extractStridedSlice S256x64 ![0, 448] q slices_S256x512_o0_448_S256x64))
    (extractStridedSlice S256x64 ![0, 64] k slices_S256x128_o0_64_S256x64) (extractStridedSlice S256x64 ![0, 64] v slices_S256x128_o0_64_S256x64) := rfl

theorem pay5_apply (hh : Fin 4) (i : Fin 256) (d : Fin 64) :
    k0_pay5 v5 v12 v16 x (ix2 ⟨256 * hh.val + i.val, by omega⟩ d)
      = soft (score (fun e => k0_pay2 v5 x (ix2 i ⟨64 * hh.val + e.val, by omega⟩)) fun j e => k0_pay3 v12 x (ix2 j ⟨e.val, by omega⟩)) fun j => k0_pay4 v16 x (ix2 j ⟨d.val, by omega⟩) := by
  rw [pay5_eq, core_apply]
  generalize k0_pay2 v5 x = q, k0_pay3 v12 x = k, k0_pay4 v16 x = v
  congr 1
  · congr 1
    · funext e
      rw [stack4_apply]
      fin_cases hh <;> pointwise [] <;> rfl
    · funext j e
      pointwise []
  · funext j
    pointwise []

theorem pay10_apply (hh : Fin 4) (i : Fin 256) (d : Fin 64) :
    k0_pay10 q k v (ix2 ⟨256 * hh.val + i.val, by omega⟩ d)
      = soft (score (fun e => q (ix2 i ⟨64 * (4 + hh.val) + e.val, by omega⟩)) fun j e => k (ix2 j ⟨64 + e.val, by omega⟩)) fun j => v (ix2 j ⟨64 + d.val, by omega⟩) := by
  rw [pay10_eq, core_apply]
  congr 1
  · congr 1
    · funext e
      rw [stack4_apply]
      fin_cases hh <;> pointwise [] <;> rfl
    · funext j e
      pointwise []
  · funext j
    pointwise []

theorem strip_apply (h : Fin 8) (i : Fin 256) (d : Fin 64) :
    stripOf v5 v12 v16 x h (ix2 i d)
      = soft (score (fun e => k0_pay2 v5 x (ix2 i ⟨64 * h.val + e.val, by omega⟩)) fun j e => k0_pay3 v12 x (ix2 j ⟨64 * (h.val / 4) + e.val, by omega⟩))
          fun j => k0_pay4 v16 x (ix2 j ⟨64 * (h.val / 4) + d.val, by omega⟩) := by
  have low (hh : Fin 4) (y : EReal) (hy : y = k0_pay5 v5 v12 v16 x (ix2 ⟨256 * hh.val + i.val, by omega⟩ d)) :
      y = soft (score (fun e => k0_pay2 v5 x (ix2 i ⟨64 * hh.val + e.val, by omega⟩)) fun j e => k0_pay3 v12 x (ix2 j ⟨64 * (hh.val / 4) + e.val, by omega⟩))
          fun j => k0_pay4 v16 x (ix2 j ⟨64 * (hh.val / 4) + d.val, by omega⟩) := by
    rw [hy, pay5_apply]
    have h0 : hh.val / 4 = 0 := by omega
    congr 1
    · congr 1
      funext j e
      exact congrArg (fun t => k0_pay3 v12 x (ix2 j t)) (Fin.ext (by show e.val = 64 * (hh.val / 4) + e.val; omega))
    · funext j
      exact congrArg (fun t => k0_pay4 v16 x (ix2 j t)) (Fin.ext (by show d.val = 64 * (hh.val / 4) + d.val; omega))
  have high (hh : Fin 4) (y : EReal) (hy : y = k0_pay10 (k0_pay2 v5 x) (k0_pay3 v12 x) (k0_pay4 v16 x) (ix2 ⟨256 * hh.val + i.val, by omega⟩ d)) :
      y = soft (score (fun e => k0_pay2 v5 x (ix2 i ⟨64 * (4 + hh.val) + e.val, by omega⟩)) fun j e => k0_pay3 v12 x (ix2 j ⟨64 * ((4 + hh.val) / 4) + e.val, by omega⟩))
          fun j => k0_pay4 v16 x (ix2 j ⟨64 * ((4 + hh.val) / 4) + d.val, by omega⟩) := by
    rw [hy, pay10_apply]
    have h0 : (4 + hh.val) / 4 = 1 := by omega
    congr 1
    · congr 1
      funext j e
      exact congrArg (fun t => k0_pay3 v12 x (ix2 j t)) (Fin.ext (by show 64 + e.val = 64 * ((4 + hh.val) / 4) + e.val; omega))
    · funext j
      exact congrArg (fun t => k0_pay4 v16 x (ix2 j t)) (Fin.ext (by show 64 + d.val = 64 * ((4 + hh.val) / 4) + d.val; omega))
  fin_cases h
  · refine low 0 _ ?_
    show k0_pay6 v5 v12 v16 x (ix2 i d) = _
    unfold k0_pay6; pointwise []
  · refine low 1 _ ?_
    show k0_pay7 v5 v12 v16 x (ix2 i d) = _
    unfold k0_pay7; pointwise []
  · refine low 2 _ ?_
    show k0_pay8 v5 v12 v16 x (ix2 i d) = _
    unfold k0_pay8; pointwise []
  · refine low 3 _ ?_
    show k0_pay9 (k0_pay5 v5 v12 v16 x) (ix2 i d) = _
    unfold k0_pay9; pointwise []
  · refine high 0 _ ?_
    show k0_pay11 (k0_pay2 v5 x) (k0_pay3 v12 x) (k0_pay4 v16 x) (ix2 i d) = _
    unfold k0_pay11; pointwise []
  · refine high 1 _ ?_
    show k0_pay12 (k0_pay2 v5 x) (k0_pay3 v12 x) (k0_pay4 v16 x) (ix2 i d) = _
    unfold k0_pay12; pointwise []
  · refine high 2 _ ?_
    show k0_pay13 (k0_pay2 v5 x) (k0_pay3 v12 x) (k0_pay4 v16 x) (ix2 i d) = _
    unfold k0_pay13; pointwise []
  · refine high 3 _ ?_
    show k0_pay61 (k0_pay14 (k0_pay2 v5 x) (k0_pay3 v12 x) (k0_pay4 v16 x)) (ix2 i d) = _
    unfold k0_pay61 k0_pay14; pointwise []

theorem pay2_apply (i : Fin 256) (n : Fin 512) : k0_pay2 v5 x (ix2 i n) = ∑ t : Fin 768, x (ix2 i t) * v5 (ix2 t n) := by
  pointwise [k0_pay2, k0_pay1]
theorem pay3_apply (i : Fin 256) (n : Fin 128) : k0_pay3 v12 x (ix2 i n) = ∑ t : Fin 768, x (ix2 i t) * v12 (ix2 t n) := by
  pointwise [k0_pay3, k0_pay1]
theorem pay4_apply (i : Fin 256) (n : Fin 128) : k0_pay4 v16 x (ix2 i n) = ∑ t : Fin 768, x (ix2 i t) * v16 (ix2 t n) := by
  pointwise [k0_pay4, k0_pay1]
theorem pay68_apply (v8 : FVec Ideal S512x768 .bf16) (a : Vec Ideal S256x512 .f32) (i : Fin 256) (col : Fin 768) :
    k0_pay68 v8 a (ix2 i col) = ∑ n : Fin 512, a (ix2 i n) * v8 (ix2 n col) := by
  pointwise [k0_pay68]
theorem pay57_apply (w : Vec Ideal S768x512 .f32) (t : Fin 768) (n : Fin 512) : k0_pay57 w (ix2 t n) = w (ix2 t n) := by
  pointwise [k0_pay57]
theorem pay58_apply (w : Vec Ideal S512x768 .f32) (t : Fin 512) (n : Fin 768) : k0_pay58 w (ix2 t n) = w (ix2 t n) := by
  pointwise [k0_pay58]
theorem pay59_apply (w : Vec Ideal S768x1x128 .f32) (t : Fin 768) (n : Fin 128) : k0_pay59 w (ix2 t n) = w (ix3 t 0 n) := by
  pointwise [k0_pay59]
theorem pay60_apply (w : Vec Ideal S768x1x128 .f32) (t : Fin 768) (n : Fin 128) : k0_pay60 w (ix2 t n) = w (ix3 t 0 n) := by
  pointwise [k0_pay60]
theorem pay69_apply (a : Vec Ideal S256x768 .f32) (i : Fin 256) (n : Fin 768) : k0_pay69 a (ix2 i n) = a (ix2 i n) := by
  pointwise [k0_pay69]
theorem pay73_apply (a : Vec Ideal S32x768 .f32) (b : Vec Ideal S32x768 .bf16) (i : Fin 32) (n : Fin 768) : k0_pay73 a b (ix2 i n) = a (ix2 i n) + b (ix2 i n) := by
  pointwise [k0_pay73]
theorem pay89_apply (a : Vec Ideal S512x768 .bf16) (i : Fin 512) (n : Fin 768) : k0_pay89 a (ix2 i n) = a (ix2 i n) := by
  pointwise [k0_pay89]

end

/-! ## What the kernel computes, as a formula in the whole arrays -/

/-- Entry `(t, n)` of a projection: a row of `x` against a column of weights. -/
def proj {N : ℕ} (x : Fin 768 → EReal) (w : Fin 768 → Fin N → EReal) (n : Fin N) : EReal := ∑ t, x t * w t n

variable (m : (ℓ : Loc nD τ sig) → Buf (Elt Ideal) ℓ)

theorem accHalf_apply (c : Dev nD) (b : Fin 2) (i : Fin 256) (col : Fin 768) :
    accHalf m c b (ix2 i col) = ∑ n : Fin 512,
      soft (score (fun e => ∑ t : Fin 768, xB m c (ix2 ⟨256 * b.val + i.val, by omega⟩ t) * wqB m c (ix2 t ⟨64 * (n.val / 64) + e.val, by omega⟩))
          fun j e => ∑ t : Fin 768, xB m c (ix2 ⟨256 * b.val + j.val, by omega⟩ t) * wkB m c (ix3 t 0 ⟨64 * (n.val / 64 / 4) + e.val, by omega⟩))
        (fun j => ∑ t : Fin 768, xB m c (ix2 ⟨256 * b.val + j.val, by omega⟩ t) * wvB m c (ix3 t 0 ⟨64 * (n.val / 64 / 4) + n.val % 64, by omega⟩))
      * woB m c (ix2 n col) := by
  unfold accHalf
  rw [pay68_apply]
  refine Finset.sum_congr rfl fun n _ => ?_
  rw [pay58_apply]
  refine congrArg (· * woB m c (ix2 n col)) ?_
  refine (strip_apply _ _ _ _ ⟨n.val / 64, by omega⟩ i ⟨n.val % 64, Nat.mod_lt _ (by decide)⟩).trans ?_
  simp only [pay2_apply, pay3_apply, pay4_apply, pay57_apply, pay59_apply, pay60_apply]
  rfl

/-- A sum over the devices, from device `c` backwards. -/
theorem sum_back (c : Dev nD) (f : Dev nD → EReal) : (∑ d, f d) = f c + ∑ k : Fin 15, f (bwd c k) := by
  have hb : ∀ (c : Fin 16) (k : Fin 15), (bwd c k : Fin 16) = c - k.succ := by decide +kernel
  rw [← Equiv.sum_comp (Equiv.subLeft (c : Fin 16)) f]
  refine (Fin.sum_univ_succ (n := 15) fun j : Fin 16 => f (c - j)).trans ?_
  congr 1
  · exact congrArg f (sub_zero (c : Fin 16))
  · exact Finset.sum_congr rfl fun k _ => congrArg f (hb c k).symm

theorem redAt_apply (c : Dev nD) (n : ℕ) (hn : n ≤ 15) (r : Fin 32) (col : Fin 768) :
    redAt m c n (ix2 r col) = rows32 c (acc m c) (ix2 r col) + ∑ k : Fin n, rows32 (bwd c ⟨k.val, by omega⟩) (staged m c) (ix2 r col) := by
  induction n with
  | zero => simp only [redAt, Finset.univ_eq_empty, Finset.sum_empty, add_zero]
  | succ n ih =>
    have e := redAt_succ m c ⟨n, by omega⟩
    rw [show redAt m c (n + 1) = _ from e, pay73_apply, ih (by omega), add_assoc, Fin.sum_univ_castSucc]
    rfl

theorem part_eq (c : Dev nD) : part m c = acc m c := by
  funext i
  unfold part acc
  exact pay69_apply _ _ _

theorem row_lt (c : Dev nD) (r : Fin 32) : 32 * c.val + r.val < 512 := by
  have hc : c.val < 16 := c.isLt
  omega
theorem devOf_row (c : Dev nD) (r : Fin 32) (col : Fin 768) : devOf (ix2 ⟨32 * c.val + r.val, row_lt c r⟩ col) = c :=
  devOf_ix2 c (ix2 r col) (row_lt c r)
theorem inChunk_row (c : Dev nD) (r : Fin 32) (col : Fin 768) : inChunk (ix2 ⟨32 * c.val + r.val, row_lt c r⟩ col) = ix2 r col :=
  inChunk_ix2 c (ix2 r col) (row_lt c r)
theorem rows32_apply {α : Type} (c : Dev nD) (X : S512x768.Idx → α) (r : Fin 32) (col : Fin 768) : rows32 c X (ix2 r col) = X (ix2 ⟨32 * c.val + r.val, row_lt c r⟩ col) := rfl

theorem staged_apply (c d : Dev nD) (r : Fin 32) (col : Fin 768) :
    rows32 d (staged m c) (ix2 r col) = acc m d (ix2 ⟨32 * c.val + r.val, row_lt c r⟩ col) := by
  rw [rows32_apply]
  unfold staged
  rw [devOf_row, inChunk_row, part_eq, rows32_apply]

theorem rounded_apply (a : FVec Ideal S32x768 .f32) (r : Fin 32) (col : Fin 768) : rounded a (ix2 r col) = a (ix2 r col) := by
  pointwise [rounded]

theorem gathered_apply (c : Dev nD) (r : Fin 32) (col : Fin 768) :
    gathered m (ix2 ⟨32 * c.val + r.val, row_lt c r⟩ col) = redAt m c 15 (ix2 r col) := by
  unfold gathered
  rw [devOf_row, inChunk_row, rounded_apply]

theorem result_row (c : Dev nD) (r : Fin 32) (col : Fin 768) :
    result m (ix2 ⟨32 * c.val + r.val, row_lt c r⟩ col) = ∑ d : Dev nD, acc m d (ix2 ⟨32 * c.val + r.val, row_lt c r⟩ col) := by
  unfold result
  rw [pay89_apply, gathered_apply, redAt_apply m c 15 (le_refl _), rows32_apply, sum_back c fun d => acc m d (ix2 ⟨32 * c.val + r.val, row_lt c r⟩ col)]
  exact congrArg _ (Finset.sum_congr rfl fun k _ => staged_apply m c (bwd c k) r col)

/-- The result: every device's partial products added up. -/
theorem result_apply (row : Fin 512) (col : Fin 768) : result m (ix2 row col) = ∑ d : Dev nD, acc m d (ix2 row col) := by
  have e : row = ⟨32 * (row.val / 32) + row.val % 32, by omega⟩ := Fin.ext (by show row.val = 32 * (row.val / 32) + row.val % 32; omega)
  rw [e]
  exact result_row m ⟨row.val / 32, by show _ < 16; omega⟩ ⟨row.val % 32, by omega⟩ col

end Cert.KernelIdeal.Hand

end
-- ==== Proof.ReferenceIdealHeads.lean ====
module

public import proofs.«01_k».proof.Proof.KernelIdealHeads
public import proofs.«01_k».proof.Proof.Gen.ReferenceIdeal.Run

@[expose] public section

set_option maxRecDepth 65536

noncomputable section

/-! # The reference's stages over the extended reals -/

namespace Cert.ReferenceIdeal.Hand

open Idealize.ShloMosaic Idealize.ShloMosaic.StableHlo Idealize.ShloMosaic.TcCoe
open Cert.ReferenceIdeal Cert.ReferenceIdeal.Gen
open Cert.KernelIdeal.Hand (score soft wgt top scale)

/-- The query heads. -/
def queries (x : FVec Ideal S512x768 .f32) (w : FVec Ideal S768x8192 .f32) : FVec Ideal S2x256x128x64 .f32 :=
  shapeCast _ (Host.dotGeneral dot_S2x256x768_S768x8192_S2x256x8192_2_0_01_1_n_n none (shapeCast _ x shapeCasts_S512x768_S2x256x768) w) shapeCasts_S2x256x8192_S2x256x128x64
/-- The key or value heads, each group's repeated for its four query heads. -/
def repeated (x : FVec Ideal S512x768 .f32) (w : FVec Ideal S768x16x128 .f32) : FVec Ideal S2x256x128x64 .f32 :=
  shapeCast _ (broadcastInDim S2x256x32x4x64 ![0, 1, 2, 4] bcast_S2x256x32x64_S2x256x32x4x64_0_1_2_4 (shapeCast _ (Host.dotGeneral dot_S2x256x768_S768x2048_S2x256x2048_2_0_01_1_n_n none (shapeCast _ x shapeCasts_S512x768_S2x256x768) (shapeCast _ w shapeCasts_S768x16x128_S768x2048)) shapeCasts_S2x256x2048_S2x256x32x64)) shapeCasts_S2x256x32x4x64_S2x256x128x64
/-- The scaled scores. -/
def scores (q k : FVec Ideal S2x256x128x64 .f32) : FVec Ideal S2x128x256x256 .f32 :=
  mulf (Host.dotGeneral dot_S2x256x128x64_S2x256x128x64_S2x128x256x256_3_3_1_1_02_02 none q k) (broadcastInDim S2x128x256x256 ![] bcast_S_S2x128x256x256 (constant S_ .f32 0x3E000000#32))
/-- The running maximum after the one block. -/
def tops (s : FVec Ideal S2x128x256x256 .f32) : FVec Ideal S2x128x256x1 .f32 :=
  maximumf (broadcastInDim S2x128x256x1 ![] bcast_S_S2x128x256x1 (constant S_ .f32 0xFF800000#32)) (broadcastInDim S2x128x256x1 ![0, 1, 2] bcast_S2x128x256_S2x128x256x1_0_1_2 (Host.reduce FloatOps.maximumf s (constant S_ .f32 0xFF800000#32) reducesTo_S2x128x256x256_S2x128x256_d3 h_S_))
/-- The weights. -/
def weights (s : FVec Ideal S2x128x256x256 .f32) (mx : FVec Ideal S2x128x256x1 .f32) : FVec Ideal S2x128x256x256 .f32 :=
  Host.exp (subf s (broadcastInDim S2x128x256x256 ![0, 1, 2, 3] bcast_S2x128x256x1_S2x128x256x256_0_1_2_3 mx))
/-- The factor that rescales what was summed before the block. -/
def alphas (mx : FVec Ideal S2x128x256x1 .f32) : FVec Ideal S2x128x256x1 .f32 :=
  Host.exp (subf (broadcastInDim S2x128x256x1 ![] bcast_S_S2x128x256x1 (constant S_ .f32 0xFF800000#32)) mx)
/-- The normalizers. -/
def norms (p : FVec Ideal S2x128x256x256 .f32) (al : FVec Ideal S2x128x256x1 .f32) : FVec Ideal S2x128x256x1 .f32 :=
  addf (mulf (broadcastInDim S2x128x256x1 ![] bcast_S_S2x128x256x1 (constant S_ .f32 0x00000000#32)) al) (broadcastInDim S2x128x256x1 ![0, 1, 2] bcast_S2x128x256_S2x128x256x1_0_1_2 (Host.reduceAdd p (constant S_ .f32 0x00000000#32) reducesTo_S2x128x256x256_S2x128x256_d3 h_S_))
/-- The heads' outputs. -/
def heads (v : FVec Ideal S2x256x128x64 .f32) (p : FVec Ideal S2x128x256x256 .f32) (al l : FVec Ideal S2x128x256x1 .f32) : FVec Ideal S2x256x128x64 .f32 :=
  Host.divf (addf (mulf (broadcastInDim S2x256x128x64 ![] bcast_S_S2x256x128x64 (constant S_ .f32 0x00000000#32)) (broadcastInDim S2x256x128x64 ![0, 1, 2, 3] bcast_S2x256x128x1_S2x256x128x64_0_1_2_3 (transpose S2x256x128x1 [0, 2, 1, 3] al transposes_S2x128x256x1_S2x256x128x1_0_2_1_3)))
      (transpose S2x256x128x64 [0, 3, 1, 2] (Host.dotGeneral dot_S2x256x128x64_S2x128x256x256_S2x128x64x256_1_3_3_2_02_01 none v p) transposes_S2x128x64x256_S2x256x128x64_0_3_1_2))
    (broadcastInDim S2x256x128x64 ![0, 1, 2, 3] bcast_S2x256x128x1_S2x256x128x64_0_1_2_3 (transpose S2x256x128x1 [0, 2, 1, 3] l transposes_S2x128x256x1_S2x256x128x1_0_2_1_3))
/-- The output projection. -/
def outp (o : FVec Ideal S2x256x128x64 .f32) (w : FVec Ideal S8192x768 .f32) : FVec Ideal S512x768 .f32 :=
  shapeCast _ (Host.dotGeneral dot_S2x256x8192_S8192x768_S2x256x768_2_0_01_1_n_n none (shapeCast _ o shapeCasts_S2x256x128x64_S2x256x8192) w) shapeCasts_S2x256x768_S512x768

theorem queries_apply (x : FVec Ideal S512x768 .f32) (w : FVec Ideal S768x8192 .f32) (b : Fin 2) (i : Fin 256) (h : Fin 128) (d : Fin 64) :
    queries x w (ix4 b i h d) = ∑ t : Fin 768, x (ix2 ⟨256 * b.val + i.val, by omega⟩ t) * w (ix2 t ⟨64 * h.val + d.val, by omega⟩) := by
  unfold queries
  pointwise []
  refine Finset.sum_congr rfl fun t _ => ?_
  congr 3 <;> apply Fin.ext <;> dsimp only <;> omega

theorem repeated_apply (x : FVec Ideal S512x768 .f32) (w : FVec Ideal S768x16x128 .f32) (b : Fin 2) (i : Fin 256) (h : Fin 128) (d : Fin 64) :
    repeated x w (ix4 b i h d) = ∑ t : Fin 768, x (ix2 ⟨256 * b.val + i.val, by omega⟩ t) * w (ix3 t ⟨h.val / 8, by omega⟩ ⟨64 * (h.val / 4 % 2) + d.val, by omega⟩) := by
  unfold repeated
  pointwise []
  refine Finset.sum_congr rfl fun t _ => ?_
  congr 3 <;> apply Fin.ext <;> dsimp only <;> omega

theorem scores_apply (q k : FVec Ideal S2x256x128x64 .f32) (b : Fin 2) (h : Fin 128) (i j : Fin 256) :
    scores q k (ix4 b h i j) = score (fun e => q (ix4 b i h e)) (fun j e => k (ix4 b j h e)) j := by
  unfold scores
  pointwise []
  rfl

theorem max_fold (a : EReal) (f : Fin 256 → EReal) : max a (Finset.univ.fold max a f) = Finset.univ.fold max a f :=
  max_eq_right ((Finset.le_fold_max _).mpr (Or.inl le_rfl))

theorem rowmax_apply (s : FVec Ideal S2x128x256x256 .f32) (a : FVec Ideal S_ .f32) (b : Fin 2) (h : Fin 128) (i : Fin 256) :
    Host.reduce FloatOps.maximumf s a reducesTo_S2x128x256x256_S2x128x256_d3 h_S_ (ix3 b h i) = Finset.univ.fold max (a (Shape.Idx.first h_S_)) fun j => s (ix4 b h i j) := by
  pointwise []

theorem joined_apply (a : FVec Ideal S_ .f32) (x : FVec Ideal S2x128x256 .f32) (b : Fin 2) (h : Fin 128) (i : Fin 256) :
    maximumf (broadcastInDim S2x128x256x1 ![] bcast_S_S2x128x256x1 a) (broadcastInDim S2x128x256x1 ![0, 1, 2] bcast_S2x128x256_S2x128x256x1_0_1_2 x) (ix4 b h i 0) = max (a ix0) (x (ix3 b h i)) := by
  pointwise []

theorem tops_apply (s : FVec Ideal S2x128x256x256 .f32) (b : Fin 2) (h : Fin 128) (i : Fin 256) :
    tops s (ix4 b h i 0) = top fun j => s (ix4 b h i j) := by
  unfold tops
  rw [joined_apply, rowmax_apply]
  exact max_fold _ _

theorem weights_apply (s : FVec Ideal S2x128x256x256 .f32) (mx : FVec Ideal S2x128x256x1 .f32) (b : Fin 2) (h : Fin 128) (i j : Fin 256) :
    weights s mx (ix4 b h i j) = Ideal.exp (s (ix4 b h i j) - mx (ix4 b h i 0)) := by
  unfold weights
  pointwise []

theorem norms_apply (p : FVec Ideal S2x128x256x256 .f32) (al : FVec Ideal S2x128x256x1 .f32) (b : Fin 2) (h : Fin 128) (i : Fin 256) :
    norms p al (ix4 b h i 0) = ∑ j, p (ix4 b h i j) := by
  unfold norms
  pointwise []
  rw [zero_mul, zero_add]

theorem heads_apply (v : FVec Ideal S2x256x128x64 .f32) (p : FVec Ideal S2x128x256x256 .f32) (al l : FVec Ideal S2x128x256x1 .f32) (b : Fin 2) (i : Fin 256) (h : Fin 128) (d : Fin 64) :
    heads v p al l (ix4 b i h d) = Ideal.div (∑ j, v (ix4 b j h d) * p (ix4 b h i j)) (l (ix4 b h i 0)) := by
  unfold heads
  pointwise []
  rw [zero_mul, zero_add]

theorem outp_apply (o : FVec Ideal S2x256x128x64 .f32) (w : FVec Ideal S8192x768 .f32) (row : Fin 512) (col : Fin 768) :
    outp o w (ix2 row col) = ∑ n : Fin 8192, o (ix4 ⟨row.val / 256, by omega⟩ ⟨row.val % 256, by omega⟩ ⟨n.val / 64, by omega⟩ ⟨n.val % 64, by omega⟩) * w (ix2 n col) := by
  unfold outp
  pointwise []

theorem res_eq (m : (ℓ : Loc nD τ sig) → Buf (Elt Ideal) ℓ) (c : Dev nD) (x wq wk wv wo) (hx : m ((c.tc : Thread nD τ).loc main_arg0) = x) (hq : m ((c.tc : Thread nD τ).loc main_arg1) = wq)
    (hk : m ((c.tc : Thread nD τ).loc main_arg2) = wk) (hv : m ((c.tc : Thread nD τ).loc main_arg3) = wv) (ho : m ((c.tc : Thread nD τ).loc main_arg4) = wo) :
    Value.res_main_v42 (F := Ideal) m c
      = outp (heads (repeated x wv) (weights (scores (queries x wq) (repeated x wk)) (tops (scores (queries x wq) (repeated x wk)))) (alphas (tops (scores (queries x wq) (repeated x wk))))
          (norms (weights (scores (queries x wq) (repeated x wk)) (tops (scores (queries x wq) (repeated x wk)))) (alphas (tops (scores (queries x wq) (repeated x wk)))))) wo := by
  subst hx hq hk hv ho
  rfl

end Cert.ReferenceIdeal.Hand

end
-- ==== Proof.KernelIdealInputs.lean ====
module

public import proofs.«01_k».proof.Proof.KernelIdealLaunch
public import proofs.«01_k».proof.Proof.KernelIdealHeads
public import Idealize.ShloMosaic.Lib.Pipeline.ValueKit.Geometry

@[expose] public section

set_option maxRecDepth 65536

noncomputable section

/-! # The blocks a device reads, and the array it leaves -/

namespace Cert.KernelIdeal.Hand

open Idealize.ShloMosaic Idealize.ShloMosaic.TcCoe
open Idealize.SL.Sem
open Cert.KernelIdeal.Gen

variable {F : FTy → Type} [FloatOps F]
variable (m : (ℓ : Loc nD τ sig) → Buf (Elt F) ℓ) (ρ : Dev nD → PrngReg)

theorem xB_eq (c : Dev nD) : xB m c = m ((c.tc : Thread nD τ).loc main_arg0) := by
  have h0 : (fun a => (win0_0.index t₀) a * main_arg0.ty.shape.size a) = fun _ => 0 := funext fun a => by fin_cases a <;> decide +kernel
  exact (Memref.read_access_unit_zero (Elt F) main_arg0 h0 (fun a => by fin_cases a <;> decide +kernel) _).trans (V_main_arg0 m c)
theorem wqB_eq (c : Dev nD) : wqB m c = m ((c.tc : Thread nD τ).loc main_arg1) := by
  have h0 : (fun a => (win0_1.index t₀) a * main_arg1.ty.shape.size a) = fun _ => 0 := funext fun a => by fin_cases a <;> decide +kernel
  exact (Memref.read_access_unit_zero (Elt F) main_arg1 h0 (fun a => by fin_cases a <;> decide +kernel) _).trans (V_main_arg1 m c)
theorem woB_eq (c : Dev nD) : woB m c = m ((c.tc : Thread nD τ).loc main_arg4) := by
  have h0 : (fun a => (win0_2.index t₀) a * main_arg4.ty.shape.size a) = fun _ => 0 := funext fun a => by fin_cases a <;> decide +kernel
  exact (Memref.read_access_unit_zero (Elt F) main_arg4 h0 (fun a => by fin_cases a <;> decide +kernel) _).trans (V_main_arg4 m c)
theorem blk3_eq (c : Dev nD) : iblk m c 3 t₀ = m ((c.tc : Thread nD τ).loc main_arg2) := by
  have h0 : (fun a => (win0_3.index t₀) a * main_arg2.ty.shape.size a) = fun _ => 0 := funext fun a => by fin_cases a <;> decide +kernel
  exact (Memref.read_access_unit_zero (Elt F) main_arg2 h0 (fun a => by fin_cases a <;> decide +kernel) _).trans (V_main_arg2 m c)
theorem blk4_eq (c : Dev nD) : iblk m c 4 t₀ = m ((c.tc : Thread nD τ).loc main_arg3) := by
  have h0 : (fun a => (win0_4.index t₀) a * main_arg3.ty.shape.size a) = fun _ => 0 := funext fun a => by fin_cases a <;> decide +kernel
  exact (Memref.read_access_unit_zero (Elt F) main_arg3 h0 (fun a => by fin_cases a <;> decide +kernel) _).trans (V_main_arg3 m c)

theorem off1_eq : ∀ c : Dev nD, k0_off1 c = ![0, c.val, 0] := by decide +kernel

theorem part_idx (c : Dev nD) (t : Fin 768) (n : Fin 128) :
    (Rect.unit (s := S768x16x128) (k0_off1 c) S768x1x128.size (k0_off1_inb c)).toLoadRect.idx (ix3 t 0 n : S768x1x128.Idx) = (ix3 t (c : Fin 16) n : S768x16x128.Idx) := by
  funext a
  apply Fin.ext
  show k0_off1 c a + 1 * _ = _
  refine (congrArg (· + 1 * (ix3 t (0 : Fin 1) n a).val) (congrFun (off1_eq c) a)).trans ?_
  fin_cases a
  · show 0 + 1 * t.val = t.val; omega
  · show c.val + 1 * 0 = c.val; omega
  · show 0 + 1 * n.val = n.val; omega

theorem wkB_apply (c : Dev nD) (t : Fin 768) (n : Fin 128) : wkB m c (ix3 t 0 n) = m ((c.tc : Thread nD τ).loc main_arg2) (ix3 t (c : Fin 16) n) := by
  rw [← blk3_eq m c, ← part_idx c t n]
  rfl
theorem wvB_apply (c : Dev nD) (t : Fin 768) (n : Fin 128) : wvB m c (ix3 t 0 n) = m ((c.tc : Thread nD τ).loc main_arg3) (ix3 t (c : Fin 16) n) := by
  rw [← blk4_eq m c, ← part_idx c t n]
  rfl

theorem finalA_out (c : Dev nD) : finalA m ρ c (5 : Fin 6) = result m :=
  (dats m ρ 0 c).arrAt_eq_of_after_last (5 : Fin 6) t₀ (by decide +kernel) (result m) fun j => rfl

/-- The run, read at the result and the arguments. -/
theorem value_run : θ_run defs (onTc (τ := τ) (main (F := F))) ⟨m, fun _ => 0, ρ⟩ (fun r => ∀ c : Dev nD,
      r.2.mem ((c.tc : Thread nD τ).loc main_v1) = result m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c (5 : Fin 6)).trans (finalA_out m ρ c), args_kept m ρ c r h.1⟩) (run_main m ρ)

end Cert.KernelIdeal.Hand

end
-- ==== Proof.AttentionValue.lean ====
module

public import proofs.«01_k».proof.Proof.ReferenceIdealHeads
public import proofs.«01_k».proof.Proof.KernelIdealInputs

@[expose] public section

set_option maxRecDepth 65536

noncomputable section

/-! # The kernel's result is the reference's

Both are read, at one row and one column, as the same sum over the 8192 columns of the heads' outputs: the reference's
at once, the kernel's as sixteen devices' sums over 512 columns each. -/

namespace Cert.Attention

open Idealize.ShloMosaic Idealize.ShloMosaic.TcCoe
open Cert.KernelIdeal.Hand (score soft wgt top scale)

/-- One column of one row of the heads' outputs, on whole arrays: query head `n / 64`, coordinate `n % 64`. -/
def headAt (x : FVec Ideal ⟨2, ![512, 768]⟩ .f32) (wq : FVec Ideal ⟨2, ![768, 8192]⟩ .f32) (wk wv : FVec Ideal ⟨3, ![768, 16, 128]⟩ .f32) (row : Fin 512) (n : Fin 8192) : EReal :=
  soft (score (fun e => ∑ t : Fin 768, x (ix2 row t) * wq (ix2 t ⟨64 * (n.val / 64) + e.val, by omega⟩))
      fun j e => ∑ t : Fin 768, x (ix2 ⟨256 * (row.val / 256) + j.val, by omega⟩ t) * wk (ix3 t ⟨n.val / 64 / 8, by omega⟩ ⟨64 * (n.val / 64 / 4 % 2) + e.val, by omega⟩))
    fun j => ∑ t : Fin 768, x (ix2 ⟨256 * (row.val / 256) + j.val, by omega⟩ t) * wv (ix3 t ⟨n.val / 64 / 8, by omega⟩ ⟨64 * (n.val / 64 / 4 % 2) + n.val % 64, by omega⟩)

/-- One entry of the result, on whole arrays. -/
def total (x : FVec Ideal ⟨2, ![512, 768]⟩ .f32) (wq : FVec Ideal ⟨2, ![768, 8192]⟩ .f32) (wk wv : FVec Ideal ⟨3, ![768, 16, 128]⟩ .f32) (wo : FVec Ideal ⟨2, ![8192, 768]⟩ .f32) (row : Fin 512) (col : Fin 768) : EReal :=
  ∑ n : Fin 8192, headAt x wq wk wv row n * wo (ix2 n col)

section Reference

open Cert.ReferenceIdeal Cert.ReferenceIdeal.Hand

/-- Division by the normalizer, the weights first. -/
theorem heads_soft (v : FVec Ideal S2x256x128x64 .f32) (s : FVec Ideal S2x128x256x256 .f32) (al : FVec Ideal S2x128x256x1 .f32) (b : Fin 2) (i : Fin 256) (h : Fin 128) (d : Fin 64) :
    heads v (weights s (tops s)) al (norms (weights s (tops s)) al) (ix4 b i h d) = soft (fun j => s (ix4 b h i j)) fun j => v (ix4 b j h d) := by
  rw [heads_apply, norms_apply]
  simp only [weights_apply, tops_apply]
  unfold soft wgt
  exact congrArg (Ideal.div · _) (Finset.sum_congr rfl fun j _ => mul_comm _ _)

theorem reference_apply (m : (ℓ : Loc nD τ sig) → Buf (Elt Ideal) ℓ) (c : Dev nD) (x : FVec Ideal ⟨2, ![512, 768]⟩ .f32) (wq : FVec Ideal ⟨2, ![768, 8192]⟩ .f32) (wk wv : FVec Ideal ⟨3, ![768, 16, 128]⟩ .f32) (wo : FVec Ideal ⟨2, ![8192, 768]⟩ .f32) (hx : m ((c.tc : Thread nD τ).loc main_arg0) = x) (hq : m ((c.tc : Thread nD τ).loc main_arg1) = wq)
    (hk : m ((c.tc : Thread nD τ).loc main_arg2) = wk) (hv : m ((c.tc : Thread nD τ).loc main_arg3) = wv) (ho : m ((c.tc : Thread nD τ).loc main_arg4) = wo) (row : Fin 512) (col : Fin 768) :
    Value.res_main_v42 (F := Ideal) m c (ix2 row col) = total x wq wk wv wo row col := by
  refine (congrFun (res_eq m c x wq wk wv wo hx hq hk hv ho) (ix2 row col)).trans ((outp_apply _ _ row col).trans ?_)
  unfold total
  refine Finset.sum_congr rfl fun n _ => congrArg (· * wo (ix2 n col)) ?_
  rw [heads_soft]
  have er : (⟨256 * (row.val / 256) + row.val % 256, by omega⟩ : Fin 512) = row := Fin.ext (by show 256 * (row.val / 256) + row.val % 256 = row.val; omega)
  simp only [scores_apply, queries_apply, repeated_apply]
  unfold headAt
  rw [er]

end Reference

section Kernel

open Cert.KernelIdeal Cert.KernelIdeal.Gen Cert.KernelIdeal.Hand

/-- Sixteen sums over 512 columns are one over 8192. -/
theorem sum_devices (f : Fin 8192 → EReal) : ∑ d : Fin 16, ∑ n : Fin 512, f ⟨512 * d.val + n.val, by omega⟩ = ∑ n : Fin 8192, f n := by
  rw [← Fintype.sum_prod_type', ← Equiv.sum_comp (finProdFinEquiv (m := 16) (n := 512)) f]
  exact Finset.sum_congr rfl fun p _ => congrArg f (Fin.ext (by show 512 * p.1.val + p.2.val = p.2.val + 512 * p.1.val; omega))

/-- A device's cut of the query weights, read in the whole. -/
theorem cols_apply (wq : FVec Ideal ⟨2, ![768, 8192]⟩ .f32) (d : Fin 16) (t : Fin 768) (n : Fin 512) (h : Layout.Tiles ⟨2, ![768, 512]⟩ ⟨2, ![768, 8192]⟩ 1 16) :
    Layout.block ⟨2, ![768, 512]⟩ ⟨2, ![768, 8192]⟩ 1 16 d wq h (ix2 t n) = wq (ix2 t ⟨512 * d.val + n.val, by omega⟩) := by
  rw [Layout.block_apply]
  refine congrArg wq (funext fun a => Fin.ext ?_)
  fin_cases a
  · rfl
  · show d.val * 512 + n.val = 512 * d.val + n.val; omega
/-- A device's cut of the output weights, read in the whole. -/
theorem rows_apply (wo : FVec Ideal ⟨2, ![8192, 768]⟩ .f32) (d : Fin 16) (n : Fin 512) (col : Fin 768) (h : Layout.Tiles ⟨2, ![512, 768]⟩ ⟨2, ![8192, 768]⟩ 0 16) :
    Layout.block ⟨2, ![512, 768]⟩ ⟨2, ![8192, 768]⟩ 0 16 d wo h (ix2 n col) = wo (ix2 ⟨512 * d.val + n.val, by omega⟩ col) := by
  rw [Layout.block_apply]
  refine congrArg wo (funext fun a => Fin.ext ?_)
  fin_cases a
  · show d.val * 512 + n.val = 512 * d.val + n.val; omega
  · rfl

/-- One device's share of an entry. -/
def devPart (x : FVec Ideal ⟨2, ![512, 768]⟩ .f32) (wq : FVec Ideal ⟨2, ![768, 8192]⟩ .f32) (wk wv : FVec Ideal ⟨3, ![768, 16, 128]⟩ .f32) (wo : FVec Ideal ⟨2, ![8192, 768]⟩ .f32) (d : Fin 16) (row : Fin 512) (col : Fin 768) : EReal :=
  ∑ n : Fin 512, headAt x wq wk wv row ⟨512 * d.val + n.val, by omega⟩ * wo (ix2 ⟨512 * d.val + n.val, by omega⟩ col)

/-- One device's partial product, in the whole arrays. -/
theorem acc_apply (m : (ℓ : Loc nD τ sig) → Buf (Elt Ideal) ℓ) (d : Dev nD) (x : FVec Ideal ⟨2, ![512, 768]⟩ .f32) (wq : FVec Ideal ⟨2, ![768, 8192]⟩ .f32) (wk wv : FVec Ideal ⟨3, ![768, 16, 128]⟩ .f32) (wo : FVec Ideal ⟨2, ![8192, 768]⟩ .f32) (hx : m ((d.tc : Thread nD τ).loc main_arg0) = x)
    (hq : ∀ (t : Fin 768) (n : Fin 512), m ((d.tc : Thread nD τ).loc main_arg1) (ix2 t n) = wq (ix2 t ⟨512 * (d : Fin 16).val + n.val, by have : (d : Fin 16).val < 16 := (d : Fin 16).isLt; omega⟩)) (hk : m ((d.tc : Thread nD τ).loc main_arg2) = wk)
    (hv : m ((d.tc : Thread nD τ).loc main_arg3) = wv) (ho : ∀ (n : Fin 512) (col : Fin 768), m ((d.tc : Thread nD τ).loc main_arg4) (ix2 n col) = wo (ix2 ⟨512 * (d : Fin 16).val + n.val, by have : (d : Fin 16).val < 16 := (d : Fin 16).isLt; omega⟩ col)) (row : Fin 512) (col : Fin 768) :
    acc m d (ix2 row col) = devPart x wq wk wv wo d row col := by
  unfold devPart
  have hd : (d : Fin 16).val < 16 := (d : Fin 16).isLt
  refine (accHalf_apply m d ⟨row.val / 256, by omega⟩ ⟨row.val % 256, Nat.mod_lt _ (by decide)⟩ col).trans ?_
  refine Finset.sum_congr rfl fun n _ => ?_
  have er : (⟨256 * (row.val / 256) + row.val % 256, by omega⟩ : Fin 512) = row := Fin.ext (by show 256 * (row.val / 256) + row.val % 256 = row.val; omega)
  simp only [wkB_apply, wvB_apply, xB_eq, wqB_eq, woB_eq, hx, hq, hk, hv, ho]
  unfold headAt
  rw [er]
  have eq (e : Fin 64) : (⟨512 * (d : Fin 16).val + (64 * (n.val / 64) + e.val), by omega⟩ : Fin 8192) = ⟨64 * ((512 * (d : Fin 16).val + n.val) / 64) + e.val, by omega⟩ := Fin.ext (by dsimp only; omega)
  have eg : (d : Fin 16) = ⟨(512 * (d : Fin 16).val + n.val) / 64 / 8, by omega⟩ := Fin.ext (by dsimp only; omega)
  have ek (e : Fin 64) : (⟨64 * (n.val / 64 / 4) + e.val, by omega⟩ : Fin 128) = ⟨64 * ((512 * (d : Fin 16).val + n.val) / 64 / 4 % 2) + e.val, by omega⟩ := Fin.ext (by dsimp only; omega)
  have ev : (⟨64 * (n.val / 64 / 4) + n.val % 64, by omega⟩ : Fin 128) = ⟨64 * ((512 * (d : Fin 16).val + n.val) / 64 / 4 % 2) + (512 * (d : Fin 16).val + n.val) % 64, by omega⟩ := Fin.ext (by dsimp only; omega)
  simp only [eq, ek, ev, ← eg]

/-- The kernel's result, in the whole arrays. -/
theorem kernel_apply (m : (ℓ : Loc nD τ sig) → Buf (Elt Ideal) ℓ) (x : FVec Ideal ⟨2, ![512, 768]⟩ .f32) (wq : FVec Ideal ⟨2, ![768, 8192]⟩ .f32) (wk wv : FVec Ideal ⟨3, ![768, 16, 128]⟩ .f32) (wo : FVec Ideal ⟨2, ![8192, 768]⟩ .f32) (hx : ∀ d : Dev nD, m ((d.tc : Thread nD τ).loc main_arg0) = x)
    (hq : ∀ (d : Dev nD) (t : Fin 768) (n : Fin 512), m ((d.tc : Thread nD τ).loc main_arg1) (ix2 t n) = wq (ix2 t ⟨512 * (d : Fin 16).val + n.val, by have : (d : Fin 16).val < 16 := (d : Fin 16).isLt; omega⟩)) (hk : ∀ d : Dev nD, m ((d.tc : Thread nD τ).loc main_arg2) = wk)
    (hv : ∀ d : Dev nD, m ((d.tc : Thread nD τ).loc main_arg3) = wv) (ho : ∀ (d : Dev nD) (n : Fin 512) (col : Fin 768), m ((d.tc : Thread nD τ).loc main_arg4) (ix2 n col) = wo (ix2 ⟨512 * (d : Fin 16).val + n.val, by have : (d : Fin 16).val < 16 := (d : Fin 16).isLt; omega⟩ col)) (row : Fin 512) (col : Fin 768) :
    result m (ix2 row col) = total x wq wk wv wo row col := by
  rw [result_apply]
  refine (Finset.sum_congr rfl fun d _ => acc_apply m d x wq wk wv wo (hx d) (hq d) (hk d) (hv d) (ho d) row col).trans ?_
  exact sum_devices fun n => headAt x wq wk wv row n * wo (ix2 n col)

end Kernel

/-- From agreeing arguments the kernel's result is the reference's. -/
theorem result_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c' : Dev Cert.ReferenceIdeal.nD)
    (h : ∀ c : Dev Cert.KernelIdeal.nD,
      m ((c.tc : Thread Cert.KernelIdeal.nD Cert.KernelIdeal.τ).loc Cert.KernelIdeal.main_arg0) = m' ((c'.tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 8192]⟩ 1 16 c (m' ((c'.tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' ((c'.tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' ((c'.tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![8192, 768]⟩ 0 16 c (m' ((c'.tc : Thread Cert.ReferenceIdeal.nD Cert.ReferenceIdeal.τ).loc Cert.ReferenceIdeal.main_arg4))) :
    Cert.KernelIdeal.Hand.result m = Cert.ReferenceIdeal.Value.res_main_v42 (F := Ideal) m' c' := by
  funext i
  have ei : i = ix2 (i 0) (i 1) := eq_ix2 i
  rw [ei]
  exact (kernel_apply m _ _ _ _ _ (fun d => (h d).1) (fun d t n => (congrFun (h d).2.1 (ix2 t n)).trans (cols_apply _ d t n _)) (fun d => (h d).2.2.1) (fun d => (h d).2.2.2.1) (fun d n col => (congrFun (h d).2.2.2.2 (ix2 n col)).trans (rows_apply _ d n col _)) (i 0) (i 1)).trans
    (reference_apply m' c' _ _ _ _ _ rfl rfl rfl rfl rfl (i 0) (i 1)).symm

end Cert.Attention

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.AttentionValue
public import Idealize.ShloMosaic.Adequacy
public import Idealize.ShloMosaic.Init

@[expose] public section

noncomputable section

namespace Cert.Proof

open Idealize.ShloMosaic Idealize.SL.Sem

/-- The kernel on the machine's own floats: the run of Proof/KernelLaunch.lean read at the arguments. -/
theorem frame_kernel : Cert.quiescent_Kernel := fun m ρ _ => Cert.Kernel.Hand.frame_run (F := Bits) m ρ

/-- The kernel over the extended reals. -/
theorem frame_kernelIdeal : Cert.quiescent_KernelIdeal := fun m ρ _ => Cert.KernelIdeal.Hand.frame_run (F := Ideal) m ρ

/-- The reference: a straight line of host operations that declares no semaphore. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From agreeing arguments the kernel and the reference, both over the extended reals, end with the same array: the
    kernel's run and the reference's, and Proof/AttentionValue.lean's equation between their results. -/
theorem algebraic : Cert.algebraic_KernelIdeal_ReferenceIdeal := fun m g m' g' _ h =>
  ⟨Cert.ReferenceIdeal.Value.res_main_v42 (F := Ideal) m' 0,
    (θ_run Cert.KernelIdeal.defs _ _).mono (fun _ hr c => ⟨(hr c).1.trans (Cert.Attention.result_eq m m' 0 h), (hr c).2⟩) (Cert.KernelIdeal.Hand.value_run (F := Ideal) m g),
    (θ_run Cert.ReferenceIdeal.defs _ _).mono (fun _ hr => hr 0) (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
